-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8256 : Shape := ⟨2, ![4096, 8256]⟩
abbrev S4096x128x128 : Shape := ⟨3, ![4096, 128, 128]⟩
abbrev S8256 : Shape := ⟨1, ![8256]⟩
abbrev S2x128x128 : Shape := ⟨3, ![2, 128, 128]⟩
abbrev S_ : Shape := ⟨0, ![]⟩
abbrev S16 : Shape := ⟨1, ![16]⟩
abbrev S1x8256 : Shape := ⟨2, ![1, 8256]⟩
abbrev S1x1x16 : Shape := ⟨3, ![1, 1, 16]⟩

abbrev nBuf : Table → Nat
  | .hbm => 2
  | .local .scVector .vmem => 6
  | _ => 0

abbrev bufTy : (tb : Table) → Fin (nBuf tb) → BufTy
  | .hbm, ⟨0, _⟩ => ⟨S4096x8256, .f32⟩
  | .hbm, ⟨1, _⟩ => ⟨S4096x128x128, .f32⟩
  | .local .scVector .vmem, ⟨0, _⟩ => ⟨S8256, .f32⟩
  | .local .scVector .vmem, ⟨1, _⟩ => ⟨S8256, .f32⟩
  | .local .scVector .vmem, ⟨2, _⟩ => ⟨S8256, .f32⟩
  | .local .scVector .vmem, ⟨3, _⟩ => ⟨S8256, .f32⟩
  | .local .scVector .vmem, ⟨4, _⟩ => ⟨S2x128x128, .f32⟩
  | .local .scVector .vmem, ⟨5, _⟩ => ⟨S2x128x128, .f32⟩
  | _, _ => ⟨S4096x8256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v91 : BitVec 32 := Scalar.addi v2 c0_i32_22
  let c0_i32_26 : BitVec 32 := 0#32
  ![v91.toNat, 0]
def k0_off2 (i : grid0.Coords) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v91 : BitVec 32 := Scalar.addi v2 c0_i32_22
  let c1_i32_23 : BitVec 32 := 1#32
  let v92 : BitVec 32 := Scalar.addi v91 c1_i32_23
  let c0_i32_28 : BitVec 32 := 0#32
  ![v92.toNat, 0]
@[reducible] def k0_t1_loop : Scf.Loop 32 :=
  let c0_i32_35 : BitVec 32 := 0#32
  let c32_i32_36 : BitVec 32 := 32#32
  let v111 : BitVec 32 := Scalar.addi c0_i32_35 c32_i32_36
  let c1_i32_37 : BitVec 32 := 1#32
  ⟨c0_i32_35, v111, c1_i32_37⟩
def k0_off3 (i : grid0.Coords) (k0_t1 : Fin k0_t1_loop.trips) (c0_i32_48 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_49 : BitVec 32 := 2#32
  let c2_i32_47 : BitVec 32 := 2#32
  let c0_i32_35 : BitVec 32 := 0#32
  let c1_i32_37 : BitVec 32 := 1#32
  let arg14 : BitVec 32 := Scf.iv c0_i32_35 c1_i32_37 k0_t1
  let v118 : BitVec 32 := Scalar.muli c2_i32_47 arg14
  let v119 : BitVec 32 := Scalar.addi v118 c0_i32_48
  let v120 : BitVec 32 := Scalar.muli c2_i32_49 v119
  let v121 : BitVec 32 := Scalar.addi v2 v120
  let c0_i32_51 : BitVec 32 := 0#32
  ![v121.toNat, 0]
def k0_off4 (i : grid0.Coords) (k0_t1 : Fin k0_t1_loop.trips) (c0_i32_48 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_49 : BitVec 32 := 2#32
  let c2_i32_47 : BitVec 32 := 2#32
  let c0_i32_35 : BitVec 32 := 0#32
  let c1_i32_37 : BitVec 32 := 1#32
  let arg14 : BitVec 32 := Scf.iv c0_i32_35 c1_i32_37 k0_t1
  let v118 : BitVec 32 := Scalar.muli c2_i32_47 arg14
  let v119 : BitVec 32 := Scalar.addi v118 c0_i32_48
  let v120 : BitVec 32 := Scalar.muli c2_i32_49 v119
  let v121 : BitVec 32 := Scalar.addi v2 v120
  let c1_i32_50 : BitVec 32 := 1#32
  let v122 : BitVec 32 := Scalar.addi v121 c1_i32_50
  let c0_i32_53 : BitVec 32 := 0#32
  ![v122.toNat, 0]
def k0_cond1 (k0_t1 : Fin k0_t1_loop.trips) : BitVec 1 :=
  let c0_i32_35 : BitVec 32 := 0#32
  let c1_i32_37 : BitVec 32 := 1#32
  let arg14 : BitVec 32 := Scf.iv c0_i32_35 c1_i32_37 k0_t1
  let c1_i32_55 : BitVec 32 := 1#32
  let v131 : BitVec 1 := Scalar.cmpi .sge arg14 c1_i32_55
  let v132 : BitVec 32 := Scalar.extui v131
  let c0_i32_56 : BitVec 32 := 0#32
  let v133 : BitVec 1 := Scalar.cmpi .ne v132 c0_i32_56
  v133

def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_161 : BitVec 32 := 2#32
  let c2_i32_47 : BitVec 32 := 2#32
  let c0_i32_35 : BitVec 32 := 0#32
  let c1_i32_37 : BitVec 32 := 1#32
  let arg14 : BitVec 32 := Scf.iv c0_i32_35 c1_i32_37 k0_t1
  let v118 : BitVec 32 := Scalar.muli c2_i32_47 arg14
  let c0_i32_48 : BitVec 32 := 0#32
  let v119 : BitVec 32 := Scalar.addi v118 c0_i32_48
  let c2_i32_160 : BitVec 32 := 2#32
  let v180 : BitVec 32 := Scalar.subi v119 c2_i32_160
  let v181 : BitVec 32 := Scalar.muli c2_i32_161 v180
  let v182 : BitVec 32 := Scalar.addi v2 v181
  let c0_i32_162 : BitVec 32 := 0#32
  let c0_i32_163 : BitVec 32 := 0#32
  ![v182.toNat, 0, 0]
@[reducible] def k0_t2_loop : Scf.Loop 32 :=
  let c0_i32_58 : BitVec 32 := 0#32
  let c16_i32_59 : BitVec 32 := 16#32
  let v134 : BitVec 32 := Scalar.addi c0_i32_58 c16_i32_59
  let c1_i32_60 : BitVec 32 := 1#32
  ⟨c0_i32_58, v134, c1_i32_60⟩
def k0_off6 (k0_t2 : Fin k0_t2_loop.trips) (c0_i32_163 : BitVec 32) : Fin 1 → Nat :=
  let c127_i32_160 : BitVec 32 := 127#32
  let c0_i32_58 : BitVec 32 := 0#32
  let c1_i32_60 : BitVec 32 := 1#32
  let arg15 : BitVec 32 := Scf.iv c0_i32_58 c1_i32_60 k0_t2
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c0_i32_163
  let v186 : Index := Scalar.indexCast v185
  ![v186.toNat]

def k0_chk1 (v215 : IVec S16 32) : Prop :=
  (∀ a x, ((![v215] : Fin 1 → IVec S16 32) a x).toNat < S8256.size a)
theorem k0_idx1_inb : ∀ (v215 : IVec S16 32) (k0_hw1 : k0_chk1 v215), ∀ a x, ((![v215] : Fin 1 → IVec S16 32) a x).toNat < S8256.size a := fun v215 k0_hw1 => k0_hw1
def k0_off7 (k0_t2 : Fin k0_t2_loop.trips) (c0_i32_171 : BitVec 32) : Fin 1 → Nat :=
  let c127_i32_160 : BitVec 32 := 127#32
  let c0_i32_58 : BitVec 32 := 0#32
  let c1_i32_60 : BitVec 32 := 1#32
  let arg15 : BitVec 32 := Scf.iv c0_i32_58 c1_i32_60 k0_t2
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c0_i32_171
  let v218 : Index := Scalar.indexCast v217
  ![v218.toNat]

def k0_chk2 (v247 : IVec S16 32) : Prop :=
  (∀ a x, ((![v247] : Fin 1 → IVec S16 32) a x).toNat < S8256.size a)
theorem k0_idx2_inb : ∀ (v247 : IVec S16 32) (k0_hw2 : k0_chk2 v247), ∀ a x, ((![v247] : Fin 1 → IVec S16 32) a x).toNat < S8256.size a := fun v247 k0_hw2 => k0_hw2
def k0_off8 (k0_t2 : Fin k0_t2_loop.trips) : Fin 3 → Nat :=
  let c0_i32_179 : BitVec 32 := 0#32
  let v249 : Index := Scalar.indexCast c0_i32_179
  let c0_i32_58 : BitVec 32 := 0#32
  let c1_i32_60 : BitVec 32 := 1#32
  let arg15 : BitVec 32 := Scf.iv c0_i32_58 c1_i32_60 k0_t2
  let v250 : Index := Scalar.indexCast arg15
  let c0 : Index := 0#32
  ![0, v250.toNat, 0]
def k0_off9 (k0_t2 : Fin k0_t2_loop.trips) : Fin 3 → Nat :=
  let c0_i32_180 : BitVec 32 := 0#32
  let v252 : Index := Scalar.indexCast c0_i32_180
  let c0_i32_58 : BitVec 32 := 0#32
  let c1_i32_60 : BitVec 32 := 1#32
  let arg15 : BitVec 32 := Scf.iv c0_i32_58 c1_i32_60 k0_t2
  let v253 : Index := Scalar.indexCast arg15
  let c16 : Index := 16#32
  ![0, v253.toNat, 16]
def k0_off10 (k0_t2 : Fin k0_t2_loop.trips) : Fin 3 → Nat :=
  let c0_i32_181 : BitVec 32 := 0#32
  let v255 : Index := Scalar.indexCast c0_i32_181
  let c0_i32_58 : BitVec 32 := 0#32
  let c1_i32_60 : BitVec 32 := 1#32
  let arg15 : BitVec 32 := Scf.iv c0_i32_58 c1_i32_60 k0_t2
  let v256 : Index := Scalar.indexCast arg15
  let c32 : Index := 32#32
  ![0, v256.toNat, 32]
def k0_off11 (k0_t2 : Fin k0_t2_loop.trips) : Fin 3 → Nat :=
  let c0_i32_182 : BitVec 32 := 0#32
  let v258 : Index := Scalar.indexCast c0_i32_182
  let c0_i32_58 : BitVec 32 := 0#32
  let c1_i32_60 : BitVec 32 := 1#32
  let arg15 : BitVec 32 := Scf.iv c0_i32_58 c1_i32_60 k0_t2
  let v259 : Index := Scalar.indexCast arg15
  let c48 : Index := 48#32
  ![0, v259.toNat, 48]
def k0_off12 (k0_t2 : Fin k0_t2_loop.trips) : Fin 3 → Nat :=
  let c0_i32_183 : BitVec 32 := 0#32
  let v261 : Index := Scalar.indexCast c0_i32_183
  let c0_i32_58 : BitVec 32 := 0#32
  let c1_i32_60 : BitVec 32 := 1#32
  let arg15 : BitVec 32 := Scf.iv c0_i32_58 c1_i32_60 k0_t2
  let v262 : Index := Scalar.indexCast arg15
  let c64 : Index := 64#32
  ![0, v262.toNat, 64]
def k0_off13 (k0_t2 : Fin k0_t2_loop.trips) : Fin 3 → Nat :=
  let c0_i32_184 : BitVec 32 := 0#32
  let v264 : Index := Scalar.indexCast c0_i32_184
  let c0_i32_58 : BitVec 32 := 0#32
  let c1_i32_60 : BitVec 32 := 1#32
  let arg15 : BitVec 32 := Scf.iv c0_i32_58 c1_i32_60 k0_t2
  let v265 : Index := Scalar.indexCast arg15
  let c80 : Index := 80#32
  ![0, v265.toNat, 80]
def k0_off14 (k0_t2 : Fin k0_t2_loop.trips) : Fin 3 → Nat :=
  let c0_i32_185 : BitVec 32 := 0#32
  let v267 : Index := Scalar.indexCast c0_i32_185
  let c0_i32_58 : BitVec 32 := 0#32
  let c1_i32_60 : BitVec 32 := 1#32
  let arg15 : BitVec 32 := Scf.iv c0_i32_58 c1_i32_60 k0_t2
  let v268 : Index := Scalar.indexCast arg15
  let c96 : Index := 96#32
  ![0, v268.toNat, 96]
def k0_off15 (k0_t2 : Fin k0_t2_loop.trips) : Fin 3 → Nat :=
  let c0_i32_186 : BitVec 32 := 0#32
  let v270 : Index := Scalar.indexCast c0_i32_186
  let c0_i32_58 : BitVec 32 := 0#32
  let c1_i32_60 : BitVec 32 := 1#32
  let arg15 : BitVec 32 := Scf.iv c0_i32_58 c1_i32_60 k0_t2
  let v271 : Index := Scalar.indexCast arg15
  let c112 : Index := 112#32
  ![0, v271.toNat, 112]
def k0_off16 (k0_t2 : Fin k0_t2_loop.trips) : Fin 3 → Nat :=
  let c1_i32_189 : BitVec 32 := 1#32
  let v276 : Index := Scalar.indexCast c1_i32_189
  let c0_i32_58 : BitVec 32 := 0#32
  let c1_i32_60 : BitVec 32 := 1#32
  let arg15 : BitVec 32 := Scf.iv c0_i32_58 c1_i32_60 k0_t2
  let v277 : Index := Scalar.indexCast arg15
  let c0_190 : Index := 0#32
  ![1, v277.toNat, 0]
def k0_off17 (k0_t2 : Fin k0_t2_loop.trips) : Fin 3 → Nat :=
  let c1_i32_191 : BitVec 32 := 1#32
  let v279 : Index := Scalar.indexCast c1_i32_191
  let c0_i32_58 : BitVec 32 := 0#32
  let c1_i32_60 : BitVec 32 := 1#32
  let arg15 : BitVec 32 := Scf.iv c0_i32_58 c1_i32_60 k0_t2
  let v280 : Index := Scalar.indexCast arg15
  let c16_192 : Index := 16#32
  ![1, v280.toNat, 16]
def k0_off18 (k0_t2 : Fin k0_t2_loop.trips) : Fin 3 → Nat :=
  let c1_i32_193 : BitVec 32 := 1#32
  let v282 : Index := Scalar.indexCast c1_i32_193
  let c0_i32_58 : BitVec 32 := 0#32
  let c1_i32_60 : BitVec 32 := 1#32
  let arg15 : BitVec 32 := Scf.iv c0_i32_58 c1_i32_60 k0_t2
  let v283 : Index := Scalar.indexCast arg15
  let c32_194 : Index := 32#32
  ![1, v283.toNat, 32]
def k0_off19 (k0_t2 : Fin k0_t2_loop.trips) : Fin 3 → Nat :=
  let c1_i32_195 : BitVec 32 := 1#32
  let v285 : Index := Scalar.indexCast c1_i32_195
  let c0_i32_58 : BitVec 32 := 0#32
  let c1_i32_60 : BitVec 32 := 1#32
  let arg15 : BitVec 32 := Scf.iv c0_i32_58 c1_i32_60 k0_t2
  let v286 : Index := Scalar.indexCast arg15
  let c48_196 : Index := 48#32
  ![1, v286.toNat, 48]
def k0_off20 (k0_t2 : Fin k0_t2_loop.trips) : Fin 3 → Nat :=
  let c1_i32_197 : BitVec 32 := 1#32
  let v288 : Index := Scalar.indexCast c1_i32_197
  let c0_i32_58 : BitVec 32 := 0#32
  let c1_i32_60 : BitVec 32 := 1#32
  let arg15 : BitVec 32 := Scf.iv c0_i32_58 c1_i32_60 k0_t2
  let v289 : Index := Scalar.indexCast arg15
  let c64_198 : Index := 64#32
  ![1, v289.toNat, 64]
def k0_off21 (k0_t2 : Fin k0_t2_loop.trips) : Fin 3 → Nat :=
  let c1_i32_199 : BitVec 32 := 1#32
  let v291 : Index := Scalar.indexCast c1_i32_199
  let c0_i32_58 : BitVec 32 := 0#32
  let c1_i32_60 : BitVec 32 := 1#32
  let arg15 : BitVec 32 := Scf.iv c0_i32_58 c1_i32_60 k0_t2
  let v292 : Index := Scalar.indexCast arg15
  let c80_200 : Index := 80#32
  ![1, v292.toNat, 80]
def k0_off22 (k0_t2 : Fin k0_t2_loop.trips) : Fin 3 → Nat :=
  let c1_i32_201 : BitVec 32 := 1#32
  let v294 : Index := Scalar.indexCast c1_i32_201
  let c0_i32_58 : BitVec 32 := 0#32
  let c1_i32_60 : BitVec 32 := 1#32
  let arg15 : BitVec 32 := Scf.iv c0_i32_58 c1_i32_60 k0_t2
  let v295 : Index := Scalar.indexCast arg15
  let c96_202 : Index := 96#32
  ![1, v295.toNat, 96]
def k0_off23 (k0_t2 : Fin k0_t2_loop.trips) : Fin 3 → Nat :=
  let c1_i32_203 : BitVec 32 := 1#32
  let v297 : Index := Scalar.indexCast c1_i32_203
  let c0_i32_58 : BitVec 32 := 0#32
  let c1_i32_60 : BitVec 32 := 1#32
  let arg15 : BitVec 32 := Scf.iv c0_i32_58 c1_i32_60 k0_t2
  let v298 : Index := Scalar.indexCast arg15
  let c112_204 : Index := 112#32
  ![1, v298.toNat, 112]
@[reducible] def k0_t3_loop : Scf.Loop 32 :=
  let c16_i32_63 : BitVec 32 := 16#32
  let c16_i32_64 : BitVec 32 := 16#32
  let v135 : BitVec 32 := Scalar.addi c16_i32_63 c16_i32_64
  let c1_i32_65 : BitVec 32 := 1#32
  ⟨c16_i32_63, v135, c1_i32_65⟩
def k0_off24 (k0_t3 : Fin k0_t3_loop.trips) (c16_i32_163 : BitVec 32) : Fin 1 → Nat :=
  let c127_i32_160 : BitVec 32 := 127#32
  let c16_i32_63 : BitVec 32 := 16#32
  let c1_i32_65 : BitVec 32 := 1#32
  let arg15 : BitVec 32 := Scf.iv c16_i32_63 c1_i32_65 k0_t3
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c16_i32_163
  let v186 : Index := Scalar.indexCast v185
  ![v186.toNat]

def k0_chk3 (v207 : IVec S16 32) : Prop :=
  (∀ a x, ((![v207] : Fin 1 → IVec S16 32) a x).toNat < S8256.size a)
theorem k0_idx3_inb : ∀ (v207 : IVec S16 32) (k0_hw3 : k0_chk3 v207), ∀ a x, ((![v207] : Fin 1 → IVec S16 32) a x).toNat < S8256.size a := fun v207 k0_hw3 => k0_hw3

def k0_chk4 (v214 : IVec S16 32) : Prop :=
  (∀ a x, ((![v214] : Fin 1 → IVec S16 32) a x).toNat < S8256.size a)
theorem k0_idx4_inb : ∀ (v214 : IVec S16 32) (k0_hw4 : k0_chk4 v214), ∀ a x, ((![v214] : Fin 1 → IVec S16 32) a x).toNat < S8256.size a := fun v214 k0_hw4 => k0_hw4
def k0_off25 (k0_t3 : Fin k0_t3_loop.trips) (c16_i32_170 : BitVec 32) : Fin 1 → Nat :=
  let c127_i32_160 : BitVec 32 := 127#32
  let c16_i32_63 : BitVec 32 := 16#32
  let c1_i32_65 : BitVec 32 := 1#32
  let arg15 : BitVec 32 := Scf.iv c16_i32_63 c1_i32_65 k0_t3
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c16_i32_170
  let v218 : Index := Scalar.indexCast v217
  ![v218.toNat]

def k0_chk5 (v239 : IVec S16 32) : Prop :=
  (∀ a x, ((![v239] : Fin 1 → IVec S16 32) a x).toNat < S8256.size a)
theorem k0_idx5_inb : ∀ (v239 : IVec S16 32) (k0_hw5 : k0_chk5 v239), ∀ a x, ((![v239] : Fin 1 → IVec S16 32) a x).toNat < S8256.size a := fun v239 k0_hw5 => k0_hw5

def k0_chk6 (v246 : IVec S16 32) : Prop :=
  (∀ a x, ((![v246] : Fin 1 → IVec S16 32) a x).toNat < S8256.size a)
theorem k0_idx6_inb : ∀ (v246 : IVec S16 32) (k0_hw6 : k0_chk6 v246), ∀ a x, ((![v246] : Fin 1 → IVec S16 32) a x).toNat < S8256.size a := fun v246 k0_hw6 => k0_hw6
def k0_off26 (k0_t3 : Fin k0_t3_loop.trips) : Fin 3 → Nat :=
  let c0_i32_177 : BitVec 32 := 0#32
  let v249 : Index := Scalar.indexCast c0_i32_177
  let c16_i32_63 : BitVec 32 := 16#32
  let c1_i32_65 : BitVec 32 := 1#32
  let arg15 : BitVec 32 := Scf.iv c16_i32_63 c1_i32_65 k0_t3
  let v250 : Index := Scalar.indexCast arg15
  let c16 : Index := 16#32
  ![0, v250.toNat, 16]
def k0_off27 (k0_t3 : Fin k0_t3_loop.trips) : Fin 3 → Nat :=
  let c0_i32_178 : BitVec 32 := 0#32
  let v252 : Index := Scalar.indexCast c0_i32_178
  let c16_i32_63 : BitVec 32 := 16#32
  let c1_i32_65 : BitVec 32 := 1#32
  let arg15 : BitVec 32 := Scf.iv c16_i32_63 c1_i32_65 k0_t3
  let v253 : Index := Scalar.indexCast arg15
  let c32 : Index := 32#32
  ![0, v253.toNat, 32]
def k0_off28 (k0_t3 : Fin k0_t3_loop.trips) : Fin 3 → Nat :=
  let c0_i32_179 : BitVec 32 := 0#32
  let v255 : Index := Scalar.indexCast c0_i32_179
  let c16_i32_63 : BitVec 32 := 16#32
  let c1_i32_65 : BitVec 32 := 1#32
  let arg15 : BitVec 32 := Scf.iv c16_i32_63 c1_i32_65 k0_t3
  let v256 : Index := Scalar.indexCast arg15
  let c48 : Index := 48#32
  ![0, v256.toNat, 48]
def k0_off29 (k0_t3 : Fin k0_t3_loop.trips) : Fin 3 → Nat :=
  let c0_i32_180 : BitVec 32 := 0#32
  let v258 : Index := Scalar.indexCast c0_i32_180
  let c16_i32_63 : BitVec 32 := 16#32
  let c1_i32_65 : BitVec 32 := 1#32
  let arg15 : BitVec 32 := Scf.iv c16_i32_63 c1_i32_65 k0_t3
  let v259 : Index := Scalar.indexCast arg15
  let c64 : Index := 64#32
  ![0, v259.toNat, 64]
def k0_off30 (k0_t3 : Fin k0_t3_loop.trips) : Fin 3 → Nat :=
  let c0_i32_181 : BitVec 32 := 0#32
  let v261 : Index := Scalar.indexCast c0_i32_181
  let c16_i32_63 : BitVec 32 := 16#32
  let c1_i32_65 : BitVec 32 := 1#32
  let arg15 : BitVec 32 := Scf.iv c16_i32_63 c1_i32_65 k0_t3
  let v262 : Index := Scalar.indexCast arg15
  let c80 : Index := 80#32
  ![0, v262.toNat, 80]
def k0_off31 (k0_t3 : Fin k0_t3_loop.trips) : Fin 3 → Nat :=
  let c0_i32_182 : BitVec 32 := 0#32
  let v264 : Index := Scalar.indexCast c0_i32_182
  let c16_i32_63 : BitVec 32 := 16#32
  let c1_i32_65 : BitVec 32 := 1#32
  let arg15 : BitVec 32 := Scf.iv c16_i32_63 c1_i32_65 k0_t3
  let v265 : Index := Scalar.indexCast arg15
  let c96 : Index := 96#32
  ![0, v265.toNat, 96]
def k0_off32 (k0_t3 : Fin k0_t3_loop.trips) : Fin 3 → Nat :=
  let c0_i32_183 : BitVec 32 := 0#32
  let v267 : Index := Scalar.indexCast c0_i32_183
  let c16_i32_63 : BitVec 32 := 16#32
  let c1_i32_65 : BitVec 32 := 1#32
  let arg15 : BitVec 32 := Scf.iv c16_i32_63 c1_i32_65 k0_t3
  let v268 : Index := Scalar.indexCast arg15
  let c112 : Index := 112#32
  ![0, v268.toNat, 112]
def k0_off33 (k0_t3 : Fin k0_t3_loop.trips) : Fin 3 → Nat :=
  let c0_i32_184 : BitVec 32 := 0#32
  let v270 : Index := Scalar.indexCast c0_i32_184
  let c16_i32_63 : BitVec 32 := 16#32
  let c1_i32_65 : BitVec 32 := 1#32
  let arg15 : BitVec 32 := Scf.iv c16_i32_63 c1_i32_65 k0_t3
  let v271 : Index := Scalar.indexCast arg15
  let c0 : Index := 0#32
  ![0, v271.toNat, 0]
def k0_off34 (k0_t3 : Fin k0_t3_loop.trips) : Fin 3 → Nat :=
  let c1_i32_187 : BitVec 32 := 1#32
  let v276 : Index := Scalar.indexCast c1_i32_187
  let c16_i32_63 : BitVec 32 := 16#32
  let c1_i32_65 : BitVec 32 := 1#32
  let arg15 : BitVec 32 := Scf.iv c16_i32_63 c1_i32_65 k0_t3
  let v277 : Index := Scalar.indexCast arg15
  let c16_188 : Index := 16#32
  ![1, v277.toNat, 16]
def k0_off35 (k0_t3 : Fin k0_t3_loop.trips) : Fin 3 → Nat :=
  let c1_i32_189 : BitVec 32 := 1#32
  let v279 : Index := Scalar.indexCast c1_i32_189
  let c16_i32_63 : BitVec 32 := 16#32
  let c1_i32_65 : BitVec 32 := 1#32
  let arg15 : BitVec 32 := Scf.iv c16_i32_63 c1_i32_65 k0_t3
  let v280 : Index := Scalar.indexCast arg15
  let c32_190 : Index := 32#32
  ![1, v280.toNat, 32]
def k0_off36 (k0_t3 : Fin k0_t3_loop.trips) : Fin 3 → Nat :=
  let c1_i32_191 : BitVec 32 := 1#32
  let v282 : Index := Scalar.indexCast c1_i32_191
  let c16_i32_63 : BitVec 32 := 16#32
  let c1_i32_65 : BitVec 32 := 1#32
  let arg15 : BitVec 32 := Scf.iv c16_i32_63 c1_i32_65 k0_t3
  let v283 : Index := Scalar.indexCast arg15
  let c48_192 : Index := 48#32
  ![1, v283.toNat, 48]
def k0_off37 (k0_t3 : Fin k0_t3_loop.trips) : Fin 3 → Nat :=
  let c1_i32_193 : BitVec 32 := 1#32
  let v285 : Index := Scalar.indexCast c1_i32_193
  let c16_i32_63 : BitVec 32 := 16#32
  let c1_i32_65 : BitVec 32 := 1#32
  let arg15 : BitVec 32 := Scf.iv c16_i32_63 c1_i32_65 k0_t3
  let v286 : Index := Scalar.indexCast arg15
  let c64_194 : Index := 64#32
  ![1, v286.toNat, 64]
def k0_off38 (k0_t3 : Fin k0_t3_loop.trips) : Fin 3 → Nat :=
  let c1_i32_195 : BitVec 32 := 1#32
  let v288 : Index := Scalar.indexCast c1_i32_195
  let c16_i32_63 : BitVec 32 := 16#32
  let c1_i32_65 : BitVec 32 := 1#32
  let arg15 : BitVec 32 := Scf.iv c16_i32_63 c1_i32_65 k0_t3
  let v289 : Index := Scalar.indexCast arg15
  let c80_196 : Index := 80#32
  ![1, v289.toNat, 80]
def k0_off39 (k0_t3 : Fin k0_t3_loop.trips) : Fin 3 → Nat :=
  let c1_i32_197 : BitVec 32 := 1#32
  let v291 : Index := Scalar.indexCast c1_i32_197
  let c16_i32_63 : BitVec 32 := 16#32
  let c1_i32_65 : BitVec 32 := 1#32
  let arg15 : BitVec 32 := Scf.iv c16_i32_63 c1_i32_65 k0_t3
  let v292 : Index := Scalar.indexCast arg15
  let c96_198 : Index := 96#32
  ![1, v292.toNat, 96]
def k0_off40 (k0_t3 : Fin k0_t3_loop.trips) : Fin 3 → Nat :=
  let c1_i32_199 : BitVec 32 := 1#32
  let v294 : Index := Scalar.indexCast c1_i32_199
  let c16_i32_63 : BitVec 32 := 16#32
  let c1_i32_65 : BitVec 32 := 1#32
  let arg15 : BitVec 32 := Scf.iv c16_i32_63 c1_i32_65 k0_t3
  let v295 : Index := Scalar.indexCast arg15
  let c112_200 : Index := 112#32
  ![1, v295.toNat, 112]
def k0_off41 (k0_t3 : Fin k0_t3_loop.trips) : Fin 3 → Nat :=
  let c1_i32_201 : BitVec 32 := 1#32
  let v297 : Index := Scalar.indexCast c1_i32_201
  let c16_i32_63 : BitVec 32 := 16#32
  let c1_i32_65 : BitVec 32 := 1#32
  let arg15 : BitVec 32 := Scf.iv c16_i32_63 c1_i32_65 k0_t3
  let v298 : Index := Scalar.indexCast arg15
  let c0_202 : Index := 0#32
  ![1, v298.toNat, 0]
@[reducible] def k0_t4_loop : Scf.Loop 32 :=
  let c32_i32_68 : BitVec 32 := 32#32
  let c16_i32_69 : BitVec 32 := 16#32
  let v136 : BitVec 32 := Scalar.addi c32_i32_68 c16_i32_69
  let c1_i32_70 : BitVec 32 := 1#32
  ⟨c32_i32_68, v136, c1_i32_70⟩
def k0_off42 (k0_t4 : Fin k0_t4_loop.trips) (c32_i32_163 : BitVec 32) : Fin 1 → Nat :=
  let c127_i32_160 : BitVec 32 := 127#32
  let c32_i32_68 : BitVec 32 := 32#32
  let c1_i32_70 : BitVec 32 := 1#32
  let arg15 : BitVec 32 := Scf.iv c32_i32_68 c1_i32_70 k0_t4
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c32_i32_163
  let v186 : Index := Scalar.indexCast v185
  ![v186.toNat]

def k0_chk7 (v204 : IVec S16 32) : Prop :=
  (∀ a x, ((![v204] : Fin 1 → IVec S16 32) a x).toNat < S8256.size a)
theorem k0_idx7_inb : ∀ (v204 : IVec S16 32) (k0_hw7 : k0_chk7 v204), ∀ a x, ((![v204] : Fin 1 → IVec S16 32) a x).toNat < S8256.size a := fun v204 k0_hw7 => k0_hw7

def k0_chk8 (v206 : IVec S16 32) : Prop :=
  (∀ a x, ((![v206] : Fin 1 → IVec S16 32) a x).toNat < S8256.size a)
theorem k0_idx8_inb : ∀ (v206 : IVec S16 32) (k0_hw8 : k0_chk8 v206), ∀ a x, ((![v206] : Fin 1 → IVec S16 32) a x).toNat < S8256.size a := fun v206 k0_hw8 => k0_hw8

def k0_chk9 (v213 : IVec S16 32) : Prop :=
  (∀ a x, ((![v213] : Fin 1 → IVec S16 32) a x).toNat < S8256.size a)
theorem k0_idx9_inb : ∀ (v213 : IVec S16 32) (k0_hw9 : k0_chk9 v213), ∀ a x, ((![v213] : Fin 1 → IVec S16 32) a x).toNat < S8256.size a := fun v213 k0_hw9 => k0_hw9
def k0_off43 (k0_t4 : Fin k0_t4_loop.trips) (c32_i32_169 : BitVec 32) : Fin 1 → Nat :=
  let c127_i32_160 : BitVec 32 := 127#32
  let c32_i32_68 : BitVec 32 := 32#32
  let c1_i32_70 : BitVec 32 := 1#32
  let arg15 : BitVec 32 := Scf.iv c32_i32_68 c1_i32_70 k0_t4
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c32_i32_169
  let v218 : Index := Scalar.indexCast v217
  ![v218.toNat]

def k0_chk10 (v236 : IVec S16 32) : Prop :=
  (∀ a x, ((![v236] : Fin 1 → IVec S16 32) a x).toNat < S8256.size a)
theorem k0_idx10_inb : ∀ (v236 : IVec S16 32) (k0_hw10 : k0_chk10 v236), ∀ a x, ((![v236] : Fin 1 → IVec S16 32) a x).toNat < S8256.size a := fun v236 k0_hw10 => k0_hw10

def k0_chk11 (v238 : IVec S16 32) : Prop :=
  (∀ a x, ((![v238] : Fin 1 → IVec S16 32) a x).toNat < S8256.size a)
theorem k0_idx11_inb : ∀ (v238 : IVec S16 32) (k0_hw11 : k0_chk11 v238), ∀ a x, ((![v238] : Fin 1 → IVec S16 32) a x).toNat < S8256.size a := fun v238 k0_hw11 => k0_hw11

def k0_chk12 (v245 : IVec S16 32) : Prop :=
  (∀ a x, ((![v245] : Fin 1 → IVec S16 32) a x).toNat < S8256.size a)
theorem k0_idx12_inb : ∀ (v245 : IVec S16 32) (k0_hw12 : k0_chk12 v245), ∀ a x, ((![v245] : Fin 1 → IVec S16 32) a x).toNat < S8256.size a := fun v245 k0_hw12 => k0_hw12
def k0_off44 (k0_t4 : Fin k0_t4_loop.trips) : Fin 3 → Nat :=
  let c0_i32_175 : BitVec 32 := 0#32
  let v249 : Index := Scalar.indexCast c0_i32_175
  let c32_i32_68 : BitVec 32 := 32#32
  let c1_i32_70 : BitVec 32 := 1#32
  let arg15 : BitVec 32 := Scf.iv c32_i32_68 c1_i32_70 k0_t4
  let v250 : Index := Scalar.indexCast arg15
  let c32 : Index := 32#32
  ![0, v250.toNat, 32]
def k0_off45 (k0_t4 : Fin k0_t4_loop.trips) : Fin 3 → Nat :=
  let c0_i32_176 : BitVec 32 := 0#32
  let v252 : Index := Scalar.indexCast c0_i32_176
  let c32_i32_68 : BitVec 32 := 32#32
  let c1_i32_70 : BitVec 32 := 1#32
  let arg15 : BitVec 32 := Scf.iv c32_i32_68 c1_i32_70 k0_t4
  let v253 : Index := Scalar.indexCast arg15
  let c48 : Index := 48#32
  ![0, v253.toNat, 48]
def k0_off46 (k0_t4 : Fin k0_t4_loop.trips) : Fin 3 → Nat :=
  let c0_i32_177 : BitVec 32 := 0#32
  let v255 : Index := Scalar.indexCast c0_i32_177
  let c32_i32_68 : BitVec 32 := 32#32
  let c1_i32_70 : BitVec 32 := 1#32
  let arg15 : BitVec 32 := Scf.iv c32_i32_68 c1_i32_70 k0_t4
  let v256 : Index := Scalar.indexCast arg15
  let c64 : Index := 64#32
  ![0, v256.toNat, 64]
def k0_off47 (k0_t4 : Fin k0_t4_loop.trips) : Fin 3 → Nat :=
  let c0_i32_178 : BitVec 32 := 0#32
  let v258 : Index := Scalar.indexCast c0_i32_178
  let c32_i32_68 : BitVec 32 := 32#32
  let c1_i32_70 : BitVec 32 := 1#32
  let arg15 : BitVec 32 := Scf.iv c32_i32_68 c1_i32_70 k0_t4
  let v259 : Index := Scalar.indexCast arg15
  let c80 : Index := 80#32
  ![0, v259.toNat, 80]
def k0_off48 (k0_t4 : Fin k0_t4_loop.trips) : Fin 3 → Nat :=
  let c0_i32_179 : BitVec 32 := 0#32
  let v261 : Index := Scalar.indexCast c0_i32_179
  let c32_i32_68 : BitVec 32 := 32#32
  let c1_i32_70 : BitVec 32 := 1#32
  let arg15 : BitVec 32 := Scf.iv c32_i32_68 c1_i32_70 k0_t4
  let v262 : Index := Scalar.indexCast arg15
  let c96 : Index := 96#32
  ![0, v262.toNat, 96]
def k0_off49 (k0_t4 : Fin k0_t4_loop.trips) : Fin 3 → Nat :=
  let c0_i32_180 : BitVec 32 := 0#32
  let v264 : Index := Scalar.indexCast c0_i32_180
  let c32_i32_68 : BitVec 32 := 32#32
  let c1_i32_70 : BitVec 32 := 1#32
  let arg15 : BitVec 32 := Scf.iv c32_i32_68 c1_i32_70 k0_t4
  let v265 : Index := Scalar.indexCast arg15
  let c112 : Index := 112#32
  ![0, v265.toNat, 112]
def k0_off50 (k0_t4 : Fin k0_t4_loop.trips) : Fin 3 → Nat :=
  let c0_i32_181 : BitVec 32 := 0#32
  let v267 : Index := Scalar.indexCast c0_i32_181
  let c32_i32_68 : BitVec 32 := 32#32
  let c1_i32_70 : BitVec 32 := 1#32
  let arg15 : BitVec 32 := Scf.iv c32_i32_68 c1_i32_70 k0_t4
  let v268 : Index := Scalar.indexCast arg15
  let c0 : Index := 0#32
  ![0, v268.toNat, 0]
def k0_off51 (k0_t4 : Fin k0_t4_loop.trips) : Fin 3 → Nat :=
  let c0_i32_182 : BitVec 32 := 0#32
  let v270 : Index := Scalar.indexCast c0_i32_182
  let c32_i32_68 : BitVec 32 := 32#32
  let c1_i32_70 : BitVec 32 := 1#32
  let arg15 : BitVec 32 := Scf.iv c32_i32_68 c1_i32_70 k0_t4
  let v271 : Index := Scalar.indexCast arg15
  let c16 : Index := 16#32
  ![0, v271.toNat, 16]
def k0_off52 (k0_t4 : Fin k0_t4_loop.trips) : Fin 3 → Nat :=
  let c1_i32_185 : BitVec 32 := 1#32
  let v276 : Index := Scalar.indexCast c1_i32_185
  let c32_i32_68 : BitVec 32 := 32#32
  let c1_i32_70 : BitVec 32 := 1#32
  let arg15 : BitVec 32 := Scf.iv c32_i32_68 c1_i32_70 k0_t4
  let v277 : Index := Scalar.indexCast arg15
  let c32_186 : Index := 32#32
  ![1, v277.toNat, 32]
def k0_off53 (k0_t4 : Fin k0_t4_loop.trips) : Fin 3 → Nat :=
  let c1_i32_187 : BitVec 32 := 1#32
  let v279 : Index := Scalar.indexCast c1_i32_187
  let c32_i32_68 : BitVec 32 := 32#32
  let c1_i32_70 : BitVec 32 := 1#32
  let arg15 : BitVec 32 := Scf.iv c32_i32_68 c1_i32_70 k0_t4
  let v280 : Index := Scalar.indexCast arg15
  let c48_188 : Index := 48#32
  ![1, v280.toNat, 48]
def k0_off54 (k0_t4 : Fin k0_t4_loop.trips) : Fin 3 → Nat :=
  let c1_i32_189 : BitVec 32 := 1#32
  let v282 : Index := Scalar.indexCast c1_i32_189
  let c32_i32_68 : BitVec 32 := 32#32
  let c1_i32_70 : BitVec 32 := 1#32
  let arg15 : BitVec 32 := Scf.iv c32_i32_68 c1_i32_70 k0_t4
  let v283 : Index := Scalar.indexCast arg15
  let c64_190 : Index := 64#32
  ![1, v283.toNat, 64]
def k0_off55 (k0_t4 : Fin k0_t4_loop.trips) : Fin 3 → Nat :=
  let c1_i32_191 : BitVec 32 := 1#32
  let v285 : Index := Scalar.indexCast c1_i32_191
  let c32_i32_68 : BitVec 32 := 32#32
  let c1_i32_70 : BitVec 32 := 1#32
  let arg15 : BitVec 32 := Scf.iv c32_i32_68 c1_i32_70 k0_t4
  let v286 : Index := Scalar.indexCast arg15
  let c80_192 : Index := 80#32
  ![1, v286.toNat, 80]
def k0_off56 (k0_t4 : Fin k0_t4_loop.trips) : Fin 3 → Nat :=
  let c1_i32_193 : BitVec 32 := 1#32
  let v288 : Index := Scalar.indexCast c1_i32_193
  let c32_i32_68 : BitVec 32 := 32#32
  let c1_i32_70 : BitVec 32 := 1#32
  let arg15 : BitVec 32 := Scf.iv c32_i32_68 c1_i32_70 k0_t4
  let v289 : Index := Scalar.indexCast arg15
  let c96_194 : Index := 96#32
  ![1, v289.toNat, 96]
def k0_off57 (k0_t4 : Fin k0_t4_loop.trips) : Fin 3 → Nat :=
  let c1_i32_195 : BitVec 32 := 1#32
  let v291 : Index := Scalar.indexCast c1_i32_195
  let c32_i32_68 : BitVec 32 := 32#32
  let c1_i32_70 : BitVec 32 := 1#32
  let arg15 : BitVec 32 := Scf.iv c32_i32_68 c1_i32_70 k0_t4
  let v292 : Index := Scalar.indexCast arg15
  let c112_196 : Index := 112#32
  ![1, v292.toNat, 112]
def k0_off58 (k0_t4 : Fin k0_t4_loop.trips) : Fin 3 → Nat :=
  let c1_i32_197 : BitVec 32 := 1#32
  let v294 : Index := Scalar.indexCast c1_i32_197
  let c32_i32_68 : BitVec 32 := 32#32
  let c1_i32_70 : BitVec 32 := 1#32
  let arg15 : BitVec 32 := Scf.iv c32_i32_68 c1_i32_70 k0_t4
  let v295 : Index := Scalar.indexCast arg15
  let c0_198 : Index := 0#32
  ![1, v295.toNat, 0]
def k0_off59 (k0_t4 : Fin k0_t4_loop.trips) : Fin 3 → Nat :=
  let c1_i32_199 : BitVec 32 := 1#32
  let v297 : Index := Scalar.indexCast c1_i32_199
  let c32_i32_68 : BitVec 32 := 32#32
  let c1_i32_70 : BitVec 32 := 1#32
  let arg15 : BitVec 32 := Scf.iv c32_i32_68 c1_i32_70 k0_t4
  let v298 : Index := Scalar.indexCast arg15
  let c16_200 : Index := 16#32
  ![1, v298.toNat, 16]
@[reducible] def k0_t5_loop : Scf.Loop 32 :=
  let c48_i32_73 : BitVec 32 := 48#32
  let c16_i32_74 : BitVec 32 := 16#32
  let v137 : BitVec 32 := Scalar.addi c48_i32_73 c16_i32_74
  let c1_i32_75 : BitVec 32 := 1#32
  ⟨c48_i32_73, v137, c1_i32_75⟩
def k0_off60 (k0_t5 : Fin k0_t5_loop.trips) (c48_i32_163 : BitVec 32) : Fin 1 → Nat :=
  let c127_i32_160 : BitVec 32 := 127#32
  let c48_i32_73 : BitVec 32 := 48#32
  let c1_i32_75 : BitVec 32 := 1#32
  let arg15 : BitVec 32 := Scf.iv c48_i32_73 c1_i32_75 k0_t5
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c48_i32_163
  let v186 : Index := Scalar.indexCast v185
  ![v186.toNat]

def k0_chk13 (v201 : IVec S16 32) : Prop :=
  (∀ a x, ((![v201] : Fin 1 → IVec S16 32) a x).toNat < S8256.size a)
theorem k0_idx13_inb : ∀ (v201 : IVec S16 32) (k0_hw13 : k0_chk13 v201), ∀ a x, ((![v201] : Fin 1 → IVec S16 32) a x).toNat < S8256.size a := fun v201 k0_hw13 => k0_hw13

def k0_chk14 (v203 : IVec S16 32) : Prop :=
  (∀ a x, ((![v203] : Fin 1 → IVec S16 32) a x).toNat < S8256.size a)
theorem k0_idx14_inb : ∀ (v203 : IVec S16 32) (k0_hw14 : k0_chk14 v203), ∀ a x, ((![v203] : Fin 1 → IVec S16 32) a x).toNat < S8256.size a := fun v203 k0_hw14 => k0_hw14

def k0_chk15 (v205 : IVec S16 32) : Prop :=
  (∀ a x, ((![v205] : Fin 1 → IVec S16 32) a x).toNat < S8256.size a)
theorem k0_idx15_inb : ∀ (v205 : IVec S16 32) (k0_hw15 : k0_chk15 v205), ∀ a x, ((![v205] : Fin 1 → IVec S16 32) a x).toNat < S8256.size a := fun v205 k0_hw15 => k0_hw15

def k0_chk16 (v212 : IVec S16 32) : Prop :=
  (∀ a x, ((![v212] : Fin 1 → IVec S16 32) a x).toNat < S8256.size a)
theorem k0_idx16_inb : ∀ (v212 : IVec S16 32) (k0_hw16 : k0_chk16 v212), ∀ a x, ((![v212] : Fin 1 → IVec S16 32) a x).toNat < S8256.size a := fun v212 k0_hw16 => k0_hw16
def k0_off61 (k0_t5 : Fin k0_t5_loop.trips) (c48_i32_168 : BitVec 32) : Fin 1 → Nat :=
  let c127_i32_160 : BitVec 32 := 127#32
  let c48_i32_73 : BitVec 32 := 48#32
  let c1_i32_75 : BitVec 32 := 1#32
  let arg15 : BitVec 32 := Scf.iv c48_i32_73 c1_i32_75 k0_t5
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c48_i32_168
  let v218 : Index := Scalar.indexCast v217
  ![v218.toNat]

def k0_chk17 (v233 : IVec S16 32) : Prop :=
  (∀ a x, ((![v233] : Fin 1 → IVec S16 32) a x).toNat < S8256.size a)
theorem k0_idx17_inb : ∀ (v233 : IVec S16 32) (k0_hw17 : k0_chk17 v233), ∀ a x, ((![v233] : Fin 1 → IVec S16 32) a x).toNat < S8256.size a := fun v233 k0_hw17 => k0_hw17

def k0_chk18 (v235 : IVec S16 32) : Prop :=
  (∀ a x, ((![v235] : Fin 1 → IVec S16 32) a x).toNat < S8256.size a)
theorem k0_idx18_inb : ∀ (v235 : IVec S16 32) (k0_hw18 : k0_chk18 v235), ∀ a x, ((![v235] : Fin 1 → IVec S16 32) a x).toNat < S8256.size a := fun v235 k0_hw18 => k0_hw18

def k0_chk19 (v237 : IVec S16 32) : Prop :=
  (∀ a x, ((![v237] : Fin 1 → IVec S16 32) a x).toNat < S8256.size a)
theorem k0_idx19_inb : ∀ (v237 : IVec S16 32) (k0_hw19 : k0_chk19 v237), ∀ a x, ((![v237] : Fin 1 → IVec S16 32) a x).toNat < S8256.size a := fun v237 k0_hw19 => k0_hw19

def k0_chk20 (v244 : IVec S16 32) : Prop :=
  (∀ a x, ((![v244] : Fin 1 → IVec S16 32) a x).toNat < S8256.size a)
theorem k0_idx20_inb : ∀ (v244 : IVec S16 32) (k0_hw20 : k0_chk20 v244), ∀ a x, ((![v244] : Fin 1 → IVec S16 32) a x).toNat < S8256.size a := fun v244 k0_hw20 => k0_hw20
def k0_off62 (k0_t5 : Fin k0_t5_loop.trips) : Fin 3 → Nat :=
  let c0_i32_173 : BitVec 32 := 0#32
  let v249 : Index := Scalar.indexCast c0_i32_173
  let c48_i32_73 : BitVec 32 := 48#32
  let c1_i32_75 : BitVec 32 := 1#32
  let arg15 : BitVec 32 := Scf.iv c48_i32_73 c1_i32_75 k0_t5
  let v250 : Index := Scalar.indexCast arg15
  let c48 : Index := 48#32
  ![0, v250.toNat, 48]
def k0_off63 (k0_t5 : Fin k0_t5_loop.trips) : Fin 3 → Nat :=
  let c0_i32_174 : BitVec 32 := 0#32
  let v252 : Index := Scalar.indexCast c0_i32_174
  let c48_i32_73 : BitVec 32 := 48#32
  let c1_i32_75 : BitVec 32 := 1#32
  let arg15 : BitVec 32 := Scf.iv c48_i32_73 c1_i32_75 k0_t5
  let v253 : Index := Scalar.indexCast arg15
  let c64 : Index := 64#32
  ![0, v253.toNat, 64]
def k0_off64 (k0_t5 : Fin k0_t5_loop.trips) : Fin 3 → Nat :=
  let c0_i32_175 : BitVec 32 := 0#32
  let v255 : Index := Scalar.indexCast c0_i32_175
  let c48_i32_73 : BitVec 32 := 48#32
  let c1_i32_75 : BitVec 32 := 1#32
  let arg15 : BitVec 32 := Scf.iv c48_i32_73 c1_i32_75 k0_t5
  let v256 : Index := Scalar.indexCast arg15
  let c80 : Index := 80#32
  ![0, v256.toNat, 80]
def k0_off65 (k0_t5 : Fin k0_t5_loop.trips) : Fin 3 → Nat :=
  let c0_i32_176 : BitVec 32 := 0#32
  let v258 : Index := Scalar.indexCast c0_i32_176
  let c48_i32_73 : BitVec 32 := 48#32
  let c1_i32_75 : BitVec 32 := 1#32
  let arg15 : BitVec 32 := Scf.iv c48_i32_73 c1_i32_75 k0_t5
  let v259 : Index := Scalar.indexCast arg15
  let c96 : Index := 96#32
  ![0, v259.toNat, 96]
def k0_off66 (k0_t5 : Fin k0_t5_loop.trips) : Fin 3 → Nat :=
  let c0_i32_177 : BitVec 32 := 0#32
  let v261 : Index := Scalar.indexCast c0_i32_177
  let c48_i32_73 : BitVec 32 := 48#32
  let c1_i32_75 : BitVec 32 := 1#32
  let arg15 : BitVec 32 := Scf.iv c48_i32_73 c1_i32_75 k0_t5
  let v262 : Index := Scalar.indexCast arg15
  let c112 : Index := 112#32
  ![0, v262.toNat, 112]
def k0_off67 (k0_t5 : Fin k0_t5_loop.trips) : Fin 3 → Nat :=
  let c0_i32_178 : BitVec 32 := 0#32
  let v264 : Index := Scalar.indexCast c0_i32_178
  let c48_i32_73 : BitVec 32 := 48#32
  let c1_i32_75 : BitVec 32 := 1#32
  let arg15 : BitVec 32 := Scf.iv c48_i32_73 c1_i32_75 k0_t5
  let v265 : Index := Scalar.indexCast arg15
  let c0 : Index := 0#32
  ![0, v265.toNat, 0]
def k0_off68 (k0_t5 : Fin k0_t5_loop.trips) : Fin 3 → Nat :=
  let c0_i32_179 : BitVec 32 := 0#32
  let v267 : Index := Scalar.indexCast c0_i32_179
  let c48_i32_73 : BitVec 32 := 48#32
  let c1_i32_75 : BitVec 32 := 1#32
  let arg15 : BitVec 32 := Scf.iv c48_i32_73 c1_i32_75 k0_t5
  let v268 : Index := Scalar.indexCast arg15
  let c16 : Index := 16#32
  ![0, v268.toNat, 16]
def k0_off69 (k0_t5 : Fin k0_t5_loop.trips) : Fin 3 → Nat :=
  let c0_i32_180 : BitVec 32 := 0#32
  let v270 : Index := Scalar.indexCast c0_i32_180
  let c48_i32_73 : BitVec 32 := 48#32
  let c1_i32_75 : BitVec 32 := 1#32
  let arg15 : BitVec 32 := Scf.iv c48_i32_73 c1_i32_75 k0_t5
  let v271 : Index := Scalar.indexCast arg15
  let c32 : Index := 32#32
  ![0, v271.toNat, 32]
def k0_off70 (k0_t5 : Fin k0_t5_loop.trips) : Fin 3 → Nat :=
  let c1_i32_183 : BitVec 32 := 1#32
  let v276 : Index := Scalar.indexCast c1_i32_183
  let c48_i32_73 : BitVec 32 := 48#32
  let c1_i32_75 : BitVec 32 := 1#32
  let arg15 : BitVec 32 := Scf.iv c48_i32_73 c1_i32_75 k0_t5
  let v277 : Index := Scalar.indexCast arg15
  let c48_184 : Index := 48#32
  ![1, v277.toNat, 48]
def k0_off71 (k0_t5 : Fin k0_t5_loop.trips) : Fin 3 → Nat :=
  let c1_i32_185 : BitVec 32 := 1#32
  let v279 : Index := Scalar.indexCast c1_i32_185
  let c48_i32_73 : BitVec 32 := 48#32
  let c1_i32_75 : BitVec 32 := 1#32
  let arg15 : BitVec 32 := Scf.iv c48_i32_73 c1_i32_75 k0_t5
  let v280 : Index := Scalar.indexCast arg15
  let c64_186 : Index := 64#32
  ![1, v280.toNat, 64]
def k0_off72 (k0_t5 : Fin k0_t5_loop.trips) : Fin 3 → Nat :=
  let c1_i32_187 : BitVec 32 := 1#32
  let v282 : Index := Scalar.indexCast c1_i32_187
  let c48_i32_73 : BitVec 32 := 48#32
  let c1_i32_75 : BitVec 32 := 1#32
  let arg15 : BitVec 32 := Scf.iv c48_i32_73 c1_i32_75 k0_t5
  let v283 : Index := Scalar.indexCast arg15
  let c80_188 : Index := 80#32
  ![1, v283.toNat, 80]
def k0_off73 (k0_t5 : Fin k0_t5_loop.trips) : Fin 3 → Nat :=
  let c1_i32_189 : BitVec 32 := 1#32
  let v285 : Index := Scalar.indexCast c1_i32_189
  let c48_i32_73 : BitVec 32 := 48#32
  let c1_i32_75 : BitVec 32 := 1#32
  let arg15 : BitVec 32 := Scf.iv c48_i32_73 c1_i32_75 k0_t5
  let v286 : Index := Scalar.indexCast arg15
  let c96_190 : Index := 96#32
  ![1, v286.toNat, 96]
def k0_off74 (k0_t5 : Fin k0_t5_loop.trips) : Fin 3 → Nat :=
  let c1_i32_191 : BitVec 32 := 1#32
  let v288 : Index := Scalar.indexCast c1_i32_191
  let c48_i32_73 : BitVec 32 := 48#32
  let c1_i32_75 : BitVec 32 := 1#32
  let arg15 : BitVec 32 := Scf.iv c48_i32_73 c1_i32_75 k0_t5
  let v289 : Index := Scalar.indexCast arg15
  let c112_192 : Index := 112#32
  ![1, v289.toNat, 112]
def k0_off75 (k0_t5 : Fin k0_t5_loop.trips) : Fin 3 → Nat :=
  let c1_i32_193 : BitVec 32 := 1#32
  let v291 : Index := Scalar.indexCast c1_i32_193
  let c48_i32_73 : BitVec 32 := 48#32
  let c1_i32_75 : BitVec 32 := 1#32
  let arg15 : BitVec 32 := Scf.iv c48_i32_73 c1_i32_75 k0_t5
  let v292 : Index := Scalar.indexCast arg15
  let c0_194 : Index := 0#32
  ![1, v292.toNat, 0]
def k0_off76 (k0_t5 : Fin k0_t5_loop.trips) : Fin 3 → Nat :=
  let c1_i32_195 : BitVec 32 := 1#32
  let v294 : Index := Scalar.indexCast c1_i32_195
  let c48_i32_73 : BitVec 32 := 48#32
  let c1_i32_75 : BitVec 32 := 1#32
  let arg15 : BitVec 32 := Scf.iv c48_i32_73 c1_i32_75 k0_t5
  let v295 : Index := Scalar.indexCast arg15
  let c16_196 : Index := 16#32
  ![1, v295.toNat, 16]
def k0_off77 (k0_t5 : Fin k0_t5_loop.trips) : Fin 3 → Nat :=
  let c1_i32_197 : BitVec 32 := 1#32
  let v297 : Index := Scalar.indexCast c1_i32_197
  let c48_i32_73 : BitVec 32 := 48#32
  let c1_i32_75 : BitVec 32 := 1#32
  let arg15 : BitVec 32 := Scf.iv c48_i32_73 c1_i32_75 k0_t5
  let v298 : Index := Scalar.indexCast arg15
  let c32_198 : Index := 32#32
  ![1, v298.toNat, 32]
@[reducible] def k0_t6_loop : Scf.Loop 32 :=
  let c64_i32_78 : BitVec 32 := 64#32
  let c16_i32_79 : BitVec 32 := 16#32
  let v138 : BitVec 32 := Scalar.addi c64_i32_78 c16_i32_79
  let c1_i32_80 : BitVec 32 := 1#32
  ⟨c64_i32_78, v138, c1_i32_80⟩
def k0_off78 (k0_t6 : Fin k0_t6_loop.trips) (c64_i32_163 : BitVec 32) : Fin 1 → Nat :=
  let c127_i32_160 : BitVec 32 := 127#32
  let c64_i32_78 : BitVec 32 := 64#32
  let c1_i32_80 : BitVec 32 := 1#32
  let arg15 : BitVec 32 := Scf.iv c64_i32_78 c1_i32_80 k0_t6
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c64_i32_163
  let v186 : Index := Scalar.indexCast v185
  ![v186.toNat]

def k0_chk21 (v198 : IVec S16 32) : Prop :=
  (∀ a x, ((![v198] : Fin 1 → IVec S16 32) a x).toNat < S8256.size a)
theorem k0_idx21_inb : ∀ (v198 : IVec S16 32) (k0_hw21 : k0_chk21 v198), ∀ a x, ((![v198] : Fin 1 → IVec S16 32) a x).toNat < S8256.size a := fun v198 k0_hw21 => k0_hw21

def k0_chk22 (v200 : IVec S16 32) : Prop :=
  (∀ a x, ((![v200] : Fin 1 → IVec S16 32) a x).toNat < S8256.size a)
theorem k0_idx22_inb : ∀ (v200 : IVec S16 32) (k0_hw22 : k0_chk22 v200), ∀ a x, ((![v200] : Fin 1 → IVec S16 32) a x).toNat < S8256.size a := fun v200 k0_hw22 => k0_hw22

def k0_chk23 (v202 : IVec S16 32) : Prop :=
  (∀ a x, ((![v202] : Fin 1 → IVec S16 32) a x).toNat < S8256.size a)
theorem k0_idx23_inb : ∀ (v202 : IVec S16 32) (k0_hw23 : k0_chk23 v202), ∀ a x, ((![v202] : Fin 1 → IVec S16 32) a x).toNat < S8256.size a := fun v202 k0_hw23 => k0_hw23

def k0_chk24 (v204 : IVec S16 32) : Prop :=
  (∀ a x, ((![v204] : Fin 1 → IVec S16 32) a x).toNat < S8256.size a)
theorem k0_idx24_inb : ∀ (v204 : IVec S16 32) (k0_hw24 : k0_chk24 v204), ∀ a x, ((![v204] : Fin 1 → IVec S16 32) a x).toNat < S8256.size a := fun v204 k0_hw24 => k0_hw24

def k0_chk25 (v211 : IVec S16 32) : Prop :=
  (∀ a x, ((![v211] : Fin 1 → IVec S16 32) a x).toNat < S8256.size a)
theorem k0_idx25_inb : ∀ (v211 : IVec S16 32) (k0_hw25 : k0_chk25 v211), ∀ a x, ((![v211] : Fin 1 → IVec S16 32) a x).toNat < S8256.size a := fun v211 k0_hw25 => k0_hw25
def k0_off79 (k0_t6 : Fin k0_t6_loop.trips) (c64_i32_167 : BitVec 32) : Fin 1 → Nat :=
  let c127_i32_160 : BitVec 32 := 127#32
  let c64_i32_78 : BitVec 32 := 64#32
  let c1_i32_80 : BitVec 32 := 1#32
  let arg15 : BitVec 32 := Scf.iv c64_i32_78 c1_i32_80 k0_t6
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c64_i32_167
  let v218 : Index := Scalar.indexCast v217
  ![v218.toNat]

def k0_chk26 (v230 : IVec S16 32) : Prop :=
  (∀ a x, ((![v230] : Fin 1 → IVec S16 32) a x).toNat < S8256.size a)
theorem k0_idx26_inb : ∀ (v230 : IVec S16 32) (k0_hw26 : k0_chk26 v230), ∀ a x, ((![v230] : Fin 1 → IVec S16 32) a x).toNat < S8256.size a := fun v230 k0_hw26 => k0_hw26

def k0_chk27 (v232 : IVec S16 32) : Prop :=
  (∀ a x, ((![v232] : Fin 1 → IVec S16 32) a x).toNat < S8256.size a)
theorem k0_idx27_inb : ∀ (v232 : IVec S16 32) (k0_hw27 : k0_chk27 v232), ∀ a x, ((![v232] : Fin 1 → IVec S16 32) a x).toNat < S8256.size a := fun v232 k0_hw27 => k0_hw27

def k0_chk28 (v234 : IVec S16 32) : Prop :=
  (∀ a x, ((![v234] : Fin 1 → IVec S16 32) a x).toNat < S8256.size a)
theorem k0_idx28_inb : ∀ (v234 : IVec S16 32) (k0_hw28 : k0_chk28 v234), ∀ a x, ((![v234] : Fin 1 → IVec S16 32) a x).toNat < S8256.size a := fun v234 k0_hw28 => k0_hw28

def k0_chk29 (v236 : IVec S16 32) : Prop :=
  (∀ a x, ((![v236] : Fin 1 → IVec S16 32) a x).toNat < S8256.size a)
theorem k0_idx29_inb : ∀ (v236 : IVec S16 32) (k0_hw29 : k0_chk29 v236), ∀ a x, ((![v236] : Fin 1 → IVec S16 32) a x).toNat < S8256.size a := fun v236 k0_hw29 => k0_hw29

def k0_chk30 (v243 : IVec S16 32) : Prop :=
  (∀ a x, ((![v243] : Fin 1 → IVec S16 32) a x).toNat < S8256.size a)
theorem k0_idx30_inb : ∀ (v243 : IVec S16 32) (k0_hw30 : k0_chk30 v243), ∀ a x, ((![v243] : Fin 1 → IVec S16 32) a x).toNat < S8256.size a := fun v243 k0_hw30 => k0_hw30
def k0_off80 (k0_t6 : Fin k0_t6_loop.trips) : Fin 3 → Nat :=
  let c0_i32_171 : BitVec 32 := 0#32
  let v249 : Index := Scalar.indexCast c0_i32_171
  let c64_i32_78 : BitVec 32 := 64#32
  let c1_i32_80 : BitVec 32 := 1#32
  let arg15 : BitVec 32 := Scf.iv c64_i32_78 c1_i32_80 k0_t6
  let v250 : Index := Scalar.indexCast arg15
  let c64 : Index := 64#32
  ![0, v250.toNat, 64]
def k0_off81 (k0_t6 : Fin k0_t6_loop.trips) : Fin 3 → Nat :=
  let c0_i32_172 : BitVec 32 := 0#32
  let v252 : Index := Scalar.indexCast c0_i32_172
  let c64_i32_78 : BitVec 32 := 64#32
  let c1_i32_80 : BitVec 32 := 1#32
  let arg15 : BitVec 32 := Scf.iv c64_i32_78 c1_i32_80 k0_t6
  let v253 : Index := Scalar.indexCast arg15
  let c80 : Index := 80#32
  ![0, v253.toNat, 80]
def k0_off82 (k0_t6 : Fin k0_t6_loop.trips) : Fin 3 → Nat :=
  let c0_i32_173 : BitVec 32 := 0#32
  let v255 : Index := Scalar.indexCast c0_i32_173
  let c64_i32_78 : BitVec 32 := 64#32
  let c1_i32_80 : BitVec 32 := 1#32
  let arg15 : BitVec 32 := Scf.iv c64_i32_78 c1_i32_80 k0_t6
  let v256 : Index := Scalar.indexCast arg15
  let c96 : Index := 96#32
  ![0, v256.toNat, 96]
def k0_off83 (k0_t6 : Fin k0_t6_loop.trips) : Fin 3 → Nat :=
  let c0_i32_174 : BitVec 32 := 0#32
  let v258 : Index := Scalar.indexCast c0_i32_174
  let c64_i32_78 : BitVec 32 := 64#32
  let c1_i32_80 : BitVec 32 := 1#32
  let arg15 : BitVec 32 := Scf.iv c64_i32_78 c1_i32_80 k0_t6
  let v259 : Index := Scalar.indexCast arg15
  let c112 : Index := 112#32
  ![0, v259.toNat, 112]
def k0_off84 (k0_t6 : Fin k0_t6_loop.trips) : Fin 3 → Nat :=
  let c0_i32_175 : BitVec 32 := 0#32
  let v261 : Index := Scalar.indexCast c0_i32_175
  let c64_i32_78 : BitVec 32 := 64#32
  let c1_i32_80 : BitVec 32 := 1#32
  let arg15 : BitVec 32 := Scf.iv c64_i32_78 c1_i32_80 k0_t6
  let v262 : Index := Scalar.indexCast arg15
  let c0 : Index := 0#32
  ![0, v262.toNat, 0]
def k0_off85 (k0_t6 : Fin k0_t6_loop.trips) : Fin 3 → Nat :=
  let c0_i32_176 : BitVec 32 := 0#32
  let v264 : Index := Scalar.indexCast c0_i32_176
  let c64_i32_78 : BitVec 32 := 64#32
  let c1_i32_80 : BitVec 32 := 1#32
  let arg15 : BitVec 32 := Scf.iv c64_i32_78 c1_i32_80 k0_t6
  let v265 : Index := Scalar.indexCast arg15
  let c16 : Index := 16#32
  ![0, v265.toNat, 16]
def k0_off86 (k0_t6 : Fin k0_t6_loop.trips) : Fin 3 → Nat :=
  let c0_i32_177 : BitVec 32 := 0#32
  let v267 : Index := Scalar.indexCast c0_i32_177
  let c64_i32_78 : BitVec 32 := 64#32
  let c1_i32_80 : BitVec 32 := 1#32
  let arg15 : BitVec 32 := Scf.iv c64_i32_78 c1_i32_80 k0_t6
  let v268 : Index := Scalar.indexCast arg15
  let c32 : Index := 32#32
  ![0, v268.toNat, 32]
def k0_off87 (k0_t6 : Fin k0_t6_loop.trips) : Fin 3 → Nat :=
  let c0_i32_178 : BitVec 32 := 0#32
  let v270 : Index := Scalar.indexCast c0_i32_178
  let c64_i32_78 : BitVec 32 := 64#32
  let c1_i32_80 : BitVec 32 := 1#32
  let arg15 : BitVec 32 := Scf.iv c64_i32_78 c1_i32_80 k0_t6
  let v271 : Index := Scalar.indexCast arg15
  let c48 : Index := 48#32
  ![0, v271.toNat, 48]
def k0_off88 (k0_t6 : Fin k0_t6_loop.trips) : Fin 3 → Nat :=
  let c1_i32_181 : BitVec 32 := 1#32
  let v276 : Index := Scalar.indexCast c1_i32_181
  let c64_i32_78 : BitVec 32 := 64#32
  let c1_i32_80 : BitVec 32 := 1#32
  let arg15 : BitVec 32 := Scf.iv c64_i32_78 c1_i32_80 k0_t6
  let v277 : Index := Scalar.indexCast arg15
  let c64_182 : Index := 64#32
  ![1, v277.toNat, 64]
def k0_off89 (k0_t6 : Fin k0_t6_loop.trips) : Fin 3 → Nat :=
  let c1_i32_183 : BitVec 32 := 1#32
  let v279 : Index := Scalar.indexCast c1_i32_183
  let c64_i32_78 : BitVec 32 := 64#32
  let c1_i32_80 : BitVec 32 := 1#32
  let arg15 : BitVec 32 := Scf.iv c64_i32_78 c1_i32_80 k0_t6
  let v280 : Index := Scalar.indexCast arg15
  let c80_184 : Index := 80#32
  ![1, v280.toNat, 80]
def k0_off90 (k0_t6 : Fin k0_t6_loop.trips) : Fin 3 → Nat :=
  let c1_i32_185 : BitVec 32 := 1#32
  let v282 : Index := Scalar.indexCast c1_i32_185
  let c64_i32_78 : BitVec 32 := 64#32
  let c1_i32_80 : BitVec 32 := 1#32
  let arg15 : BitVec 32 := Scf.iv c64_i32_78 c1_i32_80 k0_t6
  let v283 : Index := Scalar.indexCast arg15
  let c96_186 : Index := 96#32
  ![1, v283.toNat, 96]
def k0_off91 (k0_t6 : Fin k0_t6_loop.trips) : Fin 3 → Nat :=
  let c1_i32_187 : BitVec 32 := 1#32
  let v285 : Index := Scalar.indexCast c1_i32_187
  let c64_i32_78 : BitVec 32 := 64#32
  let c1_i32_80 : BitVec 32 := 1#32
  let arg15 : BitVec 32 := Scf.iv c64_i32_78 c1_i32_80 k0_t6
  let v286 : Index := Scalar.indexCast arg15
  let c112_188 : Index := 112#32
  ![1, v286.toNat, 112]
def k0_off92 (k0_t6 : Fin k0_t6_loop.trips) : Fin 3 → Nat :=
  let c1_i32_189 : BitVec 32 := 1#32
  let v288 : Index := Scalar.indexCast c1_i32_189
  let c64_i32_78 : BitVec 32 := 64#32
  let c1_i32_80 : BitVec 32 := 1#32
  let arg15 : BitVec 32 := Scf.iv c64_i32_78 c1_i32_80 k0_t6
  let v289 : Index := Scalar.indexCast arg15
  let c0_190 : Index := 0#32
  ![1, v289.toNat, 0]
def k0_off93 (k0_t6 : Fin k0_t6_loop.trips) : Fin 3 → Nat :=
  let c1_i32_191 : BitVec 32 := 1#32
  let v291 : Index := Scalar.indexCast c1_i32_191
  let c64_i32_78 : BitVec 32 := 64#32
  let c1_i32_80 : BitVec 32 := 1#32
  let arg15 : BitVec 32 := Scf.iv c64_i32_78 c1_i32_80 k0_t6
  let v292 : Index := Scalar.indexCast arg15
  let c16_192 : Index := 16#32
  ![1, v292.toNat, 16]
def k0_off94 (k0_t6 : Fin k0_t6_loop.trips) : Fin 3 → Nat :=
  let c1_i32_193 : BitVec 32 := 1#32
  let v294 : Index := Scalar.indexCast c1_i32_193
  let c64_i32_78 : BitVec 32 := 64#32
  let c1_i32_80 : BitVec 32 := 1#32
  let arg15 : BitVec 32 := Scf.iv c64_i32_78 c1_i32_80 k0_t6
  let v295 : Index := Scalar.indexCast arg15
  let c32_194 : Index := 32#32
  ![1, v295.toNat, 32]
def k0_off95 (k0_t6 : Fin k0_t6_loop.trips) : Fin 3 → Nat :=
  let c1_i32_195 : BitVec 32 := 1#32
  let v297 : Index := Scalar.indexCast c1_i32_195
  let c64_i32_78 : BitVec 32 := 64#32
  let c1_i32_80 : BitVec 32 := 1#32
  let arg15 : BitVec 32 := Scf.iv c64_i32_78 c1_i32_80 k0_t6
  let v298 : Index := Scalar.indexCast arg15
  let c48_196 : Index := 48#32
  ![1, v298.toNat, 48]
@[reducible] def k0_t7_loop : Scf.Loop 32 :=
  let c80_i32_83 : BitVec 32 := 80#32
  let c16_i32_84 : BitVec 32 := 16#32
  let v139 : BitVec 32 := Scalar.addi c80_i32_83 c16_i32_84
  let c1_i32_85 : BitVec 32 := 1#32
  ⟨c80_i32_83, v139, c1_i32_85⟩
def k0_off96 (k0_t7 : Fin k0_t7_loop.trips) (c80_i32_163 : BitVec 32) : Fin 1 → Nat :=
  let c127_i32_160 : BitVec 32 := 127#32
  let c80_i32_83 : BitVec 32 := 80#32
  let c1_i32_85 : BitVec 32 := 1#32
  let arg15 : BitVec 32 := Scf.iv c80_i32_83 c1_i32_85 k0_t7
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c80_i32_163
  let v186 : Index := Scalar.indexCast v185
  ![v186.toNat]

def k0_chk31 (v195 : IVec S16 32) : Prop :=
  (∀ a x, ((![v195] : Fin 1 → IVec S16 32) a x).toNat < S8256.size a)
theorem k0_idx31_inb : ∀ (v195 : IVec S16 32) (k0_hw31 : k0_chk31 v195), ∀ a x, ((![v195] : Fin 1 → IVec S16 32) a x).toNat < S8256.size a := fun v195 k0_hw31 => k0_hw31

def k0_chk32 (v197 : IVec S16 32) : Prop :=
  (∀ a x, ((![v197] : Fin 1 → IVec S16 32) a x).toNat < S8256.size a)
theorem k0_idx32_inb : ∀ (v197 : IVec S16 32) (k0_hw32 : k0_chk32 v197), ∀ a x, ((![v197] : Fin 1 → IVec S16 32) a x).toNat < S8256.size a := fun v197 k0_hw32 => k0_hw32

def k0_chk33 (v199 : IVec S16 32) : Prop :=
  (∀ a x, ((![v199] : Fin 1 → IVec S16 32) a x).toNat < S8256.size a)
theorem k0_idx33_inb : ∀ (v199 : IVec S16 32) (k0_hw33 : k0_chk33 v199), ∀ a x, ((![v199] : Fin 1 → IVec S16 32) a x).toNat < S8256.size a := fun v199 k0_hw33 => k0_hw33

def k0_chk34 (v201 : IVec S16 32) : Prop :=
  (∀ a x, ((![v201] : Fin 1 → IVec S16 32) a x).toNat < S8256.size a)
theorem k0_idx34_inb : ∀ (v201 : IVec S16 32) (k0_hw34 : k0_chk34 v201), ∀ a x, ((![v201] : Fin 1 → IVec S16 32) a x).toNat < S8256.size a := fun v201 k0_hw34 => k0_hw34

def k0_chk35 (v203 : IVec S16 32) : Prop :=
  (∀ a x, ((![v203] : Fin 1 → IVec S16 32) a x).toNat < S8256.size a)
theorem k0_idx35_inb : ∀ (v203 : IVec S16 32) (k0_hw35 : k0_chk35 v203), ∀ a x, ((![v203] : Fin 1 → IVec S16 32) a x).toNat < S8256.size a := fun v203 k0_hw35 => k0_hw35

def k0_chk36 (v210 : IVec S16 32) : Prop :=
  (∀ a x, ((![v210] : Fin 1 → IVec S16 32) a x).toNat < S8256.size a)
theorem k0_idx36_inb : ∀ (v210 : IVec S16 32) (k0_hw36 : k0_chk36 v210), ∀ a x, ((![v210] : Fin 1 → IVec S16 32) a x).toNat < S8256.size a := fun v210 k0_hw36 => k0_hw36
def k0_off97 (k0_t7 : Fin k0_t7_loop.trips) (c80_i32_166 : BitVec 32) : Fin 1 → Nat :=
  let c127_i32_160 : BitVec 32 := 127#32
  let c80_i32_83 : BitVec 32 := 80#32
  let c1_i32_85 : BitVec 32 := 1#32
  let arg15 : BitVec 32 := Scf.iv c80_i32_83 c1_i32_85 k0_t7
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c80_i32_166
  let v218 : Index := Scalar.indexCast v217
  ![v218.toNat]

def k0_chk37 (v227 : IVec S16 32) : Prop :=
  (∀ a x, ((![v227] : Fin 1 → IVec S16 32) a x).toNat < S8256.size a)
theorem k0_idx37_inb : ∀ (v227 : IVec S16 32) (k0_hw37 : k0_chk37 v227), ∀ a x, ((![v227] : Fin 1 → IVec S16 32) a x).toNat < S8256.size a := fun v227 k0_hw37 => k0_hw37

def k0_chk38 (v229 : IVec S16 32) : Prop :=
  (∀ a x, ((![v229] : Fin 1 → IVec S16 32) a x).toNat < S8256.size a)
theorem k0_idx38_inb : ∀ (v229 : IVec S16 32) (k0_hw38 : k0_chk38 v229), ∀ a x, ((![v229] : Fin 1 → IVec S16 32) a x).toNat < S8256.size a := fun v229 k0_hw38 => k0_hw38

def k0_chk39 (v231 : IVec S16 32) : Prop :=
  (∀ a x, ((![v231] : Fin 1 → IVec S16 32) a x).toNat < S8256.size a)
theorem k0_idx39_inb : ∀ (v231 : IVec S16 32) (k0_hw39 : k0_chk39 v231), ∀ a x, ((![v231] : Fin 1 → IVec S16 32) a x).toNat < S8256.size a := fun v231 k0_hw39 => k0_hw39

def k0_chk40 (v233 : IVec S16 32) : Prop :=
  (∀ a x, ((![v233] : Fin 1 → IVec S16 32) a x).toNat < S8256.size a)
theorem k0_idx40_inb : ∀ (v233 : IVec S16 32) (k0_hw40 : k0_chk40 v233), ∀ a x, ((![v233] : Fin 1 → IVec S16 32) a x).toNat < S8256.size a := fun v233 k0_hw40 => k0_hw40

def k0_chk41 (v235 : IVec S16 32) : Prop :=
  (∀ a x, ((![v235] : Fin 1 → IVec S16 32) a x).toNat < S8256.size a)
theorem k0_idx41_inb : ∀ (v235 : IVec S16 32) (k0_hw41 : k0_chk41 v235), ∀ a x, ((![v235] : Fin 1 → IVec S16 32) a x).toNat < S8256.size a := fun v235 k0_hw41 => k0_hw41

def k0_chk42 (v242 : IVec S16 32) : Prop :=
  (∀ a x, ((![v242] : Fin 1 → IVec S16 32) a x).toNat < S8256.size a)
theorem k0_idx42_inb : ∀ (v242 : IVec S16 32) (k0_hw42 : k0_chk42 v242), ∀ a x, ((![v242] : Fin 1 → IVec S16 32) a x).toNat < S8256.size a := fun v242 k0_hw42 => k0_hw42
def k0_off98 (k0_t7 : Fin k0_t7_loop.trips) : Fin 3 → Nat :=
  let c0_i32_169 : BitVec 32 := 0#32
  let v249 : Index := Scalar.indexCast c0_i32_169
  let c80_i32_83 : BitVec 32 := 80#32
  let c1_i32_85 : BitVec 32 := 1#32
  let arg15 : BitVec 32 := Scf.iv c80_i32_83 c1_i32_85 k0_t7
  let v250 : Index := Scalar.indexCast arg15
  let c80 : Index := 80#32
  ![0, v250.toNat, 80]
def k0_off99 (k0_t7 : Fin k0_t7_loop.trips) : Fin 3 → Nat :=
  let c0_i32_170 : BitVec 32 := 0#32
  let v252 : Index := Scalar.indexCast c0_i32_170
  let c80_i32_83 : BitVec 32 := 80#32
  let c1_i32_85 : BitVec 32 := 1#32
  let arg15 : BitVec 32 := Scf.iv c80_i32_83 c1_i32_85 k0_t7
  let v253 : Index := Scalar.indexCast arg15
  let c96 : Index := 96#32
  ![0, v253.toNat, 96]
def k0_off100 (k0_t7 : Fin k0_t7_loop.trips) : Fin 3 → Nat :=
  let c0_i32_171 : BitVec 32 := 0#32
  let v255 : Index := Scalar.indexCast c0_i32_171
  let c80_i32_83 : BitVec 32 := 80#32
  let c1_i32_85 : BitVec 32 := 1#32
  let arg15 : BitVec 32 := Scf.iv c80_i32_83 c1_i32_85 k0_t7
  let v256 : Index := Scalar.indexCast arg15
  let c112 : Index := 112#32
  ![0, v256.toNat, 112]
def k0_off101 (k0_t7 : Fin k0_t7_loop.trips) : Fin 3 → Nat :=
  let c0_i32_172 : BitVec 32 := 0#32
  let v258 : Index := Scalar.indexCast c0_i32_172
  let c80_i32_83 : BitVec 32 := 80#32
  let c1_i32_85 : BitVec 32 := 1#32
  let arg15 : BitVec 32 := Scf.iv c80_i32_83 c1_i32_85 k0_t7
  let v259 : Index := Scalar.indexCast arg15
  let c0 : Index := 0#32
  ![0, v259.toNat, 0]
def k0_off102 (k0_t7 : Fin k0_t7_loop.trips) : Fin 3 → Nat :=
  let c0_i32_173 : BitVec 32 := 0#32
  let v261 : Index := Scalar.indexCast c0_i32_173
  let c80_i32_83 : BitVec 32 := 80#32
  let c1_i32_85 : BitVec 32 := 1#32
  let arg15 : BitVec 32 := Scf.iv c80_i32_83 c1_i32_85 k0_t7
  let v262 : Index := Scalar.indexCast arg15
  let c16 : Index := 16#32
  ![0, v262.toNat, 16]
def k0_off103 (k0_t7 : Fin k0_t7_loop.trips) : Fin 3 → Nat :=
  let c0_i32_174 : BitVec 32 := 0#32
  let v264 : Index := Scalar.indexCast c0_i32_174
  let c80_i32_83 : BitVec 32 := 80#32
  let c1_i32_85 : BitVec 32 := 1#32
  let arg15 : BitVec 32 := Scf.iv c80_i32_83 c1_i32_85 k0_t7
  let v265 : Index := Scalar.indexCast arg15
  let c32 : Index := 32#32
  ![0, v265.toNat, 32]
def k0_off104 (k0_t7 : Fin k0_t7_loop.trips) : Fin 3 → Nat :=
  let c0_i32_175 : BitVec 32 := 0#32
  let v267 : Index := Scalar.indexCast c0_i32_175
  let c80_i32_83 : BitVec 32 := 80#32
  let c1_i32_85 : BitVec 32 := 1#32
  let arg15 : BitVec 32 := Scf.iv c80_i32_83 c1_i32_85 k0_t7
  let v268 : Index := Scalar.indexCast arg15
  let c48 : Index := 48#32
  ![0, v268.toNat, 48]
def k0_off105 (k0_t7 : Fin k0_t7_loop.trips) : Fin 3 → Nat :=
  let c0_i32_176 : BitVec 32 := 0#32
  let v270 : Index := Scalar.indexCast c0_i32_176
  let c80_i32_83 : BitVec 32 := 80#32
  let c1_i32_85 : BitVec 32 := 1#32
  let arg15 : BitVec 32 := Scf.iv c80_i32_83 c1_i32_85 k0_t7
  let v271 : Index := Scalar.indexCast arg15
  let c64 : Index := 64#32
  ![0, v271.toNat, 64]
def k0_off106 (k0_t7 : Fin k0_t7_loop.trips) : Fin 3 → Nat :=
  let c1_i32_179 : BitVec 32 := 1#32
  let v276 : Index := Scalar.indexCast c1_i32_179
  let c80_i32_83 : BitVec 32 := 80#32
  let c1_i32_85 : BitVec 32 := 1#32
  let arg15 : BitVec 32 := Scf.iv c80_i32_83 c1_i32_85 k0_t7
  let v277 : Index := Scalar.indexCast arg15
  let c80_180 : Index := 80#32
  ![1, v277.toNat, 80]
def k0_off107 (k0_t7 : Fin k0_t7_loop.trips) : Fin 3 → Nat :=
  let c1_i32_181 : BitVec 32 := 1#32
  let v279 : Index := Scalar.indexCast c1_i32_181
  let c80_i32_83 : BitVec 32 := 80#32
  let c1_i32_85 : BitVec 32 := 1#32
  let arg15 : BitVec 32 := Scf.iv c80_i32_83 c1_i32_85 k0_t7
  let v280 : Index := Scalar.indexCast arg15
  let c96_182 : Index := 96#32
  ![1, v280.toNat, 96]
def k0_off108 (k0_t7 : Fin k0_t7_loop.trips) : Fin 3 → Nat :=
  let c1_i32_183 : BitVec 32 := 1#32
  let v282 : Index := Scalar.indexCast c1_i32_183
  let c80_i32_83 : BitVec 32 := 80#32
  let c1_i32_85 : BitVec 32 := 1#32
  let arg15 : BitVec 32 := Scf.iv c80_i32_83 c1_i32_85 k0_t7
  let v283 : Index := Scalar.indexCast arg15
  let c112_184 : Index := 112#32
  ![1, v283.toNat, 112]
def k0_off109 (k0_t7 : Fin k0_t7_loop.trips) : Fin 3 → Nat :=
  let c1_i32_185 : BitVec 32 := 1#32
  let v285 : Index := Scalar.indexCast c1_i32_185
  let c80_i32_83 : BitVec 32 := 80#32
  let c1_i32_85 : BitVec 32 := 1#32
  let arg15 : BitVec 32 := Scf.iv c80_i32_83 c1_i32_85 k0_t7
  let v286 : Index := Scalar.indexCast arg15
  let c0_186 : Index := 0#32
  ![1, v286.toNat, 0]
def k0_off110 (k0_t7 : Fin k0_t7_loop.trips) : Fin 3 → Nat :=
  let c1_i32_187 : BitVec 32 := 1#32
  let v288 : Index := Scalar.indexCast c1_i32_187
  let c80_i32_83 : BitVec 32 := 80#32
  let c1_i32_85 : BitVec 32 := 1#32
  let arg15 : BitVec 32 := Scf.iv c80_i32_83 c1_i32_85 k0_t7
  let v289 : Index := Scalar.indexCast arg15
  let c16_188 : Index := 16#32
  ![1, v289.toNat, 16]
def k0_off111 (k0_t7 : Fin k0_t7_loop.trips) : Fin 3 → Nat :=
  let c1_i32_189 : BitVec 32 := 1#32
  let v291 : Index := Scalar.indexCast c1_i32_189
  let c80_i32_83 : BitVec 32 := 80#32
  let c1_i32_85 : BitVec 32 := 1#32
  let arg15 : BitVec 32 := Scf.iv c80_i32_83 c1_i32_85 k0_t7
  let v292 : Index := Scalar.indexCast arg15
  let c32_190 : Index := 32#32
  ![1, v292.toNat, 32]
def k0_off112 (k0_t7 : Fin k0_t7_loop.trips) : Fin 3 → Nat :=
  let c1_i32_191 : BitVec 32 := 1#32
  let v294 : Index := Scalar.indexCast c1_i32_191
  let c80_i32_83 : BitVec 32 := 80#32
  let c1_i32_85 : BitVec 32 := 1#32
  let arg15 : BitVec 32 := Scf.iv c80_i32_83 c1_i32_85 k0_t7
  let v295 : Index := Scalar.indexCast arg15
  let c48_192 : Index := 48#32
  ![1, v295.toNat, 48]
def k0_off113 (k0_t7 : Fin k0_t7_loop.trips) : Fin 3 → Nat :=
  let c1_i32_193 : BitVec 32 := 1#32
  let v297 : Index := Scalar.indexCast c1_i32_193
  let c80_i32_83 : BitVec 32 := 80#32
  let c1_i32_85 : BitVec 32 := 1#32
  let arg15 : BitVec 32 := Scf.iv c80_i32_83 c1_i32_85 k0_t7
  let v298 : Index := Scalar.indexCast arg15
  let c64_194 : Index := 64#32
  ![1, v298.toNat, 64]
@[reducible] def k0_t8_loop : Scf.Loop 32 :=
  let c96_i32_88 : BitVec 32 := 96#32
  let c16_i32_89 : BitVec 32 := 16#32
  let v140 : BitVec 32 := Scalar.addi c96_i32_88 c16_i32_89
  let c1_i32_90 : BitVec 32 := 1#32
  ⟨c96_i32_88, v140, c1_i32_90⟩
def k0_off114 (k0_t8 : Fin k0_t8_loop.trips) (c96_i32_163 : BitVec 32) : Fin 1 → Nat :=
  let c127_i32_160 : BitVec 32 := 127#32
  let c96_i32_88 : BitVec 32 := 96#32
  let c1_i32_90 : BitVec 32 := 1#32
  let arg15 : BitVec 32 := Scf.iv c96_i32_88 c1_i32_90 k0_t8
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c96_i32_163
  let v186 : Index := Scalar.indexCast v185
  ![v186.toNat]

def k0_chk43 (v192 : IVec S16 32) : Prop :=
  (∀ a x, ((![v192] : Fin 1 → IVec S16 32) a x).toNat < S8256.size a)
theorem k0_idx43_inb : ∀ (v192 : IVec S16 32) (k0_hw43 : k0_chk43 v192), ∀ a x, ((![v192] : Fin 1 → IVec S16 32) a x).toNat < S8256.size a := fun v192 k0_hw43 => k0_hw43

def k0_chk44 (v194 : IVec S16 32) : Prop :=
  (∀ a x, ((![v194] : Fin 1 → IVec S16 32) a x).toNat < S8256.size a)
theorem k0_idx44_inb : ∀ (v194 : IVec S16 32) (k0_hw44 : k0_chk44 v194), ∀ a x, ((![v194] : Fin 1 → IVec S16 32) a x).toNat < S8256.size a := fun v194 k0_hw44 => k0_hw44

def k0_chk45 (v196 : IVec S16 32) : Prop :=
  (∀ a x, ((![v196] : Fin 1 → IVec S16 32) a x).toNat < S8256.size a)
theorem k0_idx45_inb : ∀ (v196 : IVec S16 32) (k0_hw45 : k0_chk45 v196), ∀ a x, ((![v196] : Fin 1 → IVec S16 32) a x).toNat < S8256.size a := fun v196 k0_hw45 => k0_hw45

def k0_chk46 (v198 : IVec S16 32) : Prop :=
  (∀ a x, ((![v198] : Fin 1 → IVec S16 32) a x).toNat < S8256.size a)
theorem k0_idx46_inb : ∀ (v198 : IVec S16 32) (k0_hw46 : k0_chk46 v198), ∀ a x, ((![v198] : Fin 1 → IVec S16 32) a x).toNat < S8256.size a := fun v198 k0_hw46 => k0_hw46

def k0_chk47 (v200 : IVec S16 32) : Prop :=
  (∀ a x, ((![v200] : Fin 1 → IVec S16 32) a x).toNat < S8256.size a)
theorem k0_idx47_inb : ∀ (v200 : IVec S16 32) (k0_hw47 : k0_chk47 v200), ∀ a x, ((![v200] : Fin 1 → IVec S16 32) a x).toNat < S8256.size a := fun v200 k0_hw47 => k0_hw47

def k0_chk48 (v202 : IVec S16 32) : Prop :=
  (∀ a x, ((![v202] : Fin 1 → IVec S16 32) a x).toNat < S8256.size a)
theorem k0_idx48_inb : ∀ (v202 : IVec S16 32) (k0_hw48 : k0_chk48 v202), ∀ a x, ((![v202] : Fin 1 → IVec S16 32) a x).toNat < S8256.size a := fun v202 k0_hw48 => k0_hw48

def k0_chk49 (v209 : IVec S16 32) : Prop :=
  (∀ a x, ((![v209] : Fin 1 → IVec S16 32) a x).toNat < S8256.size a)
theorem k0_idx49_inb : ∀ (v209 : IVec S16 32) (k0_hw49 : k0_chk49 v209), ∀ a x, ((![v209] : Fin 1 → IVec S16 32) a x).toNat < S8256.size a := fun v209 k0_hw49 => k0_hw49
def k0_off115 (k0_t8 : Fin k0_t8_loop.trips) (c96_i32_165 : BitVec 32) : Fin 1 → Nat :=
  let c127_i32_160 : BitVec 32 := 127#32
  let c96_i32_88 : BitVec 32 := 96#32
  let c1_i32_90 : BitVec 32 := 1#32
  let arg15 : BitVec 32 := Scf.iv c96_i32_88 c1_i32_90 k0_t8
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c96_i32_165
  let v218 : Index := Scalar.indexCast v217
  ![v218.toNat]

def k0_chk50 (v224 : IVec S16 32) : Prop :=
  (∀ a x, ((![v224] : Fin 1 → IVec S16 32) a x).toNat < S8256.size a)
theorem k0_idx50_inb : ∀ (v224 : IVec S16 32) (k0_hw50 : k0_chk50 v224), ∀ a x, ((![v224] : Fin 1 → IVec S16 32) a x).toNat < S8256.size a := fun v224 k0_hw50 => k0_hw50

def k0_chk51 (v226 : IVec S16 32) : Prop :=
  (∀ a x, ((![v226] : Fin 1 → IVec S16 32) a x).toNat < S8256.size a)
theorem k0_idx51_inb : ∀ (v226 : IVec S16 32) (k0_hw51 : k0_chk51 v226), ∀ a x, ((![v226] : Fin 1 → IVec S16 32) a x).toNat < S8256.size a := fun v226 k0_hw51 => k0_hw51

def k0_chk52 (v228 : IVec S16 32) : Prop :=
  (∀ a x, ((![v228] : Fin 1 → IVec S16 32) a x).toNat < S8256.size a)
theorem k0_idx52_inb : ∀ (v228 : IVec S16 32) (k0_hw52 : k0_chk52 v228), ∀ a x, ((![v228] : Fin 1 → IVec S16 32) a x).toNat < S8256.size a := fun v228 k0_hw52 => k0_hw52

def k0_chk53 (v230 : IVec S16 32) : Prop :=
  (∀ a x, ((![v230] : Fin 1 → IVec S16 32) a x).toNat < S8256.size a)
theorem k0_idx53_inb : ∀ (v230 : IVec S16 32) (k0_hw53 : k0_chk53 v230), ∀ a x, ((![v230] : Fin 1 → IVec S16 32) a x).toNat < S8256.size a := fun v230 k0_hw53 => k0_hw53

def k0_chk54 (v232 : IVec S16 32) : Prop :=
  (∀ a x, ((![v232] : Fin 1 → IVec S16 32) a x).toNat < S8256.size a)
theorem k0_idx54_inb : ∀ (v232 : IVec S16 32) (k0_hw54 : k0_chk54 v232), ∀ a x, ((![v232] : Fin 1 → IVec S16 32) a x).toNat < S8256.size a := fun v232 k0_hw54 => k0_hw54

def k0_chk55 (v234 : IVec S16 32) : Prop :=
  (∀ a x, ((![v234] : Fin 1 → IVec S16 32) a x).toNat < S8256.size a)
theorem k0_idx55_inb : ∀ (v234 : IVec S16 32) (k0_hw55 : k0_chk55 v234), ∀ a x, ((![v234] : Fin 1 → IVec S16 32) a x).toNat < S8256.size a := fun v234 k0_hw55 => k0_hw55

def k0_chk56 (v241 : IVec S16 32) : Prop :=
  (∀ a x, ((![v241] : Fin 1 → IVec S16 32) a x).toNat < S8256.size a)
theorem k0_idx56_inb : ∀ (v241 : IVec S16 32) (k0_hw56 : k0_chk56 v241), ∀ a x, ((![v241] : Fin 1 → IVec S16 32) a x).toNat < S8256.size a := fun v241 k0_hw56 => k0_hw56
def k0_off116 (k0_t8 : Fin k0_t8_loop.trips) : Fin 3 → Nat :=
  let c0_i32_167 : BitVec 32 := 0#32
  let v249 : Index := Scalar.indexCast c0_i32_167
  let c96_i32_88 : BitVec 32 := 96#32
  let c1_i32_90 : BitVec 32 := 1#32
  let arg15 : BitVec 32 := Scf.iv c96_i32_88 c1_i32_90 k0_t8
  let v250 : Index := Scalar.indexCast arg15
  let c96 : Index := 96#32
  ![0, v250.toNat, 96]
def k0_off117 (k0_t8 : Fin k0_t8_loop.trips) : Fin 3 → Nat :=
  let c0_i32_168 : BitVec 32 := 0#32
  let v252 : Index := Scalar.indexCast c0_i32_168
  let c96_i32_88 : BitVec 32 := 96#32
  let c1_i32_90 : BitVec 32 := 1#32
  let arg15 : BitVec 32 := Scf.iv c96_i32_88 c1_i32_90 k0_t8
  let v253 : Index := Scalar.indexCast arg15
  let c112 : Index := 112#32
  ![0, v253.toNat, 112]
def k0_off118 (k0_t8 : Fin k0_t8_loop.trips) : Fin 3 → Nat :=
  let c0_i32_169 : BitVec 32 := 0#32
  let v255 : Index := Scalar.indexCast c0_i32_169
  let c96_i32_88 : BitVec 32 := 96#32
  let c1_i32_90 : BitVec 32 := 1#32
  let arg15 : BitVec 32 := Scf.iv c96_i32_88 c1_i32_90 k0_t8
  let v256 : Index := Scalar.indexCast arg15
  let c0 : Index := 0#32
  ![0, v256.toNat, 0]
def k0_off119 (k0_t8 : Fin k0_t8_loop.trips) : Fin 3 → Nat :=
  let c0_i32_170 : BitVec 32 := 0#32
  let v258 : Index := Scalar.indexCast c0_i32_170
  let c96_i32_88 : BitVec 32 := 96#32
  let c1_i32_90 : BitVec 32 := 1#32
  let arg15 : BitVec 32 := Scf.iv c96_i32_88 c1_i32_90 k0_t8
  let v259 : Index := Scalar.indexCast arg15
  let c16 : Index := 16#32
  ![0, v259.toNat, 16]
def k0_off120 (k0_t8 : Fin k0_t8_loop.trips) : Fin 3 → Nat :=
  let c0_i32_171 : BitVec 32 := 0#32
  let v261 : Index := Scalar.indexCast c0_i32_171
  let c96_i32_88 : BitVec 32 := 96#32
  let c1_i32_90 : BitVec 32 := 1#32
  let arg15 : BitVec 32 := Scf.iv c96_i32_88 c1_i32_90 k0_t8
  let v262 : Index := Scalar.indexCast arg15
  let c32 : Index := 32#32
  ![0, v262.toNat, 32]
def k0_off121 (k0_t8 : Fin k0_t8_loop.trips) : Fin 3 → Nat :=
  let c0_i32_172 : BitVec 32 := 0#32
  let v264 : Index := Scalar.indexCast c0_i32_172
  let c96_i32_88 : BitVec 32 := 96#32
  let c1_i32_90 : BitVec 32 := 1#32
  let arg15 : BitVec 32 := Scf.iv c96_i32_88 c1_i32_90 k0_t8
  let v265 : Index := Scalar.indexCast arg15
  let c48 : Index := 48#32
  ![0, v265.toNat, 48]
def k0_off122 (k0_t8 : Fin k0_t8_loop.trips) : Fin 3 → Nat :=
  let c0_i32_173 : BitVec 32 := 0#32
  let v267 : Index := Scalar.indexCast c0_i32_173
  let c96_i32_88 : BitVec 32 := 96#32
  let c1_i32_90 : BitVec 32 := 1#32
  let arg15 : BitVec 32 := Scf.iv c96_i32_88 c1_i32_90 k0_t8
  let v268 : Index := Scalar.indexCast arg15
  let c64 : Index := 64#32
  ![0, v268.toNat, 64]
def k0_off123 (k0_t8 : Fin k0_t8_loop.trips) : Fin 3 → Nat :=
  let c0_i32_174 : BitVec 32 := 0#32
  let v270 : Index := Scalar.indexCast c0_i32_174
  let c96_i32_88 : BitVec 32 := 96#32
  let c1_i32_90 : BitVec 32 := 1#32
  let arg15 : BitVec 32 := Scf.iv c96_i32_88 c1_i32_90 k0_t8
  let v271 : Index := Scalar.indexCast arg15
  let c80 : Index := 80#32
  ![0, v271.toNat, 80]
def k0_off124 (k0_t8 : Fin k0_t8_loop.trips) : Fin 3 → Nat :=
  let c1_i32_177 : BitVec 32 := 1#32
  let v276 : Index := Scalar.indexCast c1_i32_177
  let c96_i32_88 : BitVec 32 := 96#32
  let c1_i32_90 : BitVec 32 := 1#32
  let arg15 : BitVec 32 := Scf.iv c96_i32_88 c1_i32_90 k0_t8
  let v277 : Index := Scalar.indexCast arg15
  let c96_178 : Index := 96#32
  ![1, v277.toNat, 96]
def k0_off125 (k0_t8 : Fin k0_t8_loop.trips) : Fin 3 → Nat :=
  let c1_i32_179 : BitVec 32 := 1#32
  let v279 : Index := Scalar.indexCast c1_i32_179
  let c96_i32_88 : BitVec 32 := 96#32
  let c1_i32_90 : BitVec 32 := 1#32
  let arg15 : BitVec 32 := Scf.iv c96_i32_88 c1_i32_90 k0_t8
  let v280 : Index := Scalar.indexCast arg15
  let c112_180 : Index := 112#32
  ![1, v280.toNat, 112]
def k0_off126 (k0_t8 : Fin k0_t8_loop.trips) : Fin 3 → Nat :=
  let c1_i32_181 : BitVec 32 := 1#32
  let v282 : Index := Scalar.indexCast c1_i32_181
  let c96_i32_88 : BitVec 32 := 96#32
  let c1_i32_90 : BitVec 32 := 1#32
  let arg15 : BitVec 32 := Scf.iv c96_i32_88 c1_i32_90 k0_t8
  let v283 : Index := Scalar.indexCast arg15
  let c0_182 : Index := 0#32
  ![1, v283.toNat, 0]
def k0_off127 (k0_t8 : Fin k0_t8_loop.trips) : Fin 3 → Nat :=
  let c1_i32_183 : BitVec 32 := 1#32
  let v285 : Index := Scalar.indexCast c1_i32_183
  let c96_i32_88 : BitVec 32 := 96#32
  let c1_i32_90 : BitVec 32 := 1#32
  let arg15 : BitVec 32 := Scf.iv c96_i32_88 c1_i32_90 k0_t8
  let v286 : Index := Scalar.indexCast arg15
  let c16_184 : Index := 16#32
  ![1, v286.toNat, 16]
def k0_off128 (k0_t8 : Fin k0_t8_loop.trips) : Fin 3 → Nat :=
  let c1_i32_185 : BitVec 32 := 1#32
  let v288 : Index := Scalar.indexCast c1_i32_185
  let c96_i32_88 : BitVec 32 := 96#32
  let c1_i32_90 : BitVec 32 := 1#32
  let arg15 : BitVec 32 := Scf.iv c96_i32_88 c1_i32_90 k0_t8
  let v289 : Index := Scalar.indexCast arg15
  let c32_186 : Index := 32#32
  ![1, v289.toNat, 32]
def k0_off129 (k0_t8 : Fin k0_t8_loop.trips) : Fin 3 → Nat :=
  let c1_i32_187 : BitVec 32 := 1#32
  let v291 : Index := Scalar.indexCast c1_i32_187
  let c96_i32_88 : BitVec 32 := 96#32
  let c1_i32_90 : BitVec 32 := 1#32
  let arg15 : BitVec 32 := Scf.iv c96_i32_88 c1_i32_90 k0_t8
  let v292 : Index := Scalar.indexCast arg15
  let c48_188 : Index := 48#32
  ![1, v292.toNat, 48]
def k0_off130 (k0_t8 : Fin k0_t8_loop.trips) : Fin 3 → Nat :=
  let c1_i32_189 : BitVec 32 := 1#32
  let v294 : Index := Scalar.indexCast c1_i32_189
  let c96_i32_88 : BitVec 32 := 96#32
  let c1_i32_90 : BitVec 32 := 1#32
  let arg15 : BitVec 32 := Scf.iv c96_i32_88 c1_i32_90 k0_t8
  let v295 : Index := Scalar.indexCast arg15
  let c64_190 : Index := 64#32
  ![1, v295.toNat, 64]
def k0_off131 (k0_t8 : Fin k0_t8_loop.trips) : Fin 3 → Nat :=
  let c1_i32_191 : BitVec 32 := 1#32
  let v297 : Index := Scalar.indexCast c1_i32_191
  let c96_i32_88 : BitVec 32 := 96#32
  let c1_i32_90 : BitVec 32 := 1#32
  let arg15 : BitVec 32 := Scf.iv c96_i32_88 c1_i32_90 k0_t8
  let v298 : Index := Scalar.indexCast arg15
  let c80_192 : Index := 80#32
  ![1, v298.toNat, 80]
@[reducible] def k0_t9_loop : Scf.Loop 32 :=
  let c112_i32_93 : BitVec 32 := 112#32
  let c16_i32_94 : BitVec 32 := 16#32
  let v141 : BitVec 32 := Scalar.addi c112_i32_93 c16_i32_94
  let c1_i32_95 : BitVec 32 := 1#32
  ⟨c112_i32_93, v141, c1_i32_95⟩
def k0_off132 (k0_t9 : Fin k0_t9_loop.trips) : Fin 1 → Nat :=
  let c127_i32_160 : BitVec 32 := 127#32
  let c112_i32_93 : BitVec 32 := 112#32
  let c1_i32_95 : BitVec 32 := 1#32
  let arg15 : BitVec 32 := Scf.iv c112_i32_93 c1_i32_95 k0_t9
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let c112_i32_163 : BitVec 32 := 112#32
  let v185 : BitVec 32 := Scalar.addi v184 c112_i32_163
  let v186 : Index := Scalar.indexCast v185
  ![v186.toNat]

def k0_chk57 (v189 : IVec S16 32) : Prop :=
  (∀ a x, ((![v189] : Fin 1 → IVec S16 32) a x).toNat < S8256.size a)
theorem k0_idx57_inb : ∀ (v189 : IVec S16 32) (k0_hw57 : k0_chk57 v189), ∀ a x, ((![v189] : Fin 1 → IVec S16 32) a x).toNat < S8256.size a := fun v189 k0_hw57 => k0_hw57

def k0_chk58 (v191 : IVec S16 32) : Prop :=
  (∀ a x, ((![v191] : Fin 1 → IVec S16 32) a x).toNat < S8256.size a)
theorem k0_idx58_inb : ∀ (v191 : IVec S16 32) (k0_hw58 : k0_chk58 v191), ∀ a x, ((![v191] : Fin 1 → IVec S16 32) a x).toNat < S8256.size a := fun v191 k0_hw58 => k0_hw58

def k0_chk59 (v193 : IVec S16 32) : Prop :=
  (∀ a x, ((![v193] : Fin 1 → IVec S16 32) a x).toNat < S8256.size a)
theorem k0_idx59_inb : ∀ (v193 : IVec S16 32) (k0_hw59 : k0_chk59 v193), ∀ a x, ((![v193] : Fin 1 → IVec S16 32) a x).toNat < S8256.size a := fun v193 k0_hw59 => k0_hw59

def k0_chk60 (v195 : IVec S16 32) : Prop :=
  (∀ a x, ((![v195] : Fin 1 → IVec S16 32) a x).toNat < S8256.size a)
theorem k0_idx60_inb : ∀ (v195 : IVec S16 32) (k0_hw60 : k0_chk60 v195), ∀ a x, ((![v195] : Fin 1 → IVec S16 32) a x).toNat < S8256.size a := fun v195 k0_hw60 => k0_hw60

def k0_chk61 (v197 : IVec S16 32) : Prop :=
  (∀ a x, ((![v197] : Fin 1 → IVec S16 32) a x).toNat < S8256.size a)
theorem k0_idx61_inb : ∀ (v197 : IVec S16 32) (k0_hw61 : k0_chk61 v197), ∀ a x, ((![v197] : Fin 1 → IVec S16 32) a x).toNat < S8256.size a := fun v197 k0_hw61 => k0_hw61

def k0_chk62 (v199 : IVec S16 32) : Prop :=
  (∀ a x, ((![v199] : Fin 1 → IVec S16 32) a x).toNat < S8256.size a)
theorem k0_idx62_inb : ∀ (v199 : IVec S16 32) (k0_hw62 : k0_chk62 v199), ∀ a x, ((![v199] : Fin 1 → IVec S16 32) a x).toNat < S8256.size a := fun v199 k0_hw62 => k0_hw62

def k0_chk63 (v201 : IVec S16 32) : Prop :=
  (∀ a x, ((![v201] : Fin 1 → IVec S16 32) a x).toNat < S8256.size a)
theorem k0_idx63_inb : ∀ (v201 : IVec S16 32) (k0_hw63 : k0_chk63 v201), ∀ a x, ((![v201] : Fin 1 → IVec S16 32) a x).toNat < S8256.size a := fun v201 k0_hw63 => k0_hw63

def k0_chk64 (v208 : IVec S16 32) : Prop :=
  (∀ a x, ((![v208] : Fin 1 → IVec S16 32) a x).toNat < S8256.size a)
theorem k0_idx64_inb : ∀ (v208 : IVec S16 32) (k0_hw64 : k0_chk64 v208), ∀ a x, ((![v208] : Fin 1 → IVec S16 32) a x).toNat < S8256.size a := fun v208 k0_hw64 => k0_hw64
def k0_off133 (k0_t9 : Fin k0_t9_loop.trips) : Fin 1 → Nat :=
  let c127_i32_160 : BitVec 32 := 127#32
  let c112_i32_93 : BitVec 32 := 112#32
  let c1_i32_95 : BitVec 32 := 1#32
  let arg15 : BitVec 32 := Scf.iv c112_i32_93 c1_i32_95 k0_t9
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let c112_i32_164 : BitVec 32 := 112#32
  let v217 : BitVec 32 := Scalar.addi v184 c112_i32_164
  let v218 : Index := Scalar.indexCast v217
  ![v218.toNat]

def k0_chk65 (v221 : IVec S16 32) : Prop :=
  (∀ a x, ((![v221] : Fin 1 → IVec S16 32) a x).toNat < S8256.size a)
theorem k0_idx65_inb : ∀ (v221 : IVec S16 32) (k0_hw65 : k0_chk65 v221), ∀ a x, ((![v221] : Fin 1 → IVec S16 32) a x).toNat < S8256.size a := fun v221 k0_hw65 => k0_hw65

def k0_chk66 (v223 : IVec S16 32) : Prop :=
  (∀ a x, ((![v223] : Fin 1 → IVec S16 32) a x).toNat < S8256.size a)
theorem k0_idx66_inb : ∀ (v223 : IVec S16 32) (k0_hw66 : k0_chk66 v223), ∀ a x, ((![v223] : Fin 1 → IVec S16 32) a x).toNat < S8256.size a := fun v223 k0_hw66 => k0_hw66

def k0_chk67 (v225 : IVec S16 32) : Prop :=
  (∀ a x, ((![v225] : Fin 1 → IVec S16 32) a x).toNat < S8256.size a)
theorem k0_idx67_inb : ∀ (v225 : IVec S16 32) (k0_hw67 : k0_chk67 v225), ∀ a x, ((![v225] : Fin 1 → IVec S16 32) a x).toNat < S8256.size a := fun v225 k0_hw67 => k0_hw67

def k0_chk68 (v227 : IVec S16 32) : Prop :=
  (∀ a x, ((![v227] : Fin 1 → IVec S16 32) a x).toNat < S8256.size a)
theorem k0_idx68_inb : ∀ (v227 : IVec S16 32) (k0_hw68 : k0_chk68 v227), ∀ a x, ((![v227] : Fin 1 → IVec S16 32) a x).toNat < S8256.size a := fun v227 k0_hw68 => k0_hw68

def k0_chk69 (v229 : IVec S16 32) : Prop :=
  (∀ a x, ((![v229] : Fin 1 → IVec S16 32) a x).toNat < S8256.size a)
theorem k0_idx69_inb : ∀ (v229 : IVec S16 32) (k0_hw69 : k0_chk69 v229), ∀ a x, ((![v229] : Fin 1 → IVec S16 32) a x).toNat < S8256.size a := fun v229 k0_hw69 => k0_hw69

def k0_chk70 (v231 : IVec S16 32) : Prop :=
  (∀ a x, ((![v231] : Fin 1 → IVec S16 32) a x).toNat < S8256.size a)
theorem k0_idx70_inb : ∀ (v231 : IVec S16 32) (k0_hw70 : k0_chk70 v231), ∀ a x, ((![v231] : Fin 1 → IVec S16 32) a x).toNat < S8256.size a := fun v231 k0_hw70 => k0_hw70

def k0_chk71 (v233 : IVec S16 32) : Prop :=
  (∀ a x, ((![v233] : Fin 1 → IVec S16 32) a x).toNat < S8256.size a)
theorem k0_idx71_inb : ∀ (v233 : IVec S16 32) (k0_hw71 : k0_chk71 v233), ∀ a x, ((![v233] : Fin 1 → IVec S16 32) a x).toNat < S8256.size a := fun v233 k0_hw71 => k0_hw71

def k0_chk72 (v240 : IVec S16 32) : Prop :=
  (∀ a x, ((![v240] : Fin 1 → IVec S16 32) a x).toNat < S8256.size a)
theorem k0_idx72_inb : ∀ (v240 : IVec S16 32) (k0_hw72 : k0_chk72 v240), ∀ a x, ((![v240] : Fin 1 → IVec S16 32) a x).toNat < S8256.size a := fun v240 k0_hw72 => k0_hw72
def k0_off134 (k0_t9 : Fin k0_t9_loop.trips) : Fin 3 → Nat :=
  let c0_i32_165 : BitVec 32 := 0#32
  let v249 : Index := Scalar.indexCast c0_i32_165
  let c112_i32_93 : BitVec 32 := 112#32
  let c1_i32_95 : BitVec 32 := 1#32
  let arg15 : BitVec 32 := Scf.iv c112_i32_93 c1_i32_95 k0_t9
  let v250 : Index := Scalar.indexCast arg15
  let c112 : Index := 112#32
  ![0, v250.toNat, 112]
def k0_off135 (k0_t9 : Fin k0_t9_loop.trips) : Fin 3 → Nat :=
  let c0_i32_166 : BitVec 32 := 0#32
  let v252 : Index := Scalar.indexCast c0_i32_166
  let c112_i32_93 : BitVec 32 := 112#32
  let c1_i32_95 : BitVec 32 := 1#32
  let arg15 : BitVec 32 := Scf.iv c112_i32_93 c1_i32_95 k0_t9
  let v253 : Index := Scalar.indexCast arg15
  let c0 : Index := 0#32
  ![0, v253.toNat, 0]
def k0_off136 (k0_t9 : Fin k0_t9_loop.trips) : Fin 3 → Nat :=
  let c0_i32_167 : BitVec 32 := 0#32
  let v255 : Index := Scalar.indexCast c0_i32_167
  let c112_i32_93 : BitVec 32 := 112#32
  let c1_i32_95 : BitVec 32 := 1#32
  let arg15 : BitVec 32 := Scf.iv c112_i32_93 c1_i32_95 k0_t9
  let v256 : Index := Scalar.indexCast arg15
  let c16 : Index := 16#32
  ![0, v256.toNat, 16]
def k0_off137 (k0_t9 : Fin k0_t9_loop.trips) : Fin 3 → Nat :=
  let c0_i32_168 : BitVec 32 := 0#32
  let v258 : Index := Scalar.indexCast c0_i32_168
  let c112_i32_93 : BitVec 32 := 112#32
  let c1_i32_95 : BitVec 32 := 1#32
  let arg15 : BitVec 32 := Scf.iv c112_i32_93 c1_i32_95 k0_t9
  let v259 : Index := Scalar.indexCast arg15
  let c32 : Index := 32#32
  ![0, v259.toNat, 32]
def k0_off138 (k0_t9 : Fin k0_t9_loop.trips) : Fin 3 → Nat :=
  let c0_i32_169 : BitVec 32 := 0#32
  let v261 : Index := Scalar.indexCast c0_i32_169
  let c112_i32_93 : BitVec 32 := 112#32
  let c1_i32_95 : BitVec 32 := 1#32
  let arg15 : BitVec 32 := Scf.iv c112_i32_93 c1_i32_95 k0_t9
  let v262 : Index := Scalar.indexCast arg15
  let c48 : Index := 48#32
  ![0, v262.toNat, 48]
def k0_off139 (k0_t9 : Fin k0_t9_loop.trips) : Fin 3 → Nat :=
  let c0_i32_170 : BitVec 32 := 0#32
  let v264 : Index := Scalar.indexCast c0_i32_170
  let c112_i32_93 : BitVec 32 := 112#32
  let c1_i32_95 : BitVec 32 := 1#32
  let arg15 : BitVec 32 := Scf.iv c112_i32_93 c1_i32_95 k0_t9
  let v265 : Index := Scalar.indexCast arg15
  let c64 : Index := 64#32
  ![0, v265.toNat, 64]
def k0_off140 (k0_t9 : Fin k0_t9_loop.trips) : Fin 3 → Nat :=
  let c0_i32_171 : BitVec 32 := 0#32
  let v267 : Index := Scalar.indexCast c0_i32_171
  let c112_i32_93 : BitVec 32 := 112#32
  let c1_i32_95 : BitVec 32 := 1#32
  let arg15 : BitVec 32 := Scf.iv c112_i32_93 c1_i32_95 k0_t9
  let v268 : Index := Scalar.indexCast arg15
  let c80 : Index := 80#32
  ![0, v268.toNat, 80]
def k0_off141 (k0_t9 : Fin k0_t9_loop.trips) : Fin 3 → Nat :=
  let c0_i32_172 : BitVec 32 := 0#32
  let v270 : Index := Scalar.indexCast c0_i32_172
  let c112_i32_93 : BitVec 32 := 112#32
  let c1_i32_95 : BitVec 32 := 1#32
  let arg15 : BitVec 32 := Scf.iv c112_i32_93 c1_i32_95 k0_t9
  let v271 : Index := Scalar.indexCast arg15
  let c96 : Index := 96#32
  ![0, v271.toNat, 96]
def k0_off142 (k0_t9 : Fin k0_t9_loop.trips) : Fin 3 → Nat :=
  let c1_i32_175 : BitVec 32 := 1#32
  let v276 : Index := Scalar.indexCast c1_i32_175
  let c112_i32_93 : BitVec 32 := 112#32
  let c1_i32_95 : BitVec 32 := 1#32
  let arg15 : BitVec 32 := Scf.iv c112_i32_93 c1_i32_95 k0_t9
  let v277 : Index := Scalar.indexCast arg15
  let c112_176 : Index := 112#32
  ![1, v277.toNat, 112]
def k0_off143 (k0_t9 : Fin k0_t9_loop.trips) : Fin 3 → Nat :=
  let c1_i32_177 : BitVec 32 := 1#32
  let v279 : Index := Scalar.indexCast c1_i32_177
  let c112_i32_93 : BitVec 32 := 112#32
  let c1_i32_95 : BitVec 32 := 1#32
  let arg15 : BitVec 32 := Scf.iv c112_i32_93 c1_i32_95 k0_t9
  let v280 : Index := Scalar.indexCast arg15
  let c0_178 : Index := 0#32
  ![1, v280.toNat, 0]
def k0_off144 (k0_t9 : Fin k0_t9_loop.trips) : Fin 3 → Nat :=
  let c1_i32_179 : BitVec 32 := 1#32
  let v282 : Index := Scalar.indexCast c1_i32_179
  let c112_i32_93 : BitVec 32 := 112#32
  let c1_i32_95 : BitVec 32 := 1#32
  let arg15 : BitVec 32 := Scf.iv c112_i32_93 c1_i32_95 k0_t9
  let v283 : Index := Scalar.indexCast arg15
  let c16_180 : Index := 16#32
  ![1, v283.toNat, 16]
def k0_off145 (k0_t9 : Fin k0_t9_loop.trips) : Fin 3 → Nat :=
  let c1_i32_181 : BitVec 32 := 1#32
  let v285 : Index := Scalar.indexCast c1_i32_181
  let c112_i32_93 : BitVec 32 := 112#32
  let c1_i32_95 : BitVec 32 := 1#32
  let arg15 : BitVec 32 := Scf.iv c112_i32_93 c1_i32_95 k0_t9
  let v286 : Index := Scalar.indexCast arg15
  let c32_182 : Index := 32#32
  ![1, v286.toNat, 32]
def k0_off146 (k0_t9 : Fin k0_t9_loop.trips) : Fin 3 → Nat :=
  let c1_i32_183 : BitVec 32 := 1#32
  let v288 : Index := Scalar.indexCast c1_i32_183
  let c112_i32_93 : BitVec 32 := 112#32
  let c1_i32_95 : BitVec 32 := 1#32
  let arg15 : BitVec 32 := Scf.iv c112_i32_93 c1_i32_95 k0_t9
  let v289 : Index := Scalar.indexCast arg15
  let c48_184 : Index := 48#32
  ![1, v289.toNat, 48]
def k0_off147 (k0_t9 : Fin k0_t9_loop.trips) : Fin 3 → Nat :=
  let c1_i32_185 : BitVec 32 := 1#32
  let v291 : Index := Scalar.indexCast c1_i32_185
  let c112_i32_93 : BitVec 32 := 112#32
  let c1_i32_95 : BitVec 32 := 1#32
  let arg15 : BitVec 32 := Scf.iv c112_i32_93 c1_i32_95 k0_t9
  let v292 : Index := Scalar.indexCast arg15
  let c64_186 : Index := 64#32
  ![1, v292.toNat, 64]
def k0_off148 (k0_t9 : Fin k0_t9_loop.trips) : Fin 3 → Nat :=
  let c1_i32_187 : BitVec 32 := 1#32
  let v294 : Index := Scalar.indexCast c1_i32_187
  let c112_i32_93 : BitVec 32 := 112#32
  let c1_i32_95 : BitVec 32 := 1#32
  let arg15 : BitVec 32 := Scf.iv c112_i32_93 c1_i32_95 k0_t9
  let v295 : Index := Scalar.indexCast arg15
  let c80_188 : Index := 80#32
  ![1, v295.toNat, 80]
def k0_off149 (k0_t9 : Fin k0_t9_loop.trips) : Fin 3 → Nat :=
  let c1_i32_189 : BitVec 32 := 1#32
  let v297 : Index := Scalar.indexCast c1_i32_189
  let c112_i32_93 : BitVec 32 := 112#32
  let c1_i32_95 : BitVec 32 := 1#32
  let arg15 : BitVec 32 := Scf.iv c112_i32_93 c1_i32_95 k0_t9
  let v298 : Index := Scalar.indexCast arg15
  let c96_190 : Index := 96#32
  ![1, v298.toNat, 96]
def k0_off150 (i : grid0.Coords) (k0_t1 : Fin k0_t1_loop.trips) (c0_i32_48 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_97 : BitVec 32 := 2#32
  let c2_i32_47 : BitVec 32 := 2#32
  let c0_i32_35 : BitVec 32 := 0#32
  let c1_i32_37 : BitVec 32 := 1#32
  let arg14 : BitVec 32 := Scf.iv c0_i32_35 c1_i32_37 k0_t1
  let v118 : BitVec 32 := Scalar.muli c2_i32_47 arg14
  let v119 : BitVec 32 := Scalar.addi v118 c0_i32_48
  let v142 : BitVec 32 := Scalar.muli c2_i32_97 v119
  let v143 : BitVec 32 := Scalar.addi v2 v142
  let c0_i32_98 : BitVec 32 := 0#32
  let c0_i32_99 : BitVec 32 := 0#32
  ![v143.toNat, 0, 0]
def k0_cond2 (k0_t1 : Fin k0_t1_loop.trips) : BitVec 1 :=
  let c2_i32_47 : BitVec 32 := 2#32
  let c0_i32_35 : BitVec 32 := 0#32
  let c1_i32_37 : BitVec 32 := 1#32
  let arg14 : BitVec 32 := Scf.iv c0_i32_35 c1_i32_37 k0_t1
  let v118 : BitVec 32 := Scalar.muli c2_i32_47 arg14
  let c0_i32_48 : BitVec 32 := 0#32
  let v119 : BitVec 32 := Scalar.addi v118 c0_i32_48
  let c62_i32 : BitVec 32 := 62#32
  let v146 : BitVec 1 := Scalar.cmpi .slt v119 c62_i32
  let v147 : BitVec 32 := Scalar.extui v146
  let c0_i32_102 : BitVec 32 := 0#32
  let v148 : BitVec 1 := Scalar.cmpi .ne v147 c0_i32_102
  v148

def k0_off151 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_161 : BitVec 32 := 2#32
  let c2_i32_47 : BitVec 32 := 2#32
  let c0_i32_35 : BitVec 32 := 0#32
  let c1_i32_37 : BitVec 32 := 1#32
  let arg14 : BitVec 32 := Scf.iv c0_i32_35 c1_i32_37 k0_t1
  let v118 : BitVec 32 := Scalar.muli c2_i32_47 arg14
  let c0_i32_48 : BitVec 32 := 0#32
  let v119 : BitVec 32 := Scalar.addi v118 c0_i32_48
  let c2_i32_160 : BitVec 32 := 2#32
  let v180 : BitVec 32 := Scalar.addi v119 c2_i32_160
  let v181 : BitVec 32 := Scalar.muli c2_i32_161 v180
  let v182 : BitVec 32 := Scalar.addi v2 v181
  let c0_i32_163 : BitVec 32 := 0#32
  ![v182.toNat, 0]
def k0_off152 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_161 : BitVec 32 := 2#32
  let c2_i32_47 : BitVec 32 := 2#32
  let c0_i32_35 : BitVec 32 := 0#32
  let c1_i32_37 : BitVec 32 := 1#32
  let arg14 : BitVec 32 := Scf.iv c0_i32_35 c1_i32_37 k0_t1
  let v118 : BitVec 32 := Scalar.muli c2_i32_47 arg14
  let c0_i32_48 : BitVec 32 := 0#32
  let v119 : BitVec 32 := Scalar.addi v118 c0_i32_48
  let c2_i32_160 : BitVec 32 := 2#32
  let v180 : BitVec 32 := Scalar.addi v119 c2_i32_160
  let v181 : BitVec 32 := Scalar.muli c2_i32_161 v180
  let v182 : BitVec 32 := Scalar.addi v2 v181
  let c1_i32_162 : BitVec 32 := 1#32
  let v183 : BitVec 32 := Scalar.addi v182 c1_i32_162
  let c0_i32_165 : BitVec 32 := 0#32
  ![v183.toNat, 0]
def k0_cond3 (k0_t1 : Fin k0_t1_loop.trips) : BitVec 1 :=
  let c0_i32_35 : BitVec 32 := 0#32
  let c1_i32_37 : BitVec 32 := 1#32
  let arg14 : BitVec 32 := Scf.iv c0_i32_35 c1_i32_37 k0_t1
  let c1_i32_111 : BitVec 32 := 1#32
  let v162 : BitVec 1 := Scalar.cmpi .sge arg14 c1_i32_111
  let v163 : BitVec 32 := Scalar.extui v162
  let c0_i32_112 : BitVec 32 := 0#32
  let v164 : BitVec 1 := Scalar.cmpi .ne v163 c0_i32_112
  v164

def k0_off153 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_161 : BitVec 32 := 2#32
  let c2_i32_103 : BitVec 32 := 2#32
  let c0_i32_35 : BitVec 32 := 0#32
  let c1_i32_37 : BitVec 32 := 1#32
  let arg14 : BitVec 32 := Scf.iv c0_i32_35 c1_i32_37 k0_t1
  let v149 : BitVec 32 := Scalar.muli c2_i32_103 arg14
  let c1_i32_104 : BitVec 32 := 1#32
  let v150 : BitVec 32 := Scalar.addi v149 c1_i32_104
  let c2_i32_160 : BitVec 32 := 2#32
  let v180 : BitVec 32 := Scalar.subi v150 c2_i32_160
  let v181 : BitVec 32 := Scalar.muli c2_i32_161 v180
  let v182 : BitVec 32 := Scalar.addi v2 v181
  let c0_i32_162 : BitVec 32 := 0#32
  let c0_i32_163 : BitVec 32 := 0#32
  ![v182.toNat, 0, 0]
@[reducible] def k0_t10_loop : Scf.Loop 32 :=
  let c0_i32_114 : BitVec 32 := 0#32
  let c16_i32_115 : BitVec 32 := 16#32
  let v165 : BitVec 32 := Scalar.addi c0_i32_114 c16_i32_115
  let c1_i32_116 : BitVec 32 := 1#32
  ⟨c0_i32_114, v165, c1_i32_116⟩
def k0_off154 (k0_t10 : Fin k0_t10_loop.trips) (c0_i32_163 : BitVec 32) : Fin 1 → Nat :=
  let c127_i32_160 : BitVec 32 := 127#32
  let c0_i32_114 : BitVec 32 := 0#32
  let c1_i32_116 : BitVec 32 := 1#32
  let arg15 : BitVec 32 := Scf.iv c0_i32_114 c1_i32_116 k0_t10
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c0_i32_163
  let v186 : Index := Scalar.indexCast v185
  ![v186.toNat]

def k0_chk73 (v215 : IVec S16 32) : Prop :=
  (∀ a x, ((![v215] : Fin 1 → IVec S16 32) a x).toNat < S8256.size a)
theorem k0_idx73_inb : ∀ (v215 : IVec S16 32) (k0_hw73 : k0_chk73 v215), ∀ a x, ((![v215] : Fin 1 → IVec S16 32) a x).toNat < S8256.size a := fun v215 k0_hw73 => k0_hw73
def k0_off155 (k0_t10 : Fin k0_t10_loop.trips) (c0_i32_171 : BitVec 32) : Fin 1 → Nat :=
  let c127_i32_160 : BitVec 32 := 127#32
  let c0_i32_114 : BitVec 32 := 0#32
  let c1_i32_116 : BitVec 32 := 1#32
  let arg15 : BitVec 32 := Scf.iv c0_i32_114 c1_i32_116 k0_t10
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c0_i32_171
  let v218 : Index := Scalar.indexCast v217
  ![v218.toNat]

def k0_chk74 (v247 : IVec S16 32) : Prop :=
  (∀ a x, ((![v247] : Fin 1 → IVec S16 32) a x).toNat < S8256.size a)
theorem k0_idx74_inb : ∀ (v247 : IVec S16 32) (k0_hw74 : k0_chk74 v247), ∀ a x, ((![v247] : Fin 1 → IVec S16 32) a x).toNat < S8256.size a := fun v247 k0_hw74 => k0_hw74
def k0_off156 (k0_t10 : Fin k0_t10_loop.trips) : Fin 3 → Nat :=
  let c0_i32_179 : BitVec 32 := 0#32
  let v249 : Index := Scalar.indexCast c0_i32_179
  let c0_i32_114 : BitVec 32 := 0#32
  let c1_i32_116 : BitVec 32 := 1#32
  let arg15 : BitVec 32 := Scf.iv c0_i32_114 c1_i32_116 k0_t10
  let v250 : Index := Scalar.indexCast arg15
  let c0 : Index := 0#32
  ![0, v250.toNat, 0]
def k0_off157 (k0_t10 : Fin k0_t10_loop.trips) : Fin 3 → Nat :=
  let c0_i32_180 : BitVec 32 := 0#32
  let v252 : Index := Scalar.indexCast c0_i32_180
  let c0_i32_114 : BitVec 32 := 0#32
  let c1_i32_116 : BitVec 32 := 1#32
  let arg15 : BitVec 32 := Scf.iv c0_i32_114 c1_i32_116 k0_t10
  let v253 : Index := Scalar.indexCast arg15
  let c16 : Index := 16#32
  ![0, v253.toNat, 16]
def k0_off158 (k0_t10 : Fin k0_t10_loop.trips) : Fin 3 → Nat :=
  let c0_i32_181 : BitVec 32 := 0#32
  let v255 : Index := Scalar.indexCast c0_i32_181
  let c0_i32_114 : BitVec 32 := 0#32
  let c1_i32_116 : BitVec 32 := 1#32
  let arg15 : BitVec 32 := Scf.iv c0_i32_114 c1_i32_116 k0_t10
  let v256 : Index := Scalar.indexCast arg15
  let c32 : Index := 32#32
  ![0, v256.toNat, 32]
def k0_off159 (k0_t10 : Fin k0_t10_loop.trips) : Fin 3 → Nat :=
  let c0_i32_182 : BitVec 32 := 0#32
  let v258 : Index := Scalar.indexCast c0_i32_182
  let c0_i32_114 : BitVec 32 := 0#32
  let c1_i32_116 : BitVec 32 := 1#32
  let arg15 : BitVec 32 := Scf.iv c0_i32_114 c1_i32_116 k0_t10
  let v259 : Index := Scalar.indexCast arg15
  let c48 : Index := 48#32
  ![0, v259.toNat, 48]
def k0_off160 (k0_t10 : Fin k0_t10_loop.trips) : Fin 3 → Nat :=
  let c0_i32_183 : BitVec 32 := 0#32
  let v261 : Index := Scalar.indexCast c0_i32_183
  let c0_i32_114 : BitVec 32 := 0#32
  let c1_i32_116 : BitVec 32 := 1#32
  let arg15 : BitVec 32 := Scf.iv c0_i32_114 c1_i32_116 k0_t10
  let v262 : Index := Scalar.indexCast arg15
  let c64 : Index := 64#32
  ![0, v262.toNat, 64]
def k0_off161 (k0_t10 : Fin k0_t10_loop.trips) : Fin 3 → Nat :=
  let c0_i32_184 : BitVec 32 := 0#32
  let v264 : Index := Scalar.indexCast c0_i32_184
  let c0_i32_114 : BitVec 32 := 0#32
  let c1_i32_116 : BitVec 32 := 1#32
  let arg15 : BitVec 32 := Scf.iv c0_i32_114 c1_i32_116 k0_t10
  let v265 : Index := Scalar.indexCast arg15
  let c80 : Index := 80#32
  ![0, v265.toNat, 80]
def k0_off162 (k0_t10 : Fin k0_t10_loop.trips) : Fin 3 → Nat :=
  let c0_i32_185 : BitVec 32 := 0#32
  let v267 : Index := Scalar.indexCast c0_i32_185
  let c0_i32_114 : BitVec 32 := 0#32
  let c1_i32_116 : BitVec 32 := 1#32
  let arg15 : BitVec 32 := Scf.iv c0_i32_114 c1_i32_116 k0_t10
  let v268 : Index := Scalar.indexCast arg15
  let c96 : Index := 96#32
  ![0, v268.toNat, 96]
def k0_off163 (k0_t10 : Fin k0_t10_loop.trips) : Fin 3 → Nat :=
  let c0_i32_186 : BitVec 32 := 0#32
  let v270 : Index := Scalar.indexCast c0_i32_186
  let c0_i32_114 : BitVec 32 := 0#32
  let c1_i32_116 : BitVec 32 := 1#32
  let arg15 : BitVec 32 := Scf.iv c0_i32_114 c1_i32_116 k0_t10
  let v271 : Index := Scalar.indexCast arg15
  let c112 : Index := 112#32
  ![0, v271.toNat, 112]
def k0_off164 (k0_t10 : Fin k0_t10_loop.trips) : Fin 3 → Nat :=
  let c1_i32_189 : BitVec 32 := 1#32
  let v276 : Index := Scalar.indexCast c1_i32_189
  let c0_i32_114 : BitVec 32 := 0#32
  let c1_i32_116 : BitVec 32 := 1#32
  let arg15 : BitVec 32 := Scf.iv c0_i32_114 c1_i32_116 k0_t10
  let v277 : Index := Scalar.indexCast arg15
  let c0_190 : Index := 0#32
  ![1, v277.toNat, 0]
def k0_off165 (k0_t10 : Fin k0_t10_loop.trips) : Fin 3 → Nat :=
  let c1_i32_191 : BitVec 32 := 1#32
  let v279 : Index := Scalar.indexCast c1_i32_191
  let c0_i32_114 : BitVec 32 := 0#32
  let c1_i32_116 : BitVec 32 := 1#32
  let arg15 : BitVec 32 := Scf.iv c0_i32_114 c1_i32_116 k0_t10
  let v280 : Index := Scalar.indexCast arg15
  let c16_192 : Index := 16#32
  ![1, v280.toNat, 16]
def k0_off166 (k0_t10 : Fin k0_t10_loop.trips) : Fin 3 → Nat :=
  let c1_i32_193 : BitVec 32 := 1#32
  let v282 : Index := Scalar.indexCast c1_i32_193
  let c0_i32_114 : BitVec 32 := 0#32
  let c1_i32_116 : BitVec 32 := 1#32
  let arg15 : BitVec 32 := Scf.iv c0_i32_114 c1_i32_116 k0_t10
  let v283 : Index := Scalar.indexCast arg15
  let c32_194 : Index := 32#32
  ![1, v283.toNat, 32]
def k0_off167 (k0_t10 : Fin k0_t10_loop.trips) : Fin 3 → Nat :=
  let c1_i32_195 : BitVec 32 := 1#32
  let v285 : Index := Scalar.indexCast c1_i32_195
  let c0_i32_114 : BitVec 32 := 0#32
  let c1_i32_116 : BitVec 32 := 1#32
  let arg15 : BitVec 32 := Scf.iv c0_i32_114 c1_i32_116 k0_t10
  let v286 : Index := Scalar.indexCast arg15
  let c48_196 : Index := 48#32
  ![1, v286.toNat, 48]
def k0_off168 (k0_t10 : Fin k0_t10_loop.trips) : Fin 3 → Nat :=
  let c1_i32_197 : BitVec 32 := 1#32
  let v288 : Index := Scalar.indexCast c1_i32_197
  let c0_i32_114 : BitVec 32 := 0#32
  let c1_i32_116 : BitVec 32 := 1#32
  let arg15 : BitVec 32 := Scf.iv c0_i32_114 c1_i32_116 k0_t10
  let v289 : Index := Scalar.indexCast arg15
  let c64_198 : Index := 64#32
  ![1, v289.toNat, 64]
def k0_off169 (k0_t10 : Fin k0_t10_loop.trips) : Fin 3 → Nat :=
  let c1_i32_199 : BitVec 32 := 1#32
  let v291 : Index := Scalar.indexCast c1_i32_199
  let c0_i32_114 : BitVec 32 := 0#32
  let c1_i32_116 : BitVec 32 := 1#32
  let arg15 : BitVec 32 := Scf.iv c0_i32_114 c1_i32_116 k0_t10
  let v292 : Index := Scalar.indexCast arg15
  let c80_200 : Index := 80#32
  ![1, v292.toNat, 80]
def k0_off170 (k0_t10 : Fin k0_t10_loop.trips) : Fin 3 → Nat :=
  let c1_i32_201 : BitVec 32 := 1#32
  let v294 : Index := Scalar.indexCast c1_i32_201
  let c0_i32_114 : BitVec 32 := 0#32
  let c1_i32_116 : BitVec 32 := 1#32
  let arg15 : BitVec 32 := Scf.iv c0_i32_114 c1_i32_116 k0_t10
  let v295 : Index := Scalar.indexCast arg15
  let c96_202 : Index := 96#32
  ![1, v295.toNat, 96]
def k0_off171 (k0_t10 : Fin k0_t10_loop.trips) : Fin 3 → Nat :=
  let c1_i32_203 : BitVec 32 := 1#32
  let v297 : Index := Scalar.indexCast c1_i32_203
  let c0_i32_114 : BitVec 32 := 0#32
  let c1_i32_116 : BitVec 32 := 1#32
  let arg15 : BitVec 32 := Scf.iv c0_i32_114 c1_i32_116 k0_t10
  let v298 : Index := Scalar.indexCast arg15
  let c112_204 : Index := 112#32
  ![1, v298.toNat, 112]
@[reducible] def k0_t11_loop : Scf.Loop 32 :=
  let c16_i32_119 : BitVec 32 := 16#32
  let c16_i32_120 : BitVec 32 := 16#32
  let v166 : BitVec 32 := Scalar.addi c16_i32_119 c16_i32_120
  let c1_i32_121 : BitVec 32 := 1#32
  ⟨c16_i32_119, v166, c1_i32_121⟩
def k0_off172 (k0_t11 : Fin k0_t11_loop.trips) (c16_i32_163 : BitVec 32) : Fin 1 → Nat :=
  let c127_i32_160 : BitVec 32 := 127#32
  let c16_i32_119 : BitVec 32 := 16#32
  let c1_i32_121 : BitVec 32 := 1#32
  let arg15 : BitVec 32 := Scf.iv c16_i32_119 c1_i32_121 k0_t11
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c16_i32_163
  let v186 : Index := Scalar.indexCast v185
  ![v186.toNat]

def k0_chk75 (v207 : IVec S16 32) : Prop :=
  (∀ a x, ((![v207] : Fin 1 → IVec S16 32) a x).toNat < S8256.size a)
theorem k0_idx75_inb : ∀ (v207 : IVec S16 32) (k0_hw75 : k0_chk75 v207), ∀ a x, ((![v207] : Fin 1 → IVec S16 32) a x).toNat < S8256.size a := fun v207 k0_hw75 => k0_hw75

def k0_chk76 (v214 : IVec S16 32) : Prop :=
  (∀ a x, ((![v214] : Fin 1 → IVec S16 32) a x).toNat < S8256.size a)
theorem k0_idx76_inb : ∀ (v214 : IVec S16 32) (k0_hw76 : k0_chk76 v214), ∀ a x, ((![v214] : Fin 1 → IVec S16 32) a x).toNat < S8256.size a := fun v214 k0_hw76 => k0_hw76
def k0_off173 (k0_t11 : Fin k0_t11_loop.trips) (c16_i32_170 : BitVec 32) : Fin 1 → Nat :=
  let c127_i32_160 : BitVec 32 := 127#32
  let c16_i32_119 : BitVec 32 := 16#32
  let c1_i32_121 : BitVec 32 := 1#32
  let arg15 : BitVec 32 := Scf.iv c16_i32_119 c1_i32_121 k0_t11
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c16_i32_170
  let v218 : Index := Scalar.indexCast v217
  ![v218.toNat]

def k0_chk77 (v239 : IVec S16 32) : Prop :=
  (∀ a x, ((![v239] : Fin 1 → IVec S16 32) a x).toNat < S8256.size a)
theorem k0_idx77_inb : ∀ (v239 : IVec S16 32) (k0_hw77 : k0_chk77 v239), ∀ a x, ((![v239] : Fin 1 → IVec S16 32) a x).toNat < S8256.size a := fun v239 k0_hw77 => k0_hw77

def k0_chk78 (v246 : IVec S16 32) : Prop :=
  (∀ a x, ((![v246] : Fin 1 → IVec S16 32) a x).toNat < S8256.size a)
theorem k0_idx78_inb : ∀ (v246 : IVec S16 32) (k0_hw78 : k0_chk78 v246), ∀ a x, ((![v246] : Fin 1 → IVec S16 32) a x).toNat < S8256.size a := fun v246 k0_hw78 => k0_hw78
def k0_off174 (k0_t11 : Fin k0_t11_loop.trips) : Fin 3 → Nat :=
  let c0_i32_177 : BitVec 32 := 0#32
  let v249 : Index := Scalar.indexCast c0_i32_177
  let c16_i32_119 : BitVec 32 := 16#32
  let c1_i32_121 : BitVec 32 := 1#32
  let arg15 : BitVec 32 := Scf.iv c16_i32_119 c1_i32_121 k0_t11
  let v250 : Index := Scalar.indexCast arg15
  let c16 : Index := 16#32
  ![0, v250.toNat, 16]
def k0_off175 (k0_t11 : Fin k0_t11_loop.trips) : Fin 3 → Nat :=
  let c0_i32_178 : BitVec 32 := 0#32
  let v252 : Index := Scalar.indexCast c0_i32_178
  let c16_i32_119 : BitVec 32 := 16#32
  let c1_i32_121 : BitVec 32 := 1#32
  let arg15 : BitVec 32 := Scf.iv c16_i32_119 c1_i32_121 k0_t11
  let v253 : Index := Scalar.indexCast arg15
  let c32 : Index := 32#32
  ![0, v253.toNat, 32]
def k0_off176 (k0_t11 : Fin k0_t11_loop.trips) : Fin 3 → Nat :=
  let c0_i32_179 : BitVec 32 := 0#32
  let v255 : Index := Scalar.indexCast c0_i32_179
  let c16_i32_119 : BitVec 32 := 16#32
  let c1_i32_121 : BitVec 32 := 1#32
  let arg15 : BitVec 32 := Scf.iv c16_i32_119 c1_i32_121 k0_t11
  let v256 : Index := Scalar.indexCast arg15
  let c48 : Index := 48#32
  ![0, v256.toNat, 48]
def k0_off177 (k0_t11 : Fin k0_t11_loop.trips) : Fin 3 → Nat :=
  let c0_i32_180 : BitVec 32 := 0#32
  let v258 : Index := Scalar.indexCast c0_i32_180
  let c16_i32_119 : BitVec 32 := 16#32
  let c1_i32_121 : BitVec 32 := 1#32
  let arg15 : BitVec 32 := Scf.iv c16_i32_119 c1_i32_121 k0_t11
  let v259 : Index := Scalar.indexCast arg15
  let c64 : Index := 64#32
  ![0, v259.toNat, 64]
def k0_off178 (k0_t11 : Fin k0_t11_loop.trips) : Fin 3 → Nat :=
  let c0_i32_181 : BitVec 32 := 0#32
  let v261 : Index := Scalar.indexCast c0_i32_181
  let c16_i32_119 : BitVec 32 := 16#32
  let c1_i32_121 : BitVec 32 := 1#32
  let arg15 : BitVec 32 := Scf.iv c16_i32_119 c1_i32_121 k0_t11
  let v262 : Index := Scalar.indexCast arg15
  let c80 : Index := 80#32
  ![0, v262.toNat, 80]
def k0_off179 (k0_t11 : Fin k0_t11_loop.trips) : Fin 3 → Nat :=
  let c0_i32_182 : BitVec 32 := 0#32
  let v264 : Index := Scalar.indexCast c0_i32_182
  let c16_i32_119 : BitVec 32 := 16#32
  let c1_i32_121 : BitVec 32 := 1#32
  let arg15 : BitVec 32 := Scf.iv c16_i32_119 c1_i32_121 k0_t11
  let v265 : Index := Scalar.indexCast arg15
  let c96 : Index := 96#32
  ![0, v265.toNat, 96]
def k0_off180 (k0_t11 : Fin k0_t11_loop.trips) : Fin 3 → Nat :=
  let c0_i32_183 : BitVec 32 := 0#32
  let v267 : Index := Scalar.indexCast c0_i32_183
  let c16_i32_119 : BitVec 32 := 16#32
  let c1_i32_121 : BitVec 32 := 1#32
  let arg15 : BitVec 32 := Scf.iv c16_i32_119 c1_i32_121 k0_t11
  let v268 : Index := Scalar.indexCast arg15
  let c112 : Index := 112#32
  ![0, v268.toNat, 112]
def k0_off181 (k0_t11 : Fin k0_t11_loop.trips) : Fin 3 → Nat :=
  let c0_i32_184 : BitVec 32 := 0#32
  let v270 : Index := Scalar.indexCast c0_i32_184
  let c16_i32_119 : BitVec 32 := 16#32
  let c1_i32_121 : BitVec 32 := 1#32
  let arg15 : BitVec 32 := Scf.iv c16_i32_119 c1_i32_121 k0_t11
  let v271 : Index := Scalar.indexCast arg15
  let c0 : Index := 0#32
  ![0, v271.toNat, 0]
def k0_off182 (k0_t11 : Fin k0_t11_loop.trips) : Fin 3 → Nat :=
  let c1_i32_187 : BitVec 32 := 1#32
  let v276 : Index := Scalar.indexCast c1_i32_187
  let c16_i32_119 : BitVec 32 := 16#32
  let c1_i32_121 : BitVec 32 := 1#32
  let arg15 : BitVec 32 := Scf.iv c16_i32_119 c1_i32_121 k0_t11
  let v277 : Index := Scalar.indexCast arg15
  let c16_188 : Index := 16#32
  ![1, v277.toNat, 16]
def k0_off183 (k0_t11 : Fin k0_t11_loop.trips) : Fin 3 → Nat :=
  let c1_i32_189 : BitVec 32 := 1#32
  let v279 : Index := Scalar.indexCast c1_i32_189
  let c16_i32_119 : BitVec 32 := 16#32
  let c1_i32_121 : BitVec 32 := 1#32
  let arg15 : BitVec 32 := Scf.iv c16_i32_119 c1_i32_121 k0_t11
  let v280 : Index := Scalar.indexCast arg15
  let c32_190 : Index := 32#32
  ![1, v280.toNat, 32]
def k0_off184 (k0_t11 : Fin k0_t11_loop.trips) : Fin 3 → Nat :=
  let c1_i32_191 : BitVec 32 := 1#32
  let v282 : Index := Scalar.indexCast c1_i32_191
  let c16_i32_119 : BitVec 32 := 16#32
  let c1_i32_121 : BitVec 32 := 1#32
  let arg15 : BitVec 32 := Scf.iv c16_i32_119 c1_i32_121 k0_t11
  let v283 : Index := Scalar.indexCast arg15
  let c48_192 : Index := 48#32
  ![1, v283.toNat, 48]
def k0_off185 (k0_t11 : Fin k0_t11_loop.trips) : Fin 3 → Nat :=
  let c1_i32_193 : BitVec 32 := 1#32
  let v285 : Index := Scalar.indexCast c1_i32_193
  let c16_i32_119 : BitVec 32 := 16#32
  let c1_i32_121 : BitVec 32 := 1#32
  let arg15 : BitVec 32 := Scf.iv c16_i32_119 c1_i32_121 k0_t11
  let v286 : Index := Scalar.indexCast arg15
  let c64_194 : Index := 64#32
  ![1, v286.toNat, 64]
def k0_off186 (k0_t11 : Fin k0_t11_loop.trips) : Fin 3 → Nat :=
  let c1_i32_195 : BitVec 32 := 1#32
  let v288 : Index := Scalar.indexCast c1_i32_195
  let c16_i32_119 : BitVec 32 := 16#32
  let c1_i32_121 : BitVec 32 := 1#32
  let arg15 : BitVec 32 := Scf.iv c16_i32_119 c1_i32_121 k0_t11
  let v289 : Index := Scalar.indexCast arg15
  let c80_196 : Index := 80#32
  ![1, v289.toNat, 80]
def k0_off187 (k0_t11 : Fin k0_t11_loop.trips) : Fin 3 → Nat :=
  let c1_i32_197 : BitVec 32 := 1#32
  let v291 : Index := Scalar.indexCast c1_i32_197
  let c16_i32_119 : BitVec 32 := 16#32
  let c1_i32_121 : BitVec 32 := 1#32
  let arg15 : BitVec 32 := Scf.iv c16_i32_119 c1_i32_121 k0_t11
  let v292 : Index := Scalar.indexCast arg15
  let c96_198 : Index := 96#32
  ![1, v292.toNat, 96]
def k0_off188 (k0_t11 : Fin k0_t11_loop.trips) : Fin 3 → Nat :=
  let c1_i32_199 : BitVec 32 := 1#32
  let v294 : Index := Scalar.indexCast c1_i32_199
  let c16_i32_119 : BitVec 32 := 16#32
  let c1_i32_121 : BitVec 32 := 1#32
  let arg15 : BitVec 32 := Scf.iv c16_i32_119 c1_i32_121 k0_t11
  let v295 : Index := Scalar.indexCast arg15
  let c112_200 : Index := 112#32
  ![1, v295.toNat, 112]
def k0_off189 (k0_t11 : Fin k0_t11_loop.trips) : Fin 3 → Nat :=
  let c1_i32_201 : BitVec 32 := 1#32
  let v297 : Index := Scalar.indexCast c1_i32_201
  let c16_i32_119 : BitVec 32 := 16#32
  let c1_i32_121 : BitVec 32 := 1#32
  let arg15 : BitVec 32 := Scf.iv c16_i32_119 c1_i32_121 k0_t11
  let v298 : Index := Scalar.indexCast arg15
  let c0_202 : Index := 0#32
  ![1, v298.toNat, 0]
@[reducible] def k0_t12_loop : Scf.Loop 32 :=
  let c32_i32_124 : BitVec 32 := 32#32
  let c16_i32_125 : BitVec 32 := 16#32
  let v167 : BitVec 32 := Scalar.addi c32_i32_124 c16_i32_125
  let c1_i32_126 : BitVec 32 := 1#32
  ⟨c32_i32_124, v167, c1_i32_126⟩
def k0_off190 (k0_t12 : Fin k0_t12_loop.trips) (c32_i32_163 : BitVec 32) : Fin 1 → Nat :=
  let c127_i32_160 : BitVec 32 := 127#32
  let c32_i32_124 : BitVec 32 := 32#32
  let c1_i32_126 : BitVec 32 := 1#32
  let arg15 : BitVec 32 := Scf.iv c32_i32_124 c1_i32_126 k0_t12
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c32_i32_163
  let v186 : Index := Scalar.indexCast v185
  ![v186.toNat]

def k0_chk79 (v204 : IVec S16 32) : Prop :=
  (∀ a x, ((![v204] : Fin 1 → IVec S16 32) a x).toNat < S8256.size a)
theorem k0_idx79_inb : ∀ (v204 : IVec S16 32) (k0_hw79 : k0_chk79 v204), ∀ a x, ((![v204] : Fin 1 → IVec S16 32) a x).toNat < S8256.size a := fun v204 k0_hw79 => k0_hw79

def k0_chk80 (v206 : IVec S16 32) : Prop :=
  (∀ a x, ((![v206] : Fin 1 → IVec S16 32) a x).toNat < S8256.size a)
theorem k0_idx80_inb : ∀ (v206 : IVec S16 32) (k0_hw80 : k0_chk80 v206), ∀ a x, ((![v206] : Fin 1 → IVec S16 32) a x).toNat < S8256.size a := fun v206 k0_hw80 => k0_hw80

def k0_chk81 (v213 : IVec S16 32) : Prop :=
  (∀ a x, ((![v213] : Fin 1 → IVec S16 32) a x).toNat < S8256.size a)
theorem k0_idx81_inb : ∀ (v213 : IVec S16 32) (k0_hw81 : k0_chk81 v213), ∀ a x, ((![v213] : Fin 1 → IVec S16 32) a x).toNat < S8256.size a := fun v213 k0_hw81 => k0_hw81
def k0_off191 (k0_t12 : Fin k0_t12_loop.trips) (c32_i32_169 : BitVec 32) : Fin 1 → Nat :=
  let c127_i32_160 : BitVec 32 := 127#32
  let c32_i32_124 : BitVec 32 := 32#32
  let c1_i32_126 : BitVec 32 := 1#32
  let arg15 : BitVec 32 := Scf.iv c32_i32_124 c1_i32_126 k0_t12
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c32_i32_169
  let v218 : Index := Scalar.indexCast v217
  ![v218.toNat]

def k0_chk82 (v236 : IVec S16 32) : Prop :=
  (∀ a x, ((![v236] : Fin 1 → IVec S16 32) a x).toNat < S8256.size a)
theorem k0_idx82_inb : ∀ (v236 : IVec S16 32) (k0_hw82 : k0_chk82 v236), ∀ a x, ((![v236] : Fin 1 → IVec S16 32) a x).toNat < S8256.size a := fun v236 k0_hw82 => k0_hw82

def k0_chk83 (v238 : IVec S16 32) : Prop :=
  (∀ a x, ((![v238] : Fin 1 → IVec S16 32) a x).toNat < S8256.size a)
theorem k0_idx83_inb : ∀ (v238 : IVec S16 32) (k0_hw83 : k0_chk83 v238), ∀ a x, ((![v238] : Fin 1 → IVec S16 32) a x).toNat < S8256.size a := fun v238 k0_hw83 => k0_hw83

def k0_chk84 (v245 : IVec S16 32) : Prop :=
  (∀ a x, ((![v245] : Fin 1 → IVec S16 32) a x).toNat < S8256.size a)
theorem k0_idx84_inb : ∀ (v245 : IVec S16 32) (k0_hw84 : k0_chk84 v245), ∀ a x, ((![v245] : Fin 1 → IVec S16 32) a x).toNat < S8256.size a := fun v245 k0_hw84 => k0_hw84
def k0_off192 (k0_t12 : Fin k0_t12_loop.trips) : Fin 3 → Nat :=
  let c0_i32_175 : BitVec 32 := 0#32
  let v249 : Index := Scalar.indexCast c0_i32_175
  let c32_i32_124 : BitVec 32 := 32#32
  let c1_i32_126 : BitVec 32 := 1#32
  let arg15 : BitVec 32 := Scf.iv c32_i32_124 c1_i32_126 k0_t12
  let v250 : Index := Scalar.indexCast arg15
  let c32 : Index := 32#32
  ![0, v250.toNat, 32]
def k0_off193 (k0_t12 : Fin k0_t12_loop.trips) : Fin 3 → Nat :=
  let c0_i32_176 : BitVec 32 := 0#32
  let v252 : Index := Scalar.indexCast c0_i32_176
  let c32_i32_124 : BitVec 32 := 32#32
  let c1_i32_126 : BitVec 32 := 1#32
  let arg15 : BitVec 32 := Scf.iv c32_i32_124 c1_i32_126 k0_t12
  let v253 : Index := Scalar.indexCast arg15
  let c48 : Index := 48#32
  ![0, v253.toNat, 48]
def k0_off194 (k0_t12 : Fin k0_t12_loop.trips) : Fin 3 → Nat :=
  let c0_i32_177 : BitVec 32 := 0#32
  let v255 : Index := Scalar.indexCast c0_i32_177
  let c32_i32_124 : BitVec 32 := 32#32
  let c1_i32_126 : BitVec 32 := 1#32
  let arg15 : BitVec 32 := Scf.iv c32_i32_124 c1_i32_126 k0_t12
  let v256 : Index := Scalar.indexCast arg15
  let c64 : Index := 64#32
  ![0, v256.toNat, 64]
def k0_off195 (k0_t12 : Fin k0_t12_loop.trips) : Fin 3 → Nat :=
  let c0_i32_178 : BitVec 32 := 0#32
  let v258 : Index := Scalar.indexCast c0_i32_178
  let c32_i32_124 : BitVec 32 := 32#32
  let c1_i32_126 : BitVec 32 := 1#32
  let arg15 : BitVec 32 := Scf.iv c32_i32_124 c1_i32_126 k0_t12
  let v259 : Index := Scalar.indexCast arg15
  let c80 : Index := 80#32
  ![0, v259.toNat, 80]
def k0_off196 (k0_t12 : Fin k0_t12_loop.trips) : Fin 3 → Nat :=
  let c0_i32_179 : BitVec 32 := 0#32
  let v261 : Index := Scalar.indexCast c0_i32_179
  let c32_i32_124 : BitVec 32 := 32#32
  let c1_i32_126 : BitVec 32 := 1#32
  let arg15 : BitVec 32 := Scf.iv c32_i32_124 c1_i32_126 k0_t12
  let v262 : Index := Scalar.indexCast arg15
  let c96 : Index := 96#32
  ![0, v262.toNat, 96]
def k0_off197 (k0_t12 : Fin k0_t12_loop.trips) : Fin 3 → Nat :=
  let c0_i32_180 : BitVec 32 := 0#32
  let v264 : Index := Scalar.indexCast c0_i32_180
  let c32_i32_124 : BitVec 32 := 32#32
  let c1_i32_126 : BitVec 32 := 1#32
  let arg15 : BitVec 32 := Scf.iv c32_i32_124 c1_i32_126 k0_t12
  let v265 : Index := Scalar.indexCast arg15
  let c112 : Index := 112#32
  ![0, v265.toNat, 112]
def k0_off198 (k0_t12 : Fin k0_t12_loop.trips) : Fin 3 → Nat :=
  let c0_i32_181 : BitVec 32 := 0#32
  let v267 : Index := Scalar.indexCast c0_i32_181
  let c32_i32_124 : BitVec 32 := 32#32
  let c1_i32_126 : BitVec 32 := 1#32
  let arg15 : BitVec 32 := Scf.iv c32_i32_124 c1_i32_126 k0_t12
  let v268 : Index := Scalar.indexCast arg15
  let c0 : Index := 0#32
  ![0, v268.toNat, 0]
def k0_off199 (k0_t12 : Fin k0_t12_loop.trips) : Fin 3 → Nat :=
  let c0_i32_182 : BitVec 32 := 0#32
  let v270 : Index := Scalar.indexCast c0_i32_182
  let c32_i32_124 : BitVec 32 := 32#32
  let c1_i32_126 : BitVec 32 := 1#32
  let arg15 : BitVec 32 := Scf.iv c32_i32_124 c1_i32_126 k0_t12
  let v271 : Index := Scalar.indexCast arg15
  let c16 : Index := 16#32
  ![0, v271.toNat, 16]
def k0_off200 (k0_t12 : Fin k0_t12_loop.trips) : Fin 3 → Nat :=
  let c1_i32_185 : BitVec 32 := 1#32
  let v276 : Index := Scalar.indexCast c1_i32_185
  let c32_i32_124 : BitVec 32 := 32#32
  let c1_i32_126 : BitVec 32 := 1#32
  let arg15 : BitVec 32 := Scf.iv c32_i32_124 c1_i32_126 k0_t12
  let v277 : Index := Scalar.indexCast arg15
  let c32_186 : Index := 32#32
  ![1, v277.toNat, 32]
def k0_off201 (k0_t12 : Fin k0_t12_loop.trips) : Fin 3 → Nat :=
  let c1_i32_187 : BitVec 32 := 1#32
  let v279 : Index := Scalar.indexCast c1_i32_187
  let c32_i32_124 : BitVec 32 := 32#32
  let c1_i32_126 : BitVec 32 := 1#32
  let arg15 : BitVec 32 := Scf.iv c32_i32_124 c1_i32_126 k0_t12
  let v280 : Index := Scalar.indexCast arg15
  let c48_188 : Index := 48#32
  ![1, v280.toNat, 48]
def k0_off202 (k0_t12 : Fin k0_t12_loop.trips) : Fin 3 → Nat :=
  let c1_i32_189 : BitVec 32 := 1#32
  let v282 : Index := Scalar.indexCast c1_i32_189
  let c32_i32_124 : BitVec 32 := 32#32
  let c1_i32_126 : BitVec 32 := 1#32
  let arg15 : BitVec 32 := Scf.iv c32_i32_124 c1_i32_126 k0_t12
  let v283 : Index := Scalar.indexCast arg15
  let c64_190 : Index := 64#32
  ![1, v283.toNat, 64]
def k0_off203 (k0_t12 : Fin k0_t12_loop.trips) : Fin 3 → Nat :=
  let c1_i32_191 : BitVec 32 := 1#32
  let v285 : Index := Scalar.indexCast c1_i32_191
  let c32_i32_124 : BitVec 32 := 32#32
  let c1_i32_126 : BitVec 32 := 1#32
  let arg15 : BitVec 32 := Scf.iv c32_i32_124 c1_i32_126 k0_t12
  let v286 : Index := Scalar.indexCast arg15
  let c80_192 : Index := 80#32
  ![1, v286.toNat, 80]
def k0_off204 (k0_t12 : Fin k0_t12_loop.trips) : Fin 3 → Nat :=
  let c1_i32_193 : BitVec 32 := 1#32
  let v288 : Index := Scalar.indexCast c1_i32_193
  let c32_i32_124 : BitVec 32 := 32#32
  let c1_i32_126 : BitVec 32 := 1#32
  let arg15 : BitVec 32 := Scf.iv c32_i32_124 c1_i32_126 k0_t12
  let v289 : Index := Scalar.indexCast arg15
  let c96_194 : Index := 96#32
  ![1, v289.toNat, 96]
def k0_off205 (k0_t12 : Fin k0_t12_loop.trips) : Fin 3 → Nat :=
  let c1_i32_195 : BitVec 32 := 1#32
  let v291 : Index := Scalar.indexCast c1_i32_195
  let c32_i32_124 : BitVec 32 := 32#32
  let c1_i32_126 : BitVec 32 := 1#32
  let arg15 : BitVec 32 := Scf.iv c32_i32_124 c1_i32_126 k0_t12
  let v292 : Index := Scalar.indexCast arg15
  let c112_196 : Index := 112#32
  ![1, v292.toNat, 112]
def k0_off206 (k0_t12 : Fin k0_t12_loop.trips) : Fin 3 → Nat :=
  let c1_i32_197 : BitVec 32 := 1#32
  let v294 : Index := Scalar.indexCast c1_i32_197
  let c32_i32_124 : BitVec 32 := 32#32
  let c1_i32_126 : BitVec 32 := 1#32
  let arg15 : BitVec 32 := Scf.iv c32_i32_124 c1_i32_126 k0_t12
  let v295 : Index := Scalar.indexCast arg15
  let c0_198 : Index := 0#32
  ![1, v295.toNat, 0]
def k0_off207 (k0_t12 : Fin k0_t12_loop.trips) : Fin 3 → Nat :=
  let c1_i32_199 : BitVec 32 := 1#32
  let v297 : Index := Scalar.indexCast c1_i32_199
  let c32_i32_124 : BitVec 32 := 32#32
  let c1_i32_126 : BitVec 32 := 1#32
  let arg15 : BitVec 32 := Scf.iv c32_i32_124 c1_i32_126 k0_t12
  let v298 : Index := Scalar.indexCast arg15
  let c16_200 : Index := 16#32
  ![1, v298.toNat, 16]
@[reducible] def k0_t13_loop : Scf.Loop 32 :=
  let c48_i32_129 : BitVec 32 := 48#32
  let c16_i32_130 : BitVec 32 := 16#32
  let v168 : BitVec 32 := Scalar.addi c48_i32_129 c16_i32_130
  let c1_i32_131 : BitVec 32 := 1#32
  ⟨c48_i32_129, v168, c1_i32_131⟩
def k0_off208 (k0_t13 : Fin k0_t13_loop.trips) (c48_i32_163 : BitVec 32) : Fin 1 → Nat :=
  let c127_i32_160 : BitVec 32 := 127#32
  let c48_i32_129 : BitVec 32 := 48#32
  let c1_i32_131 : BitVec 32 := 1#32
  let arg15 : BitVec 32 := Scf.iv c48_i32_129 c1_i32_131 k0_t13
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c48_i32_163
  let v186 : Index := Scalar.indexCast v185
  ![v186.toNat]

def k0_chk85 (v201 : IVec S16 32) : Prop :=
  (∀ a x, ((![v201] : Fin 1 → IVec S16 32) a x).toNat < S8256.size a)
theorem k0_idx85_inb : ∀ (v201 : IVec S16 32) (k0_hw85 : k0_chk85 v201), ∀ a x, ((![v201] : Fin 1 → IVec S16 32) a x).toNat < S8256.size a := fun v201 k0_hw85 => k0_hw85

def k0_chk86 (v203 : IVec S16 32) : Prop :=
  (∀ a x, ((![v203] : Fin 1 → IVec S16 32) a x).toNat < S8256.size a)
theorem k0_idx86_inb : ∀ (v203 : IVec S16 32) (k0_hw86 : k0_chk86 v203), ∀ a x, ((![v203] : Fin 1 → IVec S16 32) a x).toNat < S8256.size a := fun v203 k0_hw86 => k0_hw86

def k0_chk87 (v205 : IVec S16 32) : Prop :=
  (∀ a x, ((![v205] : Fin 1 → IVec S16 32) a x).toNat < S8256.size a)
theorem k0_idx87_inb : ∀ (v205 : IVec S16 32) (k0_hw87 : k0_chk87 v205), ∀ a x, ((![v205] : Fin 1 → IVec S16 32) a x).toNat < S8256.size a := fun v205 k0_hw87 => k0_hw87

def k0_chk88 (v212 : IVec S16 32) : Prop :=
  (∀ a x, ((![v212] : Fin 1 → IVec S16 32) a x).toNat < S8256.size a)
theorem k0_idx88_inb : ∀ (v212 : IVec S16 32) (k0_hw88 : k0_chk88 v212), ∀ a x, ((![v212] : Fin 1 → IVec S16 32) a x).toNat < S8256.size a := fun v212 k0_hw88 => k0_hw88
def k0_off209 (k0_t13 : Fin k0_t13_loop.trips) (c48_i32_168 : BitVec 32) : Fin 1 → Nat :=
  let c127_i32_160 : BitVec 32 := 127#32
  let c48_i32_129 : BitVec 32 := 48#32
  let c1_i32_131 : BitVec 32 := 1#32
  let arg15 : BitVec 32 := Scf.iv c48_i32_129 c1_i32_131 k0_t13
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c48_i32_168
  let v218 : Index := Scalar.indexCast v217
  ![v218.toNat]

def k0_chk89 (v233 : IVec S16 32) : Prop :=
  (∀ a x, ((![v233] : Fin 1 → IVec S16 32) a x).toNat < S8256.size a)
theorem k0_idx89_inb : ∀ (v233 : IVec S16 32) (k0_hw89 : k0_chk89 v233), ∀ a x, ((![v233] : Fin 1 → IVec S16 32) a x).toNat < S8256.size a := fun v233 k0_hw89 => k0_hw89

def k0_chk90 (v235 : IVec S16 32) : Prop :=
  (∀ a x, ((![v235] : Fin 1 → IVec S16 32) a x).toNat < S8256.size a)
theorem k0_idx90_inb : ∀ (v235 : IVec S16 32) (k0_hw90 : k0_chk90 v235), ∀ a x, ((![v235] : Fin 1 → IVec S16 32) a x).toNat < S8256.size a := fun v235 k0_hw90 => k0_hw90

def k0_chk91 (v237 : IVec S16 32) : Prop :=
  (∀ a x, ((![v237] : Fin 1 → IVec S16 32) a x).toNat < S8256.size a)
theorem k0_idx91_inb : ∀ (v237 : IVec S16 32) (k0_hw91 : k0_chk91 v237), ∀ a x, ((![v237] : Fin 1 → IVec S16 32) a x).toNat < S8256.size a := fun v237 k0_hw91 => k0_hw91

def k0_chk92 (v244 : IVec S16 32) : Prop :=
  (∀ a x, ((![v244] : Fin 1 → IVec S16 32) a x).toNat < S8256.size a)
theorem k0_idx92_inb : ∀ (v244 : IVec S16 32) (k0_hw92 : k0_chk92 v244), ∀ a x, ((![v244] : Fin 1 → IVec S16 32) a x).toNat < S8256.size a := fun v244 k0_hw92 => k0_hw92
def k0_off210 (k0_t13 : Fin k0_t13_loop.trips) : Fin 3 → Nat :=
  let c0_i32_173 : BitVec 32 := 0#32
  let v249 : Index := Scalar.indexCast c0_i32_173
  let c48_i32_129 : BitVec 32 := 48#32
  let c1_i32_131 : BitVec 32 := 1#32
  let arg15 : BitVec 32 := Scf.iv c48_i32_129 c1_i32_131 k0_t13
  let v250 : Index := Scalar.indexCast arg15
  let c48 : Index := 48#32
  ![0, v250.toNat, 48]
def k0_off211 (k0_t13 : Fin k0_t13_loop.trips) : Fin 3 → Nat :=
  let c0_i32_174 : BitVec 32 := 0#32
  let v252 : Index := Scalar.indexCast c0_i32_174
  let c48_i32_129 : BitVec 32 := 48#32
  let c1_i32_131 : BitVec 32 := 1#32
  let arg15 : BitVec 32 := Scf.iv c48_i32_129 c1_i32_131 k0_t13
  let v253 : Index := Scalar.indexCast arg15
  let c64 : Index := 64#32
  ![0, v253.toNat, 64]
def k0_off212 (k0_t13 : Fin k0_t13_loop.trips) : Fin 3 → Nat :=
  let c0_i32_175 : BitVec 32 := 0#32
  let v255 : Index := Scalar.indexCast c0_i32_175
  let c48_i32_129 : BitVec 32 := 48#32
  let c1_i32_131 : BitVec 32 := 1#32
  let arg15 : BitVec 32 := Scf.iv c48_i32_129 c1_i32_131 k0_t13
  let v256 : Index := Scalar.indexCast arg15
  let c80 : Index := 80#32
  ![0, v256.toNat, 80]
def k0_off213 (k0_t13 : Fin k0_t13_loop.trips) : Fin 3 → Nat :=
  let c0_i32_176 : BitVec 32 := 0#32
  let v258 : Index := Scalar.indexCast c0_i32_176
  let c48_i32_129 : BitVec 32 := 48#32
  let c1_i32_131 : BitVec 32 := 1#32
  let arg15 : BitVec 32 := Scf.iv c48_i32_129 c1_i32_131 k0_t13
  let v259 : Index := Scalar.indexCast arg15
  let c96 : Index := 96#32
  ![0, v259.toNat, 96]
def k0_off214 (k0_t13 : Fin k0_t13_loop.trips) : Fin 3 → Nat :=
  let c0_i32_177 : BitVec 32 := 0#32
  let v261 : Index := Scalar.indexCast c0_i32_177
  let c48_i32_129 : BitVec 32 := 48#32
  let c1_i32_131 : BitVec 32 := 1#32
  let arg15 : BitVec 32 := Scf.iv c48_i32_129 c1_i32_131 k0_t13
  let v262 : Index := Scalar.indexCast arg15
  let c112 : Index := 112#32
  ![0, v262.toNat, 112]
def k0_off215 (k0_t13 : Fin k0_t13_loop.trips) : Fin 3 → Nat :=
  let c0_i32_178 : BitVec 32 := 0#32
  let v264 : Index := Scalar.indexCast c0_i32_178
  let c48_i32_129 : BitVec 32 := 48#32
  let c1_i32_131 : BitVec 32 := 1#32
  let arg15 : BitVec 32 := Scf.iv c48_i32_129 c1_i32_131 k0_t13
  let v265 : Index := Scalar.indexCast arg15
  let c0 : Index := 0#32
  ![0, v265.toNat, 0]
def k0_off216 (k0_t13 : Fin k0_t13_loop.trips) : Fin 3 → Nat :=
  let c0_i32_179 : BitVec 32 := 0#32
  let v267 : Index := Scalar.indexCast c0_i32_179
  let c48_i32_129 : BitVec 32 := 48#32
  let c1_i32_131 : BitVec 32 := 1#32
  let arg15 : BitVec 32 := Scf.iv c48_i32_129 c1_i32_131 k0_t13
  let v268 : Index := Scalar.indexCast arg15
  let c16 : Index := 16#32
  ![0, v268.toNat, 16]
def k0_off217 (k0_t13 : Fin k0_t13_loop.trips) : Fin 3 → Nat :=
  let c0_i32_180 : BitVec 32 := 0#32
  let v270 : Index := Scalar.indexCast c0_i32_180
  let c48_i32_129 : BitVec 32 := 48#32
  let c1_i32_131 : BitVec 32 := 1#32
  let arg15 : BitVec 32 := Scf.iv c48_i32_129 c1_i32_131 k0_t13
  let v271 : Index := Scalar.indexCast arg15
  let c32 : Index := 32#32
  ![0, v271.toNat, 32]
def k0_off218 (k0_t13 : Fin k0_t13_loop.trips) : Fin 3 → Nat :=
  let c1_i32_183 : BitVec 32 := 1#32
  let v276 : Index := Scalar.indexCast c1_i32_183
  let c48_i32_129 : BitVec 32 := 48#32
  let c1_i32_131 : BitVec 32 := 1#32
  let arg15 : BitVec 32 := Scf.iv c48_i32_129 c1_i32_131 k0_t13
  let v277 : Index := Scalar.indexCast arg15
  let c48_184 : Index := 48#32
  ![1, v277.toNat, 48]
def k0_off219 (k0_t13 : Fin k0_t13_loop.trips) : Fin 3 → Nat :=
  let c1_i32_185 : BitVec 32 := 1#32
  let v279 : Index := Scalar.indexCast c1_i32_185
  let c48_i32_129 : BitVec 32 := 48#32
  let c1_i32_131 : BitVec 32 := 1#32
  let arg15 : BitVec 32 := Scf.iv c48_i32_129 c1_i32_131 k0_t13
  let v280 : Index := Scalar.indexCast arg15
  let c64_186 : Index := 64#32
  ![1, v280.toNat, 64]
def k0_off220 (k0_t13 : Fin k0_t13_loop.trips) : Fin 3 → Nat :=
  let c1_i32_187 : BitVec 32 := 1#32
  let v282 : Index := Scalar.indexCast c1_i32_187
  let c48_i32_129 : BitVec 32 := 48#32
  let c1_i32_131 : BitVec 32 := 1#32
  let arg15 : BitVec 32 := Scf.iv c48_i32_129 c1_i32_131 k0_t13
  let v283 : Index := Scalar.indexCast arg15
  let c80_188 : Index := 80#32
  ![1, v283.toNat, 80]
def k0_off221 (k0_t13 : Fin k0_t13_loop.trips) : Fin 3 → Nat :=
  let c1_i32_189 : BitVec 32 := 1#32
  let v285 : Index := Scalar.indexCast c1_i32_189
  let c48_i32_129 : BitVec 32 := 48#32
  let c1_i32_131 : BitVec 32 := 1#32
  let arg15 : BitVec 32 := Scf.iv c48_i32_129 c1_i32_131 k0_t13
  let v286 : Index := Scalar.indexCast arg15
  let c96_190 : Index := 96#32
  ![1, v286.toNat, 96]
def k0_off222 (k0_t13 : Fin k0_t13_loop.trips) : Fin 3 → Nat :=
  let c1_i32_191 : BitVec 32 := 1#32
  let v288 : Index := Scalar.indexCast c1_i32_191
  let c48_i32_129 : BitVec 32 := 48#32
  let c1_i32_131 : BitVec 32 := 1#32
  let arg15 : BitVec 32 := Scf.iv c48_i32_129 c1_i32_131 k0_t13
  let v289 : Index := Scalar.indexCast arg15
  let c112_192 : Index := 112#32
  ![1, v289.toNat, 112]
def k0_off223 (k0_t13 : Fin k0_t13_loop.trips) : Fin 3 → Nat :=
  let c1_i32_193 : BitVec 32 := 1#32
  let v291 : Index := Scalar.indexCast c1_i32_193
  let c48_i32_129 : BitVec 32 := 48#32
  let c1_i32_131 : BitVec 32 := 1#32
  let arg15 : BitVec 32 := Scf.iv c48_i32_129 c1_i32_131 k0_t13
  let v292 : Index := Scalar.indexCast arg15
  let c0_194 : Index := 0#32
  ![1, v292.toNat, 0]
def k0_off224 (k0_t13 : Fin k0_t13_loop.trips) : Fin 3 → Nat :=
  let c1_i32_195 : BitVec 32 := 1#32
  let v294 : Index := Scalar.indexCast c1_i32_195
  let c48_i32_129 : BitVec 32 := 48#32
  let c1_i32_131 : BitVec 32 := 1#32
  let arg15 : BitVec 32 := Scf.iv c48_i32_129 c1_i32_131 k0_t13
  let v295 : Index := Scalar.indexCast arg15
  let c16_196 : Index := 16#32
  ![1, v295.toNat, 16]
def k0_off225 (k0_t13 : Fin k0_t13_loop.trips) : Fin 3 → Nat :=
  let c1_i32_197 : BitVec 32 := 1#32
  let v297 : Index := Scalar.indexCast c1_i32_197
  let c48_i32_129 : BitVec 32 := 48#32
  let c1_i32_131 : BitVec 32 := 1#32
  let arg15 : BitVec 32 := Scf.iv c48_i32_129 c1_i32_131 k0_t13
  let v298 : Index := Scalar.indexCast arg15
  let c32_198 : Index := 32#32
  ![1, v298.toNat, 32]
@[reducible] def k0_t14_loop : Scf.Loop 32 :=
  let c64_i32_134 : BitVec 32 := 64#32
  let c16_i32_135 : BitVec 32 := 16#32
  let v169 : BitVec 32 := Scalar.addi c64_i32_134 c16_i32_135
  let c1_i32_136 : BitVec 32 := 1#32
  ⟨c64_i32_134, v169, c1_i32_136⟩
def k0_off226 (k0_t14 : Fin k0_t14_loop.trips) (c64_i32_163 : BitVec 32) : Fin 1 → Nat :=
  let c127_i32_160 : BitVec 32 := 127#32
  let c64_i32_134 : BitVec 32 := 64#32
  let c1_i32_136 : BitVec 32 := 1#32
  let arg15 : BitVec 32 := Scf.iv c64_i32_134 c1_i32_136 k0_t14
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c64_i32_163
  let v186 : Index := Scalar.indexCast v185
  ![v186.toNat]

def k0_chk93 (v198 : IVec S16 32) : Prop :=
  (∀ a x, ((![v198] : Fin 1 → IVec S16 32) a x).toNat < S8256.size a)
theorem k0_idx93_inb : ∀ (v198 : IVec S16 32) (k0_hw93 : k0_chk93 v198), ∀ a x, ((![v198] : Fin 1 → IVec S16 32) a x).toNat < S8256.size a := fun v198 k0_hw93 => k0_hw93

def k0_chk94 (v200 : IVec S16 32) : Prop :=
  (∀ a x, ((![v200] : Fin 1 → IVec S16 32) a x).toNat < S8256.size a)
theorem k0_idx94_inb : ∀ (v200 : IVec S16 32) (k0_hw94 : k0_chk94 v200), ∀ a x, ((![v200] : Fin 1 → IVec S16 32) a x).toNat < S8256.size a := fun v200 k0_hw94 => k0_hw94

def k0_chk95 (v202 : IVec S16 32) : Prop :=
  (∀ a x, ((![v202] : Fin 1 → IVec S16 32) a x).toNat < S8256.size a)
theorem k0_idx95_inb : ∀ (v202 : IVec S16 32) (k0_hw95 : k0_chk95 v202), ∀ a x, ((![v202] : Fin 1 → IVec S16 32) a x).toNat < S8256.size a := fun v202 k0_hw95 => k0_hw95

def k0_chk96 (v204 : IVec S16 32) : Prop :=
  (∀ a x, ((![v204] : Fin 1 → IVec S16 32) a x).toNat < S8256.size a)
theorem k0_idx96_inb : ∀ (v204 : IVec S16 32) (k0_hw96 : k0_chk96 v204), ∀ a x, ((![v204] : Fin 1 → IVec S16 32) a x).toNat < S8256.size a := fun v204 k0_hw96 => k0_hw96

def k0_chk97 (v211 : IVec S16 32) : Prop :=
  (∀ a x, ((![v211] : Fin 1 → IVec S16 32) a x).toNat < S8256.size a)
theorem k0_idx97_inb : ∀ (v211 : IVec S16 32) (k0_hw97 : k0_chk97 v211), ∀ a x, ((![v211] : Fin 1 → IVec S16 32) a x).toNat < S8256.size a := fun v211 k0_hw97 => k0_hw97
def k0_off227 (k0_t14 : Fin k0_t14_loop.trips) (c64_i32_167 : BitVec 32) : Fin 1 → Nat :=
  let c127_i32_160 : BitVec 32 := 127#32
  let c64_i32_134 : BitVec 32 := 64#32
  let c1_i32_136 : BitVec 32 := 1#32
  let arg15 : BitVec 32 := Scf.iv c64_i32_134 c1_i32_136 k0_t14
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c64_i32_167
  let v218 : Index := Scalar.indexCast v217
  ![v218.toNat]

def k0_chk98 (v230 : IVec S16 32) : Prop :=
  (∀ a x, ((![v230] : Fin 1 → IVec S16 32) a x).toNat < S8256.size a)
theorem k0_idx98_inb : ∀ (v230 : IVec S16 32) (k0_hw98 : k0_chk98 v230), ∀ a x, ((![v230] : Fin 1 → IVec S16 32) a x).toNat < S8256.size a := fun v230 k0_hw98 => k0_hw98

def k0_chk99 (v232 : IVec S16 32) : Prop :=
  (∀ a x, ((![v232] : Fin 1 → IVec S16 32) a x).toNat < S8256.size a)
theorem k0_idx99_inb : ∀ (v232 : IVec S16 32) (k0_hw99 : k0_chk99 v232), ∀ a x, ((![v232] : Fin 1 → IVec S16 32) a x).toNat < S8256.size a := fun v232 k0_hw99 => k0_hw99

def k0_chk100 (v234 : IVec S16 32) : Prop :=
  (∀ a x, ((![v234] : Fin 1 → IVec S16 32) a x).toNat < S8256.size a)
theorem k0_idx100_inb : ∀ (v234 : IVec S16 32) (k0_hw100 : k0_chk100 v234), ∀ a x, ((![v234] : Fin 1 → IVec S16 32) a x).toNat < S8256.size a := fun v234 k0_hw100 => k0_hw100

def k0_chk101 (v236 : IVec S16 32) : Prop :=
  (∀ a x, ((![v236] : Fin 1 → IVec S16 32) a x).toNat < S8256.size a)
theorem k0_idx101_inb : ∀ (v236 : IVec S16 32) (k0_hw101 : k0_chk101 v236), ∀ a x, ((![v236] : Fin 1 → IVec S16 32) a x).toNat < S8256.size a := fun v236 k0_hw101 => k0_hw101

def k0_chk102 (v243 : IVec S16 32) : Prop :=
  (∀ a x, ((![v243] : Fin 1 → IVec S16 32) a x).toNat < S8256.size a)
theorem k0_idx102_inb : ∀ (v243 : IVec S16 32) (k0_hw102 : k0_chk102 v243), ∀ a x, ((![v243] : Fin 1 → IVec S16 32) a x).toNat < S8256.size a := fun v243 k0_hw102 => k0_hw102
def k0_off228 (k0_t14 : Fin k0_t14_loop.trips) : Fin 3 → Nat :=
  let c0_i32_171 : BitVec 32 := 0#32
  let v249 : Index := Scalar.indexCast c0_i32_171
  let c64_i32_134 : BitVec 32 := 64#32
  let c1_i32_136 : BitVec 32 := 1#32
  let arg15 : BitVec 32 := Scf.iv c64_i32_134 c1_i32_136 k0_t14
  let v250 : Index := Scalar.indexCast arg15
  let c64 : Index := 64#32
  ![0, v250.toNat, 64]
def k0_off229 (k0_t14 : Fin k0_t14_loop.trips) : Fin 3 → Nat :=
  let c0_i32_172 : BitVec 32 := 0#32
  let v252 : Index := Scalar.indexCast c0_i32_172
  let c64_i32_134 : BitVec 32 := 64#32
  let c1_i32_136 : BitVec 32 := 1#32
  let arg15 : BitVec 32 := Scf.iv c64_i32_134 c1_i32_136 k0_t14
  let v253 : Index := Scalar.indexCast arg15
  let c80 : Index := 80#32
  ![0, v253.toNat, 80]
def k0_off230 (k0_t14 : Fin k0_t14_loop.trips) : Fin 3 → Nat :=
  let c0_i32_173 : BitVec 32 := 0#32
  let v255 : Index := Scalar.indexCast c0_i32_173
  let c64_i32_134 : BitVec 32 := 64#32
  let c1_i32_136 : BitVec 32 := 1#32
  let arg15 : BitVec 32 := Scf.iv c64_i32_134 c1_i32_136 k0_t14
  let v256 : Index := Scalar.indexCast arg15
  let c96 : Index := 96#32
  ![0, v256.toNat, 96]
def k0_off231 (k0_t14 : Fin k0_t14_loop.trips) : Fin 3 → Nat :=
  let c0_i32_174 : BitVec 32 := 0#32
  let v258 : Index := Scalar.indexCast c0_i32_174
  let c64_i32_134 : BitVec 32 := 64#32
  let c1_i32_136 : BitVec 32 := 1#32
  let arg15 : BitVec 32 := Scf.iv c64_i32_134 c1_i32_136 k0_t14
  let v259 : Index := Scalar.indexCast arg15
  let c112 : Index := 112#32
  ![0, v259.toNat, 112]
def k0_off232 (k0_t14 : Fin k0_t14_loop.trips) : Fin 3 → Nat :=
  let c0_i32_175 : BitVec 32 := 0#32
  let v261 : Index := Scalar.indexCast c0_i32_175
  let c64_i32_134 : BitVec 32 := 64#32
  let c1_i32_136 : BitVec 32 := 1#32
  let arg15 : BitVec 32 := Scf.iv c64_i32_134 c1_i32_136 k0_t14
  let v262 : Index := Scalar.indexCast arg15
  let c0 : Index := 0#32
  ![0, v262.toNat, 0]
def k0_off233 (k0_t14 : Fin k0_t14_loop.trips) : Fin 3 → Nat :=
  let c0_i32_176 : BitVec 32 := 0#32
  let v264 : Index := Scalar.indexCast c0_i32_176
  let c64_i32_134 : BitVec 32 := 64#32
  let c1_i32_136 : BitVec 32 := 1#32
  let arg15 : BitVec 32 := Scf.iv c64_i32_134 c1_i32_136 k0_t14
  let v265 : Index := Scalar.indexCast arg15
  let c16 : Index := 16#32
  ![0, v265.toNat, 16]
def k0_off234 (k0_t14 : Fin k0_t14_loop.trips) : Fin 3 → Nat :=
  let c0_i32_177 : BitVec 32 := 0#32
  let v267 : Index := Scalar.indexCast c0_i32_177
  let c64_i32_134 : BitVec 32 := 64#32
  let c1_i32_136 : BitVec 32 := 1#32
  let arg15 : BitVec 32 := Scf.iv c64_i32_134 c1_i32_136 k0_t14
  let v268 : Index := Scalar.indexCast arg15
  let c32 : Index := 32#32
  ![0, v268.toNat, 32]
def k0_off235 (k0_t14 : Fin k0_t14_loop.trips) : Fin 3 → Nat :=
  let c0_i32_178 : BitVec 32 := 0#32
  let v270 : Index := Scalar.indexCast c0_i32_178
  let c64_i32_134 : BitVec 32 := 64#32
  let c1_i32_136 : BitVec 32 := 1#32
  let arg15 : BitVec 32 := Scf.iv c64_i32_134 c1_i32_136 k0_t14
  let v271 : Index := Scalar.indexCast arg15
  let c48 : Index := 48#32
  ![0, v271.toNat, 48]
def k0_off236 (k0_t14 : Fin k0_t14_loop.trips) : Fin 3 → Nat :=
  let c1_i32_181 : BitVec 32 := 1#32
  let v276 : Index := Scalar.indexCast c1_i32_181
  let c64_i32_134 : BitVec 32 := 64#32
  let c1_i32_136 : BitVec 32 := 1#32
  let arg15 : BitVec 32 := Scf.iv c64_i32_134 c1_i32_136 k0_t14
  let v277 : Index := Scalar.indexCast arg15
  let c64_182 : Index := 64#32
  ![1, v277.toNat, 64]
def k0_off237 (k0_t14 : Fin k0_t14_loop.trips) : Fin 3 → Nat :=
  let c1_i32_183 : BitVec 32 := 1#32
  let v279 : Index := Scalar.indexCast c1_i32_183
  let c64_i32_134 : BitVec 32 := 64#32
  let c1_i32_136 : BitVec 32 := 1#32
  let arg15 : BitVec 32 := Scf.iv c64_i32_134 c1_i32_136 k0_t14
  let v280 : Index := Scalar.indexCast arg15
  let c80_184 : Index := 80#32
  ![1, v280.toNat, 80]
def k0_off238 (k0_t14 : Fin k0_t14_loop.trips) : Fin 3 → Nat :=
  let c1_i32_185 : BitVec 32 := 1#32
  let v282 : Index := Scalar.indexCast c1_i32_185
  let c64_i32_134 : BitVec 32 := 64#32
  let c1_i32_136 : BitVec 32 := 1#32
  let arg15 : BitVec 32 := Scf.iv c64_i32_134 c1_i32_136 k0_t14
  let v283 : Index := Scalar.indexCast arg15
  let c96_186 : Index := 96#32
  ![1, v283.toNat, 96]
def k0_off239 (k0_t14 : Fin k0_t14_loop.trips) : Fin 3 → Nat :=
  let c1_i32_187 : BitVec 32 := 1#32
  let v285 : Index := Scalar.indexCast c1_i32_187
  let c64_i32_134 : BitVec 32 := 64#32
  let c1_i32_136 : BitVec 32 := 1#32
  let arg15 : BitVec 32 := Scf.iv c64_i32_134 c1_i32_136 k0_t14
  let v286 : Index := Scalar.indexCast arg15
  let c112_188 : Index := 112#32
  ![1, v286.toNat, 112]
def k0_off240 (k0_t14 : Fin k0_t14_loop.trips) : Fin 3 → Nat :=
  let c1_i32_189 : BitVec 32 := 1#32
  let v288 : Index := Scalar.indexCast c1_i32_189
  let c64_i32_134 : BitVec 32 := 64#32
  let c1_i32_136 : BitVec 32 := 1#32
  let arg15 : BitVec 32 := Scf.iv c64_i32_134 c1_i32_136 k0_t14
  let v289 : Index := Scalar.indexCast arg15
  let c0_190 : Index := 0#32
  ![1, v289.toNat, 0]
def k0_off241 (k0_t14 : Fin k0_t14_loop.trips) : Fin 3 → Nat :=
  let c1_i32_191 : BitVec 32 := 1#32
  let v291 : Index := Scalar.indexCast c1_i32_191
  let c64_i32_134 : BitVec 32 := 64#32
  let c1_i32_136 : BitVec 32 := 1#32
  let arg15 : BitVec 32 := Scf.iv c64_i32_134 c1_i32_136 k0_t14
  let v292 : Index := Scalar.indexCast arg15
  let c16_192 : Index := 16#32
  ![1, v292.toNat, 16]
def k0_off242 (k0_t14 : Fin k0_t14_loop.trips) : Fin 3 → Nat :=
  let c1_i32_193 : BitVec 32 := 1#32
  let v294 : Index := Scalar.indexCast c1_i32_193
  let c64_i32_134 : BitVec 32 := 64#32
  let c1_i32_136 : BitVec 32 := 1#32
  let arg15 : BitVec 32 := Scf.iv c64_i32_134 c1_i32_136 k0_t14
  let v295 : Index := Scalar.indexCast arg15
  let c32_194 : Index := 32#32
  ![1, v295.toNat, 32]
def k0_off243 (k0_t14 : Fin k0_t14_loop.trips) : Fin 3 → Nat :=
  let c1_i32_195 : BitVec 32 := 1#32
  let v297 : Index := Scalar.indexCast c1_i32_195
  let c64_i32_134 : BitVec 32 := 64#32
  let c1_i32_136 : BitVec 32 := 1#32
  let arg15 : BitVec 32 := Scf.iv c64_i32_134 c1_i32_136 k0_t14
  let v298 : Index := Scalar.indexCast arg15
  let c48_196 : Index := 48#32
  ![1, v298.toNat, 48]
@[reducible] def k0_t15_loop : Scf.Loop 32 :=
  let c80_i32_139 : BitVec 32 := 80#32
  let c16_i32_140 : BitVec 32 := 16#32
  let v170 : BitVec 32 := Scalar.addi c80_i32_139 c16_i32_140
  let c1_i32_141 : BitVec 32 := 1#32
  ⟨c80_i32_139, v170, c1_i32_141⟩
def k0_off244 (k0_t15 : Fin k0_t15_loop.trips) (c80_i32_163 : BitVec 32) : Fin 1 → Nat :=
  let c127_i32_160 : BitVec 32 := 127#32
  let c80_i32_139 : BitVec 32 := 80#32
  let c1_i32_141 : BitVec 32 := 1#32
  let arg15 : BitVec 32 := Scf.iv c80_i32_139 c1_i32_141 k0_t15
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c80_i32_163
  let v186 : Index := Scalar.indexCast v185
  ![v186.toNat]

def k0_chk103 (v195 : IVec S16 32) : Prop :=
  (∀ a x, ((![v195] : Fin 1 → IVec S16 32) a x).toNat < S8256.size a)
theorem k0_idx103_inb : ∀ (v195 : IVec S16 32) (k0_hw103 : k0_chk103 v195), ∀ a x, ((![v195] : Fin 1 → IVec S16 32) a x).toNat < S8256.size a := fun v195 k0_hw103 => k0_hw103

def k0_chk104 (v197 : IVec S16 32) : Prop :=
  (∀ a x, ((![v197] : Fin 1 → IVec S16 32) a x).toNat < S8256.size a)
theorem k0_idx104_inb : ∀ (v197 : IVec S16 32) (k0_hw104 : k0_chk104 v197), ∀ a x, ((![v197] : Fin 1 → IVec S16 32) a x).toNat < S8256.size a := fun v197 k0_hw104 => k0_hw104

def k0_chk105 (v199 : IVec S16 32) : Prop :=
  (∀ a x, ((![v199] : Fin 1 → IVec S16 32) a x).toNat < S8256.size a)
theorem k0_idx105_inb : ∀ (v199 : IVec S16 32) (k0_hw105 : k0_chk105 v199), ∀ a x, ((![v199] : Fin 1 → IVec S16 32) a x).toNat < S8256.size a := fun v199 k0_hw105 => k0_hw105

def k0_chk106 (v201 : IVec S16 32) : Prop :=
  (∀ a x, ((![v201] : Fin 1 → IVec S16 32) a x).toNat < S8256.size a)
theorem k0_idx106_inb : ∀ (v201 : IVec S16 32) (k0_hw106 : k0_chk106 v201), ∀ a x, ((![v201] : Fin 1 → IVec S16 32) a x).toNat < S8256.size a := fun v201 k0_hw106 => k0_hw106

def k0_chk107 (v203 : IVec S16 32) : Prop :=
  (∀ a x, ((![v203] : Fin 1 → IVec S16 32) a x).toNat < S8256.size a)
theorem k0_idx107_inb : ∀ (v203 : IVec S16 32) (k0_hw107 : k0_chk107 v203), ∀ a x, ((![v203] : Fin 1 → IVec S16 32) a x).toNat < S8256.size a := fun v203 k0_hw107 => k0_hw107

def k0_chk108 (v210 : IVec S16 32) : Prop :=
  (∀ a x, ((![v210] : Fin 1 → IVec S16 32) a x).toNat < S8256.size a)
theorem k0_idx108_inb : ∀ (v210 : IVec S16 32) (k0_hw108 : k0_chk108 v210), ∀ a x, ((![v210] : Fin 1 → IVec S16 32) a x).toNat < S8256.size a := fun v210 k0_hw108 => k0_hw108
def k0_off245 (k0_t15 : Fin k0_t15_loop.trips) (c80_i32_166 : BitVec 32) : Fin 1 → Nat :=
  let c127_i32_160 : BitVec 32 := 127#32
  let c80_i32_139 : BitVec 32 := 80#32
  let c1_i32_141 : BitVec 32 := 1#32
  let arg15 : BitVec 32 := Scf.iv c80_i32_139 c1_i32_141 k0_t15
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c80_i32_166
  let v218 : Index := Scalar.indexCast v217
  ![v218.toNat]

def k0_chk109 (v227 : IVec S16 32) : Prop :=
  (∀ a x, ((![v227] : Fin 1 → IVec S16 32) a x).toNat < S8256.size a)
theorem k0_idx109_inb : ∀ (v227 : IVec S16 32) (k0_hw109 : k0_chk109 v227), ∀ a x, ((![v227] : Fin 1 → IVec S16 32) a x).toNat < S8256.size a := fun v227 k0_hw109 => k0_hw109

def k0_chk110 (v229 : IVec S16 32) : Prop :=
  (∀ a x, ((![v229] : Fin 1 → IVec S16 32) a x).toNat < S8256.size a)
theorem k0_idx110_inb : ∀ (v229 : IVec S16 32) (k0_hw110 : k0_chk110 v229), ∀ a x, ((![v229] : Fin 1 → IVec S16 32) a x).toNat < S8256.size a := fun v229 k0_hw110 => k0_hw110

def k0_chk111 (v231 : IVec S16 32) : Prop :=
  (∀ a x, ((![v231] : Fin 1 → IVec S16 32) a x).toNat < S8256.size a)
theorem k0_idx111_inb : ∀ (v231 : IVec S16 32) (k0_hw111 : k0_chk111 v231), ∀ a x, ((![v231] : Fin 1 → IVec S16 32) a x).toNat < S8256.size a := fun v231 k0_hw111 => k0_hw111

def k0_chk112 (v233 : IVec S16 32) : Prop :=
  (∀ a x, ((![v233] : Fin 1 → IVec S16 32) a x).toNat < S8256.size a)
theorem k0_idx112_inb : ∀ (v233 : IVec S16 32) (k0_hw112 : k0_chk112 v233), ∀ a x, ((![v233] : Fin 1 → IVec S16 32) a x).toNat < S8256.size a := fun v233 k0_hw112 => k0_hw112

def k0_chk113 (v235 : IVec S16 32) : Prop :=
  (∀ a x, ((![v235] : Fin 1 → IVec S16 32) a x).toNat < S8256.size a)
theorem k0_idx113_inb : ∀ (v235 : IVec S16 32) (k0_hw113 : k0_chk113 v235), ∀ a x, ((![v235] : Fin 1 → IVec S16 32) a x).toNat < S8256.size a := fun v235 k0_hw113 => k0_hw113

def k0_chk114 (v242 : IVec S16 32) : Prop :=
  (∀ a x, ((![v242] : Fin 1 → IVec S16 32) a x).toNat < S8256.size a)
theorem k0_idx114_inb : ∀ (v242 : IVec S16 32) (k0_hw114 : k0_chk114 v242), ∀ a x, ((![v242] : Fin 1 → IVec S16 32) a x).toNat < S8256.size a := fun v242 k0_hw114 => k0_hw114
def k0_off246 (k0_t15 : Fin k0_t15_loop.trips) : Fin 3 → Nat :=
  let c0_i32_169 : BitVec 32 := 0#32
  let v249 : Index := Scalar.indexCast c0_i32_169
  let c80_i32_139 : BitVec 32 := 80#32
  let c1_i32_141 : BitVec 32 := 1#32
  let arg15 : BitVec 32 := Scf.iv c80_i32_139 c1_i32_141 k0_t15
  let v250 : Index := Scalar.indexCast arg15
  let c80 : Index := 80#32
  ![0, v250.toNat, 80]
def k0_off247 (k0_t15 : Fin k0_t15_loop.trips) : Fin 3 → Nat :=
  let c0_i32_170 : BitVec 32 := 0#32
  let v252 : Index := Scalar.indexCast c0_i32_170
  let c80_i32_139 : BitVec 32 := 80#32
  let c1_i32_141 : BitVec 32 := 1#32
  let arg15 : BitVec 32 := Scf.iv c80_i32_139 c1_i32_141 k0_t15
  let v253 : Index := Scalar.indexCast arg15
  let c96 : Index := 96#32
  ![0, v253.toNat, 96]
def k0_off248 (k0_t15 : Fin k0_t15_loop.trips) : Fin 3 → Nat :=
  let c0_i32_171 : BitVec 32 := 0#32
  let v255 : Index := Scalar.indexCast c0_i32_171
  let c80_i32_139 : BitVec 32 := 80#32
  let c1_i32_141 : BitVec 32 := 1#32
  let arg15 : BitVec 32 := Scf.iv c80_i32_139 c1_i32_141 k0_t15
  let v256 : Index := Scalar.indexCast arg15
  let c112 : Index := 112#32
  ![0, v256.toNat, 112]
def k0_off249 (k0_t15 : Fin k0_t15_loop.trips) : Fin 3 → Nat :=
  let c0_i32_172 : BitVec 32 := 0#32
  let v258 : Index := Scalar.indexCast c0_i32_172
  let c80_i32_139 : BitVec 32 := 80#32
  let c1_i32_141 : BitVec 32 := 1#32
  let arg15 : BitVec 32 := Scf.iv c80_i32_139 c1_i32_141 k0_t15
  let v259 : Index := Scalar.indexCast arg15
  let c0 : Index := 0#32
  ![0, v259.toNat, 0]
def k0_off250 (k0_t15 : Fin k0_t15_loop.trips) : Fin 3 → Nat :=
  let c0_i32_173 : BitVec 32 := 0#32
  let v261 : Index := Scalar.indexCast c0_i32_173
  let c80_i32_139 : BitVec 32 := 80#32
  let c1_i32_141 : BitVec 32 := 1#32
  let arg15 : BitVec 32 := Scf.iv c80_i32_139 c1_i32_141 k0_t15
  let v262 : Index := Scalar.indexCast arg15
  let c16 : Index := 16#32
  ![0, v262.toNat, 16]
def k0_off251 (k0_t15 : Fin k0_t15_loop.trips) : Fin 3 → Nat :=
  let c0_i32_174 : BitVec 32 := 0#32
  let v264 : Index := Scalar.indexCast c0_i32_174
  let c80_i32_139 : BitVec 32 := 80#32
  let c1_i32_141 : BitVec 32 := 1#32
  let arg15 : BitVec 32 := Scf.iv c80_i32_139 c1_i32_141 k0_t15
  let v265 : Index := Scalar.indexCast arg15
  let c32 : Index := 32#32
  ![0, v265.toNat, 32]
def k0_off252 (k0_t15 : Fin k0_t15_loop.trips) : Fin 3 → Nat :=
  let c0_i32_175 : BitVec 32 := 0#32
  let v267 : Index := Scalar.indexCast c0_i32_175
  let c80_i32_139 : BitVec 32 := 80#32
  let c1_i32_141 : BitVec 32 := 1#32
  let arg15 : BitVec 32 := Scf.iv c80_i32_139 c1_i32_141 k0_t15
  let v268 : Index := Scalar.indexCast arg15
  let c48 : Index := 48#32
  ![0, v268.toNat, 48]
def k0_off253 (k0_t15 : Fin k0_t15_loop.trips) : Fin 3 → Nat :=
  let c0_i32_176 : BitVec 32 := 0#32
  let v270 : Index := Scalar.indexCast c0_i32_176
  let c80_i32_139 : BitVec 32 := 80#32
  let c1_i32_141 : BitVec 32 := 1#32
  let arg15 : BitVec 32 := Scf.iv c80_i32_139 c1_i32_141 k0_t15
  let v271 : Index := Scalar.indexCast arg15
  let c64 : Index := 64#32
  ![0, v271.toNat, 64]
def k0_off254 (k0_t15 : Fin k0_t15_loop.trips) : Fin 3 → Nat :=
  let c1_i32_179 : BitVec 32 := 1#32
  let v276 : Index := Scalar.indexCast c1_i32_179
  let c80_i32_139 : BitVec 32 := 80#32
  let c1_i32_141 : BitVec 32 := 1#32
  let arg15 : BitVec 32 := Scf.iv c80_i32_139 c1_i32_141 k0_t15
  let v277 : Index := Scalar.indexCast arg15
  let c80_180 : Index := 80#32
  ![1, v277.toNat, 80]
def k0_off255 (k0_t15 : Fin k0_t15_loop.trips) : Fin 3 → Nat :=
  let c1_i32_181 : BitVec 32 := 1#32
  let v279 : Index := Scalar.indexCast c1_i32_181
  let c80_i32_139 : BitVec 32 := 80#32
  let c1_i32_141 : BitVec 32 := 1#32
  let arg15 : BitVec 32 := Scf.iv c80_i32_139 c1_i32_141 k0_t15
  let v280 : Index := Scalar.indexCast arg15
  let c96_182 : Index := 96#32
  ![1, v280.toNat, 96]
def k0_off256 (k0_t15 : Fin k0_t15_loop.trips) : Fin 3 → Nat :=
  let c1_i32_183 : BitVec 32 := 1#32
  let v282 : Index := Scalar.indexCast c1_i32_183
  let c80_i32_139 : BitVec 32 := 80#32
  let c1_i32_141 : BitVec 32 := 1#32
  let arg15 : BitVec 32 := Scf.iv c80_i32_139 c1_i32_141 k0_t15
  let v283 : Index := Scalar.indexCast arg15
  let c112_184 : Index := 112#32
  ![1, v283.toNat, 112]
def k0_off257 (k0_t15 : Fin k0_t15_loop.trips) : Fin 3 → Nat :=
  let c1_i32_185 : BitVec 32 := 1#32
  let v285 : Index := Scalar.indexCast c1_i32_185
  let c80_i32_139 : BitVec 32 := 80#32
  let c1_i32_141 : BitVec 32 := 1#32
  let arg15 : BitVec 32 := Scf.iv c80_i32_139 c1_i32_141 k0_t15
  let v286 : Index := Scalar.indexCast arg15
  let c0_186 : Index := 0#32
  ![1, v286.toNat, 0]
def k0_off258 (k0_t15 : Fin k0_t15_loop.trips) : Fin 3 → Nat :=
  let c1_i32_187 : BitVec 32 := 1#32
  let v288 : Index := Scalar.indexCast c1_i32_187
  let c80_i32_139 : BitVec 32 := 80#32
  let c1_i32_141 : BitVec 32 := 1#32
  let arg15 : BitVec 32 := Scf.iv c80_i32_139 c1_i32_141 k0_t15
  let v289 : Index := Scalar.indexCast arg15
  let c16_188 : Index := 16#32
  ![1, v289.toNat, 16]
def k0_off259 (k0_t15 : Fin k0_t15_loop.trips) : Fin 3 → Nat :=
  let c1_i32_189 : BitVec 32 := 1#32
  let v291 : Index := Scalar.indexCast c1_i32_189
  let c80_i32_139 : BitVec 32 := 80#32
  let c1_i32_141 : BitVec 32 := 1#32
  let arg15 : BitVec 32 := Scf.iv c80_i32_139 c1_i32_141 k0_t15
  let v292 : Index := Scalar.indexCast arg15
  let c32_190 : Index := 32#32
  ![1, v292.toNat, 32]
def k0_off260 (k0_t15 : Fin k0_t15_loop.trips) : Fin 3 → Nat :=
  let c1_i32_191 : BitVec 32 := 1#32
  let v294 : Index := Scalar.indexCast c1_i32_191
  let c80_i32_139 : BitVec 32 := 80#32
  let c1_i32_141 : BitVec 32 := 1#32
  let arg15 : BitVec 32 := Scf.iv c80_i32_139 c1_i32_141 k0_t15
  let v295 : Index := Scalar.indexCast arg15
  let c48_192 : Index := 48#32
  ![1, v295.toNat, 48]
def k0_off261 (k0_t15 : Fin k0_t15_loop.trips) : Fin 3 → Nat :=
  let c1_i32_193 : BitVec 32 := 1#32
  let v297 : Index := Scalar.indexCast c1_i32_193
  let c80_i32_139 : BitVec 32 := 80#32
  let c1_i32_141 : BitVec 32 := 1#32
  let arg15 : BitVec 32 := Scf.iv c80_i32_139 c1_i32_141 k0_t15
  let v298 : Index := Scalar.indexCast arg15
  let c64_194 : Index := 64#32
  ![1, v298.toNat, 64]
@[reducible] def k0_t16_loop : Scf.Loop 32 :=
  let c96_i32_144 : BitVec 32 := 96#32
  let c16_i32_145 : BitVec 32 := 16#32
  let v171 : BitVec 32 := Scalar.addi c96_i32_144 c16_i32_145
  let c1_i32_146 : BitVec 32 := 1#32
  ⟨c96_i32_144, v171, c1_i32_146⟩
def k0_off262 (k0_t16 : Fin k0_t16_loop.trips) (c96_i32_163 : BitVec 32) : Fin 1 → Nat :=
  let c127_i32_160 : BitVec 32 := 127#32
  let c96_i32_144 : BitVec 32 := 96#32
  let c1_i32_146 : BitVec 32 := 1#32
  let arg15 : BitVec 32 := Scf.iv c96_i32_144 c1_i32_146 k0_t16
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v185 : BitVec 32 := Scalar.addi v184 c96_i32_163
  let v186 : Index := Scalar.indexCast v185
  ![v186.toNat]

def k0_chk115 (v192 : IVec S16 32) : Prop :=
  (∀ a x, ((![v192] : Fin 1 → IVec S16 32) a x).toNat < S8256.size a)
theorem k0_idx115_inb : ∀ (v192 : IVec S16 32) (k0_hw115 : k0_chk115 v192), ∀ a x, ((![v192] : Fin 1 → IVec S16 32) a x).toNat < S8256.size a := fun v192 k0_hw115 => k0_hw115

def k0_chk116 (v194 : IVec S16 32) : Prop :=
  (∀ a x, ((![v194] : Fin 1 → IVec S16 32) a x).toNat < S8256.size a)
theorem k0_idx116_inb : ∀ (v194 : IVec S16 32) (k0_hw116 : k0_chk116 v194), ∀ a x, ((![v194] : Fin 1 → IVec S16 32) a x).toNat < S8256.size a := fun v194 k0_hw116 => k0_hw116

def k0_chk117 (v196 : IVec S16 32) : Prop :=
  (∀ a x, ((![v196] : Fin 1 → IVec S16 32) a x).toNat < S8256.size a)
theorem k0_idx117_inb : ∀ (v196 : IVec S16 32) (k0_hw117 : k0_chk117 v196), ∀ a x, ((![v196] : Fin 1 → IVec S16 32) a x).toNat < S8256.size a := fun v196 k0_hw117 => k0_hw117

def k0_chk118 (v198 : IVec S16 32) : Prop :=
  (∀ a x, ((![v198] : Fin 1 → IVec S16 32) a x).toNat < S8256.size a)
theorem k0_idx118_inb : ∀ (v198 : IVec S16 32) (k0_hw118 : k0_chk118 v198), ∀ a x, ((![v198] : Fin 1 → IVec S16 32) a x).toNat < S8256.size a := fun v198 k0_hw118 => k0_hw118

def k0_chk119 (v200 : IVec S16 32) : Prop :=
  (∀ a x, ((![v200] : Fin 1 → IVec S16 32) a x).toNat < S8256.size a)
theorem k0_idx119_inb : ∀ (v200 : IVec S16 32) (k0_hw119 : k0_chk119 v200), ∀ a x, ((![v200] : Fin 1 → IVec S16 32) a x).toNat < S8256.size a := fun v200 k0_hw119 => k0_hw119

def k0_chk120 (v202 : IVec S16 32) : Prop :=
  (∀ a x, ((![v202] : Fin 1 → IVec S16 32) a x).toNat < S8256.size a)
theorem k0_idx120_inb : ∀ (v202 : IVec S16 32) (k0_hw120 : k0_chk120 v202), ∀ a x, ((![v202] : Fin 1 → IVec S16 32) a x).toNat < S8256.size a := fun v202 k0_hw120 => k0_hw120

def k0_chk121 (v209 : IVec S16 32) : Prop :=
  (∀ a x, ((![v209] : Fin 1 → IVec S16 32) a x).toNat < S8256.size a)
theorem k0_idx121_inb : ∀ (v209 : IVec S16 32) (k0_hw121 : k0_chk121 v209), ∀ a x, ((![v209] : Fin 1 → IVec S16 32) a x).toNat < S8256.size a := fun v209 k0_hw121 => k0_hw121
def k0_off263 (k0_t16 : Fin k0_t16_loop.trips) (c96_i32_165 : BitVec 32) : Fin 1 → Nat :=
  let c127_i32_160 : BitVec 32 := 127#32
  let c96_i32_144 : BitVec 32 := 96#32
  let c1_i32_146 : BitVec 32 := 1#32
  let arg15 : BitVec 32 := Scf.iv c96_i32_144 c1_i32_146 k0_t16
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let v217 : BitVec 32 := Scalar.addi v184 c96_i32_165
  let v218 : Index := Scalar.indexCast v217
  ![v218.toNat]

def k0_chk122 (v224 : IVec S16 32) : Prop :=
  (∀ a x, ((![v224] : Fin 1 → IVec S16 32) a x).toNat < S8256.size a)
theorem k0_idx122_inb : ∀ (v224 : IVec S16 32) (k0_hw122 : k0_chk122 v224), ∀ a x, ((![v224] : Fin 1 → IVec S16 32) a x).toNat < S8256.size a := fun v224 k0_hw122 => k0_hw122

def k0_chk123 (v226 : IVec S16 32) : Prop :=
  (∀ a x, ((![v226] : Fin 1 → IVec S16 32) a x).toNat < S8256.size a)
theorem k0_idx123_inb : ∀ (v226 : IVec S16 32) (k0_hw123 : k0_chk123 v226), ∀ a x, ((![v226] : Fin 1 → IVec S16 32) a x).toNat < S8256.size a := fun v226 k0_hw123 => k0_hw123

def k0_chk124 (v228 : IVec S16 32) : Prop :=
  (∀ a x, ((![v228] : Fin 1 → IVec S16 32) a x).toNat < S8256.size a)
theorem k0_idx124_inb : ∀ (v228 : IVec S16 32) (k0_hw124 : k0_chk124 v228), ∀ a x, ((![v228] : Fin 1 → IVec S16 32) a x).toNat < S8256.size a := fun v228 k0_hw124 => k0_hw124

def k0_chk125 (v230 : IVec S16 32) : Prop :=
  (∀ a x, ((![v230] : Fin 1 → IVec S16 32) a x).toNat < S8256.size a)
theorem k0_idx125_inb : ∀ (v230 : IVec S16 32) (k0_hw125 : k0_chk125 v230), ∀ a x, ((![v230] : Fin 1 → IVec S16 32) a x).toNat < S8256.size a := fun v230 k0_hw125 => k0_hw125

def k0_chk126 (v232 : IVec S16 32) : Prop :=
  (∀ a x, ((![v232] : Fin 1 → IVec S16 32) a x).toNat < S8256.size a)
theorem k0_idx126_inb : ∀ (v232 : IVec S16 32) (k0_hw126 : k0_chk126 v232), ∀ a x, ((![v232] : Fin 1 → IVec S16 32) a x).toNat < S8256.size a := fun v232 k0_hw126 => k0_hw126

def k0_chk127 (v234 : IVec S16 32) : Prop :=
  (∀ a x, ((![v234] : Fin 1 → IVec S16 32) a x).toNat < S8256.size a)
theorem k0_idx127_inb : ∀ (v234 : IVec S16 32) (k0_hw127 : k0_chk127 v234), ∀ a x, ((![v234] : Fin 1 → IVec S16 32) a x).toNat < S8256.size a := fun v234 k0_hw127 => k0_hw127

def k0_chk128 (v241 : IVec S16 32) : Prop :=
  (∀ a x, ((![v241] : Fin 1 → IVec S16 32) a x).toNat < S8256.size a)
theorem k0_idx128_inb : ∀ (v241 : IVec S16 32) (k0_hw128 : k0_chk128 v241), ∀ a x, ((![v241] : Fin 1 → IVec S16 32) a x).toNat < S8256.size a := fun v241 k0_hw128 => k0_hw128
def k0_off264 (k0_t16 : Fin k0_t16_loop.trips) : Fin 3 → Nat :=
  let c0_i32_167 : BitVec 32 := 0#32
  let v249 : Index := Scalar.indexCast c0_i32_167
  let c96_i32_144 : BitVec 32 := 96#32
  let c1_i32_146 : BitVec 32 := 1#32
  let arg15 : BitVec 32 := Scf.iv c96_i32_144 c1_i32_146 k0_t16
  let v250 : Index := Scalar.indexCast arg15
  let c96 : Index := 96#32
  ![0, v250.toNat, 96]
def k0_off265 (k0_t16 : Fin k0_t16_loop.trips) : Fin 3 → Nat :=
  let c0_i32_168 : BitVec 32 := 0#32
  let v252 : Index := Scalar.indexCast c0_i32_168
  let c96_i32_144 : BitVec 32 := 96#32
  let c1_i32_146 : BitVec 32 := 1#32
  let arg15 : BitVec 32 := Scf.iv c96_i32_144 c1_i32_146 k0_t16
  let v253 : Index := Scalar.indexCast arg15
  let c112 : Index := 112#32
  ![0, v253.toNat, 112]
def k0_off266 (k0_t16 : Fin k0_t16_loop.trips) : Fin 3 → Nat :=
  let c0_i32_169 : BitVec 32 := 0#32
  let v255 : Index := Scalar.indexCast c0_i32_169
  let c96_i32_144 : BitVec 32 := 96#32
  let c1_i32_146 : BitVec 32 := 1#32
  let arg15 : BitVec 32 := Scf.iv c96_i32_144 c1_i32_146 k0_t16
  let v256 : Index := Scalar.indexCast arg15
  let c0 : Index := 0#32
  ![0, v256.toNat, 0]
def k0_off267 (k0_t16 : Fin k0_t16_loop.trips) : Fin 3 → Nat :=
  let c0_i32_170 : BitVec 32 := 0#32
  let v258 : Index := Scalar.indexCast c0_i32_170
  let c96_i32_144 : BitVec 32 := 96#32
  let c1_i32_146 : BitVec 32 := 1#32
  let arg15 : BitVec 32 := Scf.iv c96_i32_144 c1_i32_146 k0_t16
  let v259 : Index := Scalar.indexCast arg15
  let c16 : Index := 16#32
  ![0, v259.toNat, 16]
def k0_off268 (k0_t16 : Fin k0_t16_loop.trips) : Fin 3 → Nat :=
  let c0_i32_171 : BitVec 32 := 0#32
  let v261 : Index := Scalar.indexCast c0_i32_171
  let c96_i32_144 : BitVec 32 := 96#32
  let c1_i32_146 : BitVec 32 := 1#32
  let arg15 : BitVec 32 := Scf.iv c96_i32_144 c1_i32_146 k0_t16
  let v262 : Index := Scalar.indexCast arg15
  let c32 : Index := 32#32
  ![0, v262.toNat, 32]
def k0_off269 (k0_t16 : Fin k0_t16_loop.trips) : Fin 3 → Nat :=
  let c0_i32_172 : BitVec 32 := 0#32
  let v264 : Index := Scalar.indexCast c0_i32_172
  let c96_i32_144 : BitVec 32 := 96#32
  let c1_i32_146 : BitVec 32 := 1#32
  let arg15 : BitVec 32 := Scf.iv c96_i32_144 c1_i32_146 k0_t16
  let v265 : Index := Scalar.indexCast arg15
  let c48 : Index := 48#32
  ![0, v265.toNat, 48]
def k0_off270 (k0_t16 : Fin k0_t16_loop.trips) : Fin 3 → Nat :=
  let c0_i32_173 : BitVec 32 := 0#32
  let v267 : Index := Scalar.indexCast c0_i32_173
  let c96_i32_144 : BitVec 32 := 96#32
  let c1_i32_146 : BitVec 32 := 1#32
  let arg15 : BitVec 32 := Scf.iv c96_i32_144 c1_i32_146 k0_t16
  let v268 : Index := Scalar.indexCast arg15
  let c64 : Index := 64#32
  ![0, v268.toNat, 64]
def k0_off271 (k0_t16 : Fin k0_t16_loop.trips) : Fin 3 → Nat :=
  let c0_i32_174 : BitVec 32 := 0#32
  let v270 : Index := Scalar.indexCast c0_i32_174
  let c96_i32_144 : BitVec 32 := 96#32
  let c1_i32_146 : BitVec 32 := 1#32
  let arg15 : BitVec 32 := Scf.iv c96_i32_144 c1_i32_146 k0_t16
  let v271 : Index := Scalar.indexCast arg15
  let c80 : Index := 80#32
  ![0, v271.toNat, 80]
def k0_off272 (k0_t16 : Fin k0_t16_loop.trips) : Fin 3 → Nat :=
  let c1_i32_177 : BitVec 32 := 1#32
  let v276 : Index := Scalar.indexCast c1_i32_177
  let c96_i32_144 : BitVec 32 := 96#32
  let c1_i32_146 : BitVec 32 := 1#32
  let arg15 : BitVec 32 := Scf.iv c96_i32_144 c1_i32_146 k0_t16
  let v277 : Index := Scalar.indexCast arg15
  let c96_178 : Index := 96#32
  ![1, v277.toNat, 96]
def k0_off273 (k0_t16 : Fin k0_t16_loop.trips) : Fin 3 → Nat :=
  let c1_i32_179 : BitVec 32 := 1#32
  let v279 : Index := Scalar.indexCast c1_i32_179
  let c96_i32_144 : BitVec 32 := 96#32
  let c1_i32_146 : BitVec 32 := 1#32
  let arg15 : BitVec 32 := Scf.iv c96_i32_144 c1_i32_146 k0_t16
  let v280 : Index := Scalar.indexCast arg15
  let c112_180 : Index := 112#32
  ![1, v280.toNat, 112]
def k0_off274 (k0_t16 : Fin k0_t16_loop.trips) : Fin 3 → Nat :=
  let c1_i32_181 : BitVec 32 := 1#32
  let v282 : Index := Scalar.indexCast c1_i32_181
  let c96_i32_144 : BitVec 32 := 96#32
  let c1_i32_146 : BitVec 32 := 1#32
  let arg15 : BitVec 32 := Scf.iv c96_i32_144 c1_i32_146 k0_t16
  let v283 : Index := Scalar.indexCast arg15
  let c0_182 : Index := 0#32
  ![1, v283.toNat, 0]
def k0_off275 (k0_t16 : Fin k0_t16_loop.trips) : Fin 3 → Nat :=
  let c1_i32_183 : BitVec 32 := 1#32
  let v285 : Index := Scalar.indexCast c1_i32_183
  let c96_i32_144 : BitVec 32 := 96#32
  let c1_i32_146 : BitVec 32 := 1#32
  let arg15 : BitVec 32 := Scf.iv c96_i32_144 c1_i32_146 k0_t16
  let v286 : Index := Scalar.indexCast arg15
  let c16_184 : Index := 16#32
  ![1, v286.toNat, 16]
def k0_off276 (k0_t16 : Fin k0_t16_loop.trips) : Fin 3 → Nat :=
  let c1_i32_185 : BitVec 32 := 1#32
  let v288 : Index := Scalar.indexCast c1_i32_185
  let c96_i32_144 : BitVec 32 := 96#32
  let c1_i32_146 : BitVec 32 := 1#32
  let arg15 : BitVec 32 := Scf.iv c96_i32_144 c1_i32_146 k0_t16
  let v289 : Index := Scalar.indexCast arg15
  let c32_186 : Index := 32#32
  ![1, v289.toNat, 32]
def k0_off277 (k0_t16 : Fin k0_t16_loop.trips) : Fin 3 → Nat :=
  let c1_i32_187 : BitVec 32 := 1#32
  let v291 : Index := Scalar.indexCast c1_i32_187
  let c96_i32_144 : BitVec 32 := 96#32
  let c1_i32_146 : BitVec 32 := 1#32
  let arg15 : BitVec 32 := Scf.iv c96_i32_144 c1_i32_146 k0_t16
  let v292 : Index := Scalar.indexCast arg15
  let c48_188 : Index := 48#32
  ![1, v292.toNat, 48]
def k0_off278 (k0_t16 : Fin k0_t16_loop.trips) : Fin 3 → Nat :=
  let c1_i32_189 : BitVec 32 := 1#32
  let v294 : Index := Scalar.indexCast c1_i32_189
  let c96_i32_144 : BitVec 32 := 96#32
  let c1_i32_146 : BitVec 32 := 1#32
  let arg15 : BitVec 32 := Scf.iv c96_i32_144 c1_i32_146 k0_t16
  let v295 : Index := Scalar.indexCast arg15
  let c64_190 : Index := 64#32
  ![1, v295.toNat, 64]
def k0_off279 (k0_t16 : Fin k0_t16_loop.trips) : Fin 3 → Nat :=
  let c1_i32_191 : BitVec 32 := 1#32
  let v297 : Index := Scalar.indexCast c1_i32_191
  let c96_i32_144 : BitVec 32 := 96#32
  let c1_i32_146 : BitVec 32 := 1#32
  let arg15 : BitVec 32 := Scf.iv c96_i32_144 c1_i32_146 k0_t16
  let v298 : Index := Scalar.indexCast arg15
  let c80_192 : Index := 80#32
  ![1, v298.toNat, 80]
@[reducible] def k0_t17_loop : Scf.Loop 32 :=
  let c112_i32_149 : BitVec 32 := 112#32
  let c16_i32_150 : BitVec 32 := 16#32
  let v172 : BitVec 32 := Scalar.addi c112_i32_149 c16_i32_150
  let c1_i32_151 : BitVec 32 := 1#32
  ⟨c112_i32_149, v172, c1_i32_151⟩
def k0_off280 (k0_t17 : Fin k0_t17_loop.trips) : Fin 1 → Nat :=
  let c127_i32_160 : BitVec 32 := 127#32
  let c112_i32_149 : BitVec 32 := 112#32
  let c1_i32_151 : BitVec 32 := 1#32
  let arg15 : BitVec 32 := Scf.iv c112_i32_149 c1_i32_151 k0_t17
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let c112_i32_163 : BitVec 32 := 112#32
  let v185 : BitVec 32 := Scalar.addi v184 c112_i32_163
  let v186 : Index := Scalar.indexCast v185
  ![v186.toNat]

def k0_chk129 (v189 : IVec S16 32) : Prop :=
  (∀ a x, ((![v189] : Fin 1 → IVec S16 32) a x).toNat < S8256.size a)
theorem k0_idx129_inb : ∀ (v189 : IVec S16 32) (k0_hw129 : k0_chk129 v189), ∀ a x, ((![v189] : Fin 1 → IVec S16 32) a x).toNat < S8256.size a := fun v189 k0_hw129 => k0_hw129

def k0_chk130 (v191 : IVec S16 32) : Prop :=
  (∀ a x, ((![v191] : Fin 1 → IVec S16 32) a x).toNat < S8256.size a)
theorem k0_idx130_inb : ∀ (v191 : IVec S16 32) (k0_hw130 : k0_chk130 v191), ∀ a x, ((![v191] : Fin 1 → IVec S16 32) a x).toNat < S8256.size a := fun v191 k0_hw130 => k0_hw130

def k0_chk131 (v193 : IVec S16 32) : Prop :=
  (∀ a x, ((![v193] : Fin 1 → IVec S16 32) a x).toNat < S8256.size a)
theorem k0_idx131_inb : ∀ (v193 : IVec S16 32) (k0_hw131 : k0_chk131 v193), ∀ a x, ((![v193] : Fin 1 → IVec S16 32) a x).toNat < S8256.size a := fun v193 k0_hw131 => k0_hw131

def k0_chk132 (v195 : IVec S16 32) : Prop :=
  (∀ a x, ((![v195] : Fin 1 → IVec S16 32) a x).toNat < S8256.size a)
theorem k0_idx132_inb : ∀ (v195 : IVec S16 32) (k0_hw132 : k0_chk132 v195), ∀ a x, ((![v195] : Fin 1 → IVec S16 32) a x).toNat < S8256.size a := fun v195 k0_hw132 => k0_hw132

def k0_chk133 (v197 : IVec S16 32) : Prop :=
  (∀ a x, ((![v197] : Fin 1 → IVec S16 32) a x).toNat < S8256.size a)
theorem k0_idx133_inb : ∀ (v197 : IVec S16 32) (k0_hw133 : k0_chk133 v197), ∀ a x, ((![v197] : Fin 1 → IVec S16 32) a x).toNat < S8256.size a := fun v197 k0_hw133 => k0_hw133

def k0_chk134 (v199 : IVec S16 32) : Prop :=
  (∀ a x, ((![v199] : Fin 1 → IVec S16 32) a x).toNat < S8256.size a)
theorem k0_idx134_inb : ∀ (v199 : IVec S16 32) (k0_hw134 : k0_chk134 v199), ∀ a x, ((![v199] : Fin 1 → IVec S16 32) a x).toNat < S8256.size a := fun v199 k0_hw134 => k0_hw134

def k0_chk135 (v201 : IVec S16 32) : Prop :=
  (∀ a x, ((![v201] : Fin 1 → IVec S16 32) a x).toNat < S8256.size a)
theorem k0_idx135_inb : ∀ (v201 : IVec S16 32) (k0_hw135 : k0_chk135 v201), ∀ a x, ((![v201] : Fin 1 → IVec S16 32) a x).toNat < S8256.size a := fun v201 k0_hw135 => k0_hw135

def k0_chk136 (v208 : IVec S16 32) : Prop :=
  (∀ a x, ((![v208] : Fin 1 → IVec S16 32) a x).toNat < S8256.size a)
theorem k0_idx136_inb : ∀ (v208 : IVec S16 32) (k0_hw136 : k0_chk136 v208), ∀ a x, ((![v208] : Fin 1 → IVec S16 32) a x).toNat < S8256.size a := fun v208 k0_hw136 => k0_hw136
def k0_off281 (k0_t17 : Fin k0_t17_loop.trips) : Fin 1 → Nat :=
  let c127_i32_160 : BitVec 32 := 127#32
  let c112_i32_149 : BitVec 32 := 112#32
  let c1_i32_151 : BitVec 32 := 1#32
  let arg15 : BitVec 32 := Scf.iv c112_i32_149 c1_i32_151 k0_t17
  let v180 : BitVec 32 := Scalar.muli c127_i32_160 arg15
  let c1_i32_161 : BitVec 32 := 1#32
  let v181 : BitVec 32 := Scalar.subi arg15 c1_i32_161
  let v182 : BitVec 32 := Scalar.muli arg15 v181
  let c1_i32_162 : BitVec 32 := 1#32
  let v183 : BitVec 32 := Scalar.shrsi v182 c1_i32_162
  let v184 : BitVec 32 := Scalar.subi v180 v183
  let c112_i32_164 : BitVec 32 := 112#32
  let v217 : BitVec 32 := Scalar.addi v184 c112_i32_164
  let v218 : Index := Scalar.indexCast v217
  ![v218.toNat]

def k0_chk137 (v221 : IVec S16 32) : Prop :=
  (∀ a x, ((![v221] : Fin 1 → IVec S16 32) a x).toNat < S8256.size a)
theorem k0_idx137_inb : ∀ (v221 : IVec S16 32) (k0_hw137 : k0_chk137 v221), ∀ a x, ((![v221] : Fin 1 → IVec S16 32) a x).toNat < S8256.size a := fun v221 k0_hw137 => k0_hw137

def k0_chk138 (v223 : IVec S16 32) : Prop :=
  (∀ a x, ((![v223] : Fin 1 → IVec S16 32) a x).toNat < S8256.size a)
theorem k0_idx138_inb : ∀ (v223 : IVec S16 32) (k0_hw138 : k0_chk138 v223), ∀ a x, ((![v223] : Fin 1 → IVec S16 32) a x).toNat < S8256.size a := fun v223 k0_hw138 => k0_hw138

def k0_chk139 (v225 : IVec S16 32) : Prop :=
  (∀ a x, ((![v225] : Fin 1 → IVec S16 32) a x).toNat < S8256.size a)
theorem k0_idx139_inb : ∀ (v225 : IVec S16 32) (k0_hw139 : k0_chk139 v225), ∀ a x, ((![v225] : Fin 1 → IVec S16 32) a x).toNat < S8256.size a := fun v225 k0_hw139 => k0_hw139

def k0_chk140 (v227 : IVec S16 32) : Prop :=
  (∀ a x, ((![v227] : Fin 1 → IVec S16 32) a x).toNat < S8256.size a)
theorem k0_idx140_inb : ∀ (v227 : IVec S16 32) (k0_hw140 : k0_chk140 v227), ∀ a x, ((![v227] : Fin 1 → IVec S16 32) a x).toNat < S8256.size a := fun v227 k0_hw140 => k0_hw140

def k0_chk141 (v229 : IVec S16 32) : Prop :=
  (∀ a x, ((![v229] : Fin 1 → IVec S16 32) a x).toNat < S8256.size a)
theorem k0_idx141_inb : ∀ (v229 : IVec S16 32) (k0_hw141 : k0_chk141 v229), ∀ a x, ((![v229] : Fin 1 → IVec S16 32) a x).toNat < S8256.size a := fun v229 k0_hw141 => k0_hw141

def k0_chk142 (v231 : IVec S16 32) : Prop :=
  (∀ a x, ((![v231] : Fin 1 → IVec S16 32) a x).toNat < S8256.size a)
theorem k0_idx142_inb : ∀ (v231 : IVec S16 32) (k0_hw142 : k0_chk142 v231), ∀ a x, ((![v231] : Fin 1 → IVec S16 32) a x).toNat < S8256.size a := fun v231 k0_hw142 => k0_hw142

def k0_chk143 (v233 : IVec S16 32) : Prop :=
  (∀ a x, ((![v233] : Fin 1 → IVec S16 32) a x).toNat < S8256.size a)
theorem k0_idx143_inb : ∀ (v233 : IVec S16 32) (k0_hw143 : k0_chk143 v233), ∀ a x, ((![v233] : Fin 1 → IVec S16 32) a x).toNat < S8256.size a := fun v233 k0_hw143 => k0_hw143

def k0_chk144 (v240 : IVec S16 32) : Prop :=
  (∀ a x, ((![v240] : Fin 1 → IVec S16 32) a x).toNat < S8256.size a)
theorem k0_idx144_inb : ∀ (v240 : IVec S16 32) (k0_hw144 : k0_chk144 v240), ∀ a x, ((![v240] : Fin 1 → IVec S16 32) a x).toNat < S8256.size a := fun v240 k0_hw144 => k0_hw144
def k0_off282 (k0_t17 : Fin k0_t17_loop.trips) : Fin 3 → Nat :=
  let c0_i32_165 : BitVec 32 := 0#32
  let v249 : Index := Scalar.indexCast c0_i32_165
  let c112_i32_149 : BitVec 32 := 112#32
  let c1_i32_151 : BitVec 32 := 1#32
  let arg15 : BitVec 32 := Scf.iv c112_i32_149 c1_i32_151 k0_t17
  let v250 : Index := Scalar.indexCast arg15
  let c112 : Index := 112#32
  ![0, v250.toNat, 112]
def k0_off283 (k0_t17 : Fin k0_t17_loop.trips) : Fin 3 → Nat :=
  let c0_i32_166 : BitVec 32 := 0#32
  let v252 : Index := Scalar.indexCast c0_i32_166
  let c112_i32_149 : BitVec 32 := 112#32
  let c1_i32_151 : BitVec 32 := 1#32
  let arg15 : BitVec 32 := Scf.iv c112_i32_149 c1_i32_151 k0_t17
  let v253 : Index := Scalar.indexCast arg15
  let c0 : Index := 0#32
  ![0, v253.toNat, 0]
def k0_off284 (k0_t17 : Fin k0_t17_loop.trips) : Fin 3 → Nat :=
  let c0_i32_167 : BitVec 32 := 0#32
  let v255 : Index := Scalar.indexCast c0_i32_167
  let c112_i32_149 : BitVec 32 := 112#32
  let c1_i32_151 : BitVec 32 := 1#32
  let arg15 : BitVec 32 := Scf.iv c112_i32_149 c1_i32_151 k0_t17
  let v256 : Index := Scalar.indexCast arg15
  let c16 : Index := 16#32
  ![0, v256.toNat, 16]
def k0_off285 (k0_t17 : Fin k0_t17_loop.trips) : Fin 3 → Nat :=
  let c0_i32_168 : BitVec 32 := 0#32
  let v258 : Index := Scalar.indexCast c0_i32_168
  let c112_i32_149 : BitVec 32 := 112#32
  let c1_i32_151 : BitVec 32 := 1#32
  let arg15 : BitVec 32 := Scf.iv c112_i32_149 c1_i32_151 k0_t17
  let v259 : Index := Scalar.indexCast arg15
  let c32 : Index := 32#32
  ![0, v259.toNat, 32]
def k0_off286 (k0_t17 : Fin k0_t17_loop.trips) : Fin 3 → Nat :=
  let c0_i32_169 : BitVec 32 := 0#32
  let v261 : Index := Scalar.indexCast c0_i32_169
  let c112_i32_149 : BitVec 32 := 112#32
  let c1_i32_151 : BitVec 32 := 1#32
  let arg15 : BitVec 32 := Scf.iv c112_i32_149 c1_i32_151 k0_t17
  let v262 : Index := Scalar.indexCast arg15
  let c48 : Index := 48#32
  ![0, v262.toNat, 48]
def k0_off287 (k0_t17 : Fin k0_t17_loop.trips) : Fin 3 → Nat :=
  let c0_i32_170 : BitVec 32 := 0#32
  let v264 : Index := Scalar.indexCast c0_i32_170
  let c112_i32_149 : BitVec 32 := 112#32
  let c1_i32_151 : BitVec 32 := 1#32
  let arg15 : BitVec 32 := Scf.iv c112_i32_149 c1_i32_151 k0_t17
  let v265 : Index := Scalar.indexCast arg15
  let c64 : Index := 64#32
  ![0, v265.toNat, 64]
def k0_off288 (k0_t17 : Fin k0_t17_loop.trips) : Fin 3 → Nat :=
  let c0_i32_171 : BitVec 32 := 0#32
  let v267 : Index := Scalar.indexCast c0_i32_171
  let c112_i32_149 : BitVec 32 := 112#32
  let c1_i32_151 : BitVec 32 := 1#32
  let arg15 : BitVec 32 := Scf.iv c112_i32_149 c1_i32_151 k0_t17
  let v268 : Index := Scalar.indexCast arg15
  let c80 : Index := 80#32
  ![0, v268.toNat, 80]
def k0_off289 (k0_t17 : Fin k0_t17_loop.trips) : Fin 3 → Nat :=
  let c0_i32_172 : BitVec 32 := 0#32
  let v270 : Index := Scalar.indexCast c0_i32_172
  let c112_i32_149 : BitVec 32 := 112#32
  let c1_i32_151 : BitVec 32 := 1#32
  let arg15 : BitVec 32 := Scf.iv c112_i32_149 c1_i32_151 k0_t17
  let v271 : Index := Scalar.indexCast arg15
  let c96 : Index := 96#32
  ![0, v271.toNat, 96]
def k0_off290 (k0_t17 : Fin k0_t17_loop.trips) : Fin 3 → Nat :=
  let c1_i32_175 : BitVec 32 := 1#32
  let v276 : Index := Scalar.indexCast c1_i32_175
  let c112_i32_149 : BitVec 32 := 112#32
  let c1_i32_151 : BitVec 32 := 1#32
  let arg15 : BitVec 32 := Scf.iv c112_i32_149 c1_i32_151 k0_t17
  let v277 : Index := Scalar.indexCast arg15
  let c112_176 : Index := 112#32
  ![1, v277.toNat, 112]
def k0_off291 (k0_t17 : Fin k0_t17_loop.trips) : Fin 3 → Nat :=
  let c1_i32_177 : BitVec 32 := 1#32
  let v279 : Index := Scalar.indexCast c1_i32_177
  let c112_i32_149 : BitVec 32 := 112#32
  let c1_i32_151 : BitVec 32 := 1#32
  let arg15 : BitVec 32 := Scf.iv c112_i32_149 c1_i32_151 k0_t17
  let v280 : Index := Scalar.indexCast arg15
  let c0_178 : Index := 0#32
  ![1, v280.toNat, 0]
def k0_off292 (k0_t17 : Fin k0_t17_loop.trips) : Fin 3 → Nat :=
  let c1_i32_179 : BitVec 32 := 1#32
  let v282 : Index := Scalar.indexCast c1_i32_179
  let c112_i32_149 : BitVec 32 := 112#32
  let c1_i32_151 : BitVec 32 := 1#32
  let arg15 : BitVec 32 := Scf.iv c112_i32_149 c1_i32_151 k0_t17
  let v283 : Index := Scalar.indexCast arg15
  let c16_180 : Index := 16#32
  ![1, v283.toNat, 16]
def k0_off293 (k0_t17 : Fin k0_t17_loop.trips) : Fin 3 → Nat :=
  let c1_i32_181 : BitVec 32 := 1#32
  let v285 : Index := Scalar.indexCast c1_i32_181
  let c112_i32_149 : BitVec 32 := 112#32
  let c1_i32_151 : BitVec 32 := 1#32
  let arg15 : BitVec 32 := Scf.iv c112_i32_149 c1_i32_151 k0_t17
  let v286 : Index := Scalar.indexCast arg15
  let c32_182 : Index := 32#32
  ![1, v286.toNat, 32]
def k0_off294 (k0_t17 : Fin k0_t17_loop.trips) : Fin 3 → Nat :=
  let c1_i32_183 : BitVec 32 := 1#32
  let v288 : Index := Scalar.indexCast c1_i32_183
  let c112_i32_149 : BitVec 32 := 112#32
  let c1_i32_151 : BitVec 32 := 1#32
  let arg15 : BitVec 32 := Scf.iv c112_i32_149 c1_i32_151 k0_t17
  let v289 : Index := Scalar.indexCast arg15
  let c48_184 : Index := 48#32
  ![1, v289.toNat, 48]
def k0_off295 (k0_t17 : Fin k0_t17_loop.trips) : Fin 3 → Nat :=
  let c1_i32_185 : BitVec 32 := 1#32
  let v291 : Index := Scalar.indexCast c1_i32_185
  let c112_i32_149 : BitVec 32 := 112#32
  let c1_i32_151 : BitVec 32 := 1#32
  let arg15 : BitVec 32 := Scf.iv c112_i32_149 c1_i32_151 k0_t17
  let v292 : Index := Scalar.indexCast arg15
  let c64_186 : Index := 64#32
  ![1, v292.toNat, 64]
def k0_off296 (k0_t17 : Fin k0_t17_loop.trips) : Fin 3 → Nat :=
  let c1_i32_187 : BitVec 32 := 1#32
  let v294 : Index := Scalar.indexCast c1_i32_187
  let c112_i32_149 : BitVec 32 := 112#32
  let c1_i32_151 : BitVec 32 := 1#32
  let arg15 : BitVec 32 := Scf.iv c112_i32_149 c1_i32_151 k0_t17
  let v295 : Index := Scalar.indexCast arg15
  let c80_188 : Index := 80#32
  ![1, v295.toNat, 80]
def k0_off297 (k0_t17 : Fin k0_t17_loop.trips) : Fin 3 → Nat :=
  let c1_i32_189 : BitVec 32 := 1#32
  let v297 : Index := Scalar.indexCast c1_i32_189
  let c112_i32_149 : BitVec 32 := 112#32
  let c1_i32_151 : BitVec 32 := 1#32
  let arg15 : BitVec 32 := Scf.iv c112_i32_149 c1_i32_151 k0_t17
  let v298 : Index := Scalar.indexCast arg15
  let c96_190 : Index := 96#32
  ![1, v298.toNat, 96]
def k0_cond4 (k0_t1 : Fin k0_t1_loop.trips) : BitVec 1 :=
  let c2_i32_103 : BitVec 32 := 2#32
  let c0_i32_35 : BitVec 32 := 0#32
  let c1_i32_37 : BitVec 32 := 1#32
  let arg14 : BitVec 32 := Scf.iv c0_i32_35 c1_i32_37 k0_t1
  let v149 : BitVec 32 := Scalar.muli c2_i32_103 arg14
  let c1_i32_104 : BitVec 32 := 1#32
  let v150 : BitVec 32 := Scalar.addi v149 c1_i32_104
  let c62_i32_158 : BitVec 32 := 62#32
  let v177 : BitVec 1 := Scalar.cmpi .slt v150 c62_i32_158
  let v178 : BitVec 32 := Scalar.extui v177
  let c0_i32_159 : BitVec 32 := 0#32
  let v179 : BitVec 1 := Scalar.cmpi .ne v178 c0_i32_159
  v179

def k0_off298 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_161 : BitVec 32 := 2#32
  let c2_i32_103 : BitVec 32 := 2#32
  let c0_i32_35 : BitVec 32 := 0#32
  let c1_i32_37 : BitVec 32 := 1#32
  let arg14 : BitVec 32 := Scf.iv c0_i32_35 c1_i32_37 k0_t1
  let v149 : BitVec 32 := Scalar.muli c2_i32_103 arg14
  let c1_i32_104 : BitVec 32 := 1#32
  let v150 : BitVec 32 := Scalar.addi v149 c1_i32_104
  let c2_i32_160 : BitVec 32 := 2#32
  let v180 : BitVec 32 := Scalar.addi v150 c2_i32_160
  let v181 : BitVec 32 := Scalar.muli c2_i32_161 v180
  let v182 : BitVec 32 := Scalar.addi v2 v181
  let c0_i32_163 : BitVec 32 := 0#32
  ![v182.toNat, 0]
def k0_off299 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_161 : BitVec 32 := 2#32
  let c2_i32_103 : BitVec 32 := 2#32
  let c0_i32_35 : BitVec 32 := 0#32
  let c1_i32_37 : BitVec 32 := 1#32
  let arg14 : BitVec 32 := Scf.iv c0_i32_35 c1_i32_37 k0_t1
  let v149 : BitVec 32 := Scalar.muli c2_i32_103 arg14
  let c1_i32_104 : BitVec 32 := 1#32
  let v150 : BitVec 32 := Scalar.addi v149 c1_i32_104
  let c2_i32_160 : BitVec 32 := 2#32
  let v180 : BitVec 32 := Scalar.addi v150 c2_i32_160
  let v181 : BitVec 32 := Scalar.muli c2_i32_161 v180
  let v182 : BitVec 32 := Scalar.addi v2 v181
  let c1_i32_162 : BitVec 32 := 1#32
  let v183 : BitVec 32 := Scalar.addi v182 c1_i32_162
  let c0_i32_165 : BitVec 32 := 0#32
  ![v183.toNat, 0]
def k0_off300 (i : grid0.Coords) (c124_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v112 : BitVec 32 := Scalar.addi v2 c124_i32
  let c0_i32_39 : BitVec 32 := 0#32
  let c0_i32_40 : BitVec 32 := 0#32
  ![v112.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x8256 : Shape := ⟨2, ![4096, 8256]⟩
abbrev S8256 : Shape := ⟨1, ![8256]⟩
abbrev S_ : Shape := ⟨0, ![]⟩
abbrev S4096x128x128 : Shape := ⟨3, ![4096, 128, 128]⟩
abbrev S8256x1 : Shape := ⟨2, ![8256, 1]⟩
abbrev S8256x2 : Shape := ⟨2, ![8256, 2]⟩
abbrev S128 : Shape := ⟨1, ![128]⟩
abbrev S128x1 : Shape := ⟨2, ![128, 1]⟩
abbrev S1x128 : Shape := ⟨2, ![1, 128]⟩
abbrev S128x128 : Shape := ⟨2, ![128, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x8256, .f32⟩
  | .hbm, ⟨1, _⟩ => ⟨S8256, .i32⟩
  | .hbm, ⟨2, _⟩ => ⟨S8256, .i32⟩
  | .hbm, ⟨3, _⟩ => ⟨S_, .f32⟩
  | .hbm, ⟨4, _⟩ => ⟨S4096x128x128, .f32⟩
  | .hbm, ⟨5, _⟩ => ⟨S_, .i32⟩
  | .hbm, ⟨6, _⟩ => ⟨S8256, .i32⟩
  | .hbm, ⟨7, _⟩ => ⟨S8256, .i1⟩
  | .hbm, ⟨8, _⟩ => ⟨S_, .i32⟩
  | .hbm, ⟨9, _⟩ => ⟨S8256, .i32⟩
  | .hbm, ⟨10, _⟩ => ⟨S8256, .i32⟩
  | .hbm, ⟨11, _⟩ => ⟨S8256, .i32⟩
  | .hbm, ⟨12, _⟩ => ⟨S_, .i32⟩
  | .hbm, ⟨13, _⟩ => ⟨S8256, .i32⟩
  | .hbm, ⟨14, _⟩ => ⟨S8256, .i1⟩
  | .hbm, ⟨15, _⟩ => ⟨S_, .i32⟩
  | .hbm, ⟨16, _⟩ => ⟨S8256, .i32⟩
  | .hbm, ⟨17, _⟩ => ⟨S8256, .i32⟩
  | .hbm, ⟨18, _⟩ => ⟨S8256, .i32⟩
  | .hbm, ⟨19, _⟩ => ⟨S8256x1, .i32⟩
  | .hbm, ⟨20, _⟩ => ⟨S8256x1, .i32⟩
  | .hbm, ⟨21, _⟩ => ⟨S8256x2, .i32⟩
  | .hbm, ⟨22, _⟩ => ⟨S4096x128x128, .f32⟩
  | .hbm, ⟨23, _⟩ => ⟨S4096x128x128, .f32⟩
  | .hbm, ⟨24, _⟩ => ⟨S4096x128x128, .f32⟩
  | .hbm, ⟨25, _⟩ => ⟨S128, .i32⟩
  | .hbm, ⟨26, _⟩ => ⟨S128x1, .i32⟩
  | .hbm, ⟨27, _⟩ => ⟨S1x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S_, .f32⟩
  | .hbm, ⟨32, _⟩ => ⟨S4096x128x128, .f32⟩
  | .hbm, ⟨33, _⟩ => ⟨S4096x128x128, .f32⟩
  | .hbm, ⟨34, _⟩ => ⟨S4096x128x128, .i1⟩
  | .hbm, ⟨35, _⟩ => ⟨S4096x128x128, .f32⟩
  | _, _ => ⟨S4096x8256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_c_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Setup.lean ====
/- What the launch is a launch of: the SparseCore configuration, the definitions its threads run under, the resource
   algebra of the proof, and the arrays and buffers by name. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The handshake semaphores are distinct, none is scoped, and no tile buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters
/-- The resources of the proof. -/
abbrev RM (F : FTy → Type) := MT nD τ sig (HIx 1) (Elt F) ℕ UU ℕ

abbrev EH : Emb UH (RM F) := embL
abbrev EC : UEmb Counters (RM F) := countersEmb

end Cert.Proof.Unpack

end
-- ==== Proof.Row.lean ====
/- One row of the unpacking, as a program over any packed-sample buffers: the sixteen-wide reads of a packed row,
   the gathers that fill the strict lower part, and the stores of both into the output buffer. The kernel writes this
   program out eight times for each of its two buffer pairs, once per sixteen-row block; here it is stated once over
   the block, and each printed copy is shown to be it. -/
module

public import proofs.«01_k».proof.Defs
public import proofs.«01_k».proof.Proof.Gen.KernelIdeal
public import proofs.«01_k».proof.Proof.Gen.KernelIdeal.Skeleton

@[expose] public section

noncomputable section

namespace Cert.Proof.Unpack

open Cert.KernelIdeal Cert.KernelIdeal.Gen
open Idealize.ShloMosaic Idealize.SL.Sem

variable {F : FTy → Type} [FloatOps F]

/-! ## Where a packed row starts, as the kernel computes it -/

/-- The word the kernel adds a column to in order to address row `r`: `127 r − r (r − 1) / 2`. -/
def srW (r : BitVec 32) : BitVec 32 :=
  Scalar.subi (Scalar.muli 127#32 r) (Scalar.shrsi (Scalar.muli r (Scalar.subi r 1#32)) 1#32)

/-- The offset of the sixteen packed elements read for column block `k` of row `r`. -/
def plainOff (r : BitVec 32) (k : Fin 8) : Fin 1 → Nat :=
  ![(Scalar.indexCast (Scalar.addi (srW r) (BitVec.ofNat 32 (16 * k.val)))).toNat]

/-- The offset of the sixteen output elements stored for column block `k` of row `r` of sample `s`. -/
def storeOff (s : Fin 2) (r : BitVec 32) (k : Fin 8) : Fin 3 → Nat :=
  ![s.val, (Scalar.indexCast r).toNat, 16 * k.val]

/-- The number of the first packed element of row `r`, less the row's number. -/
def srN (r : Nat) : Nat := 127 * r - r * (r - 1) / 2

theorem plainOff_fin : ∀ (n : Fin 128) (k : Fin 8), plainOff (BitVec.ofNat 32 n.val) k 0 = srN n.val + 16 * k.val := by
  decide +kernel

theorem srN_le : ∀ n : Fin 128, srN n.val + 128 ≤ 8256 := by decide +kernel

theorem ofNat_toNat_lt {r : BitVec 32} : r = BitVec.ofNat 32 r.toNat := by simp

theorem plainOff_eq {r : BitVec 32} (hr : r.toNat < 128) (k : Fin 8) : plainOff r k 0 = srN r.toNat + 16 * k.val := by
  have h := plainOff_fin ⟨r.toNat, hr⟩ k
  rwa [show BitVec.ofNat 32 (⟨r.toNat, hr⟩ : Fin 128).val = r from ofNat_toNat_lt.symm] at h

theorem plain_inb {r : BitVec 32} (hr : r.toNat < 128) (k : Fin 8) : ∀ a, plainOff r k a + S16.size a ≤ S8256.size a := by
  intro a
  have ha : a = 0 := Fin.eq_zero a
  subst ha
  have h1 := srN_le ⟨r.toNat, hr⟩
  have h2 := plainOff_eq hr k
  have hk := k.isLt
  show plainOff r k 0 + 16 ≤ 8256
  rw [h2]; simp only at h1; omega

theorem indexCast_toNat {r : BitVec 32} (hr : r.toNat < 128) : (Scalar.indexCast r).toNat = r.toNat := by
  have h : ∀ n : Fin 128, (Scalar.indexCast (BitVec.ofNat 32 n.val)).toNat = n.val := by decide +kernel
  have h := h ⟨r.toNat, hr⟩
  rwa [show BitVec.ofNat 32 (⟨r.toNat, hr⟩ : Fin 128).val = r from ofNat_toNat_lt.symm] at h

theorem store_inb (s : Fin 2) {r : BitVec 32} (hr : r.toNat < 128) (k : Fin 8) :
    ∀ a, storeOff s r k a + S1x1x16.size a ≤ S2x128x128.size a := by
  have h := indexCast_toNat hr
  have hk := k.isLt
  have hs := s.isLt
  intro a
  match a with
  | 0 => show s.val + 1 ≤ 2; omega
  | 1 => show (Scalar.indexCast r).toNat + 1 ≤ 128; omega
  | 2 => show 16 * k.val + 16 ≤ 128; omega

/-! ## The row's program -/

variable {cc : Fin τ.nSC} {ss : Fin τ.nSub}

/-- A program of vector subcore `ss` of SparseCore `cc`. -/
abbrev TProg (F : FTy → Type) (cc : Fin τ.nSC) (ss : Fin τ.nSub) : Type 1 :=
  Prog (TpuEff nD τ sig (Elt F) Λ₀ (.scVector cc ss)) Unit

/-- Read the listed column blocks of row `r` from `m`, then continue with them. -/
def loadsThen (m : Memref sig .scVector .vmem S8256 .f32) {r : BitVec 32} (hr : r.toNat < 128) :
    List (Fin 8) → (List (Fin 8 × Vec F S16 .f32) → TProg F cc ss) → TProg F cc ss
  | [], K => K []
  | k :: ks, K => do
    let v : Vec F S16 .f32 ← Prog.lift (.load m (Rect.unit (s := S8256) (plainOff r k) S16.size (plain_inb hr k)).toLoadRect (View.loadsAt_vmem h_S16))
    loadsThen m hr ks fun vs => K ((k, v) :: vs)

/-- Assume that each listed index vector stays inside a packed sample, then continue. -/
def assumesThen (G : Fin 8 → IVec S16 32) :
    (ks : List (Fin 8)) → ((∀ k ∈ ks, k0_chk1 (G k)) → TProg F cc ss) → TProg F cc ss
  | [], K => K (fun _ h => absurd h (List.not_mem_nil))
  | k :: ks, K => do
    have hw : k0_chk1 (G k) := (← Prog.lift (TpuEff.assume (k0_chk1 (G k)) (k0_chk1.dec (G k)))).down
    assumesThen G ks fun hs => K (List.forall_mem_cons.mpr ⟨hw, hs⟩)

/-- Gather through each listed index vector from `m`, then continue with what was gathered. -/
def gathersThen (m : Memref sig .scVector .vmem S8256 .f32) (G : Fin 8 → IVec S16 32) :
    (ks : List (Fin 8)) → (∀ k ∈ ks, k0_chk1 (G k)) → (List (Fin 8 × Vec F S16 .f32) → TProg F cc ss) → TProg F cc ss
  | [], _, K => K []
  | k :: ks, h, K => do
    let v : Vec F S16 .f32 ← SparseCore.vectorLoadIdx m ![G k] (k0_idx1_inb (G k) (h k List.mem_cons_self)) (View.loads_vmem h_S8256)
    gathersThen m G ks (fun k hk => h k (List.mem_cons_of_mem _ hk)) fun vs => K ((k, v) :: vs)

/-- Store the listed sixteen-wide vectors at row `r` of sample `s` of the output buffer, then continue. -/
def storesThen (ov : Memref sig .scVector .vmem S2x128x128 .f32) (s : Fin 2) {r : BitVec 32} (hr : r.toNat < 128) :
    List (Fin 8 × Vec F S16 .f32) → TProg F cc ss → TProg F cc ss
  | [], K => K
  | kv :: kvs, K => do
    let _ : Vec F S1x1x16 .f32 ← Prog.lift (.load ov (Rect.unit (s := S2x128x128) (storeOff s r kv.1) S1x1x16.size (store_inb s hr kv.1)).toLoadRect (View.loadsAt_vmem h_S1x1x16))
    Prog.lift (.store ov (Rect.unit (s := S2x128x128) (storeOff s r kv.1) S1x1x16.size (store_inb s hr kv.1)) (shapeCast S1x1x16 kv.2 shapeCasts_S16_S1x1x16) Finset.univ (View.stores_vmem_bits_univ h_S1x1x16 rfl) (.inl rfl))
    storesThen ov s hr kvs K

/-- The column blocks a row of block `rb` reads in place: from its own on. -/
def plains : Fin 8 → List (Fin 8)
  | 0 => [0, 1, 2, 3, 4, 5, 6, 7]
  | 1 => [1, 2, 3, 4, 5, 6, 7]
  | 2 => [2, 3, 4, 5, 6, 7]
  | 3 => [3, 4, 5, 6, 7]
  | 4 => [4, 5, 6, 7]
  | 5 => [5, 6, 7]
  | 6 => [6, 7]
  | 7 => [7]

/-- The column blocks it gathers: up to its own. -/
def gathers : Fin 8 → List (Fin 8)
  | 0 => [0]
  | 1 => [0, 1]
  | 2 => [0, 1, 2]
  | 3 => [0, 1, 2, 3]
  | 4 => [0, 1, 2, 3, 4]
  | 5 => [0, 1, 2, 3, 4, 5]
  | 6 => [0, 1, 2, 3, 4, 5, 6]
  | 7 => [0, 1, 2, 3, 4, 5, 6, 7]

/-- The index vector of column block `k` of row `r` in block `rb`: below the block, the packed position of column `j`'s
    row plus `r`; in the block, that where `j < r` and the row's own packed position elsewhere. -/
def gidx (J S : Fin 8 → IVec S16 32) (rb : Fin 8) (r : BitVec 32) (k : Fin 8) : IVec S16 32 :=
  bif Nat.blt k.val rb.val then addi (S k) (broadcast S16 r)
  else select (cmpi .slt (J k) (broadcast S16 r)) (addi (S k) (broadcast S16 r)) (addi (broadcast S16 (srW r)) (J k))

/-- Row `r` of block `rb`, for the two samples in `m0` and `m1`, into `ov`. -/
def rowBody (m0 m1 : Memref sig .scVector .vmem S8256 .f32) (ov : Memref sig .scVector .vmem S2x128x128 .f32)
    (J S : Fin 8 → IVec S16 32) (rb : Fin 8) {r : BitVec 32} (hr : r.toNat < 128) : TProg F cc ss :=
  loadsThen m0 hr (plains rb) fun p0 =>
  assumesThen (gidx J S rb r) (gathers rb) fun h0 =>
  gathersThen m0 (gidx J S rb r) (gathers rb) h0 fun g0 =>
  loadsThen m1 hr (plains rb) fun p1 =>
  assumesThen (gidx J S rb r) (gathers rb) fun h1 =>
  gathersThen m1 (gidx J S rb r) (gathers rb) h1 fun g1 =>
  storesThen ov 0 hr p0 <| storesThen ov 0 hr g0 <| storesThen ov 1 hr p1 <| storesThen ov 1 hr g1 <| .ret ⟨⟩

/-- The sixteen rows of block `rb`, as the loop runs them. -/
def rowLoop (rb : Fin 8) : Scf.Loop 32 :=
  ⟨BitVec.ofNat 32 (16 * rb.val), Scalar.addi (BitVec.ofNat 32 (16 * rb.val)) 16#32, 1#32⟩

theorem rowLoop_ok : ∀ rb : Fin 8, (rowLoop rb).OK := by decide +kernel

theorem rowLoop_trips : ∀ rb : Fin 8, (rowLoop rb).trips = 16 := by decide +kernel

/-- The row trip `k` of block `rb` is at, as the loop's word, -/
def rowIv (rb : Fin 8) (k : Nat) : BitVec 32 := Scf.iv (BitVec.ofNat 32 (16 * rb.val)) 1#32 k

theorem rowIv_fin : ∀ (rb : Fin 8) (k : Fin 16), (rowIv rb k.val).toNat = 16 * rb.val + k.val := by decide +kernel

/-- and as a number. -/
theorem rowIv_toNat (rb : Fin 8) {k : Nat} (hk : k < (rowLoop rb).trips) : (rowIv rb k).toNat = 16 * rb.val + k :=
  rowIv_fin rb ⟨k, hk.trans_eq (rowLoop_trips rb)⟩

theorem rowIv_lt (rb : Fin 8) (k : Fin (rowLoop rb).trips) : (rowIv rb k.val).toNat < 128 := by
  rw [rowIv_toNat rb k.isLt]
  have := k.isLt.trans_eq (rowLoop_trips rb)
  have := rb.isLt
  omega

/-- One block's loop. -/
def blockRows (m0 m1 : Memref sig .scVector .vmem S8256 .f32) (ov : Memref sig .scVector .vmem S2x128x128 .f32)
    (J S : Fin 8 → IVec S16 32) (rb : Fin 8) : TProg F cc ss :=
  Scf.Loop.for (rowLoop rb) (rowLoop_ok rb) ⟨⟩ fun k _ => rowBody m0 m1 ov J S rb (rowIv_lt rb k)

end Cert.Proof.Unpack

end
-- ==== Proof.Half.lean ====
/- The kernel's program, regrouped: a trip of the main loop is two passes of one program — wait for two packed samples,
   wait for the output buffer, unpack, send the output, fetch the next two samples — once for each buffer pair. -/
module

public import proofs.«01_k».proof.Proof.Row

@[expose] public section

noncomputable section

namespace Cert.Proof.Unpack

open Cert.KernelIdeal Cert.KernelIdeal.Gen
open Idealize.ShloMosaic Idealize.SL.Sem

variable {F : FTy → Type} [FloatOps F]

/-- The columns of block `k`: `16 k` to `16 k + 15`. -/
def jv (k : Fin 8) : IVec S16 32 :=
  addi (iota .scVector S16 32 [0] iota_S16_d0_w32_scVector) (broadcast S16 (BitVec.ofNat 32 (16 * k.val)))

/-- The packed position of row `j`'s first element, less `j`, for the columns `j` of block `k`. -/
def sv (k : Fin 8) : IVec S16 32 :=
  subi (muli (broadcast S16 127#32) (jv k)) (shrsi (muli (jv k) (subi (jv k) (broadcast S16 1#32))) (broadcast S16 1#32))

/-- One packed sample of the input, at row offset `off`, as a rank-one memref. -/
abbrev inSl (x : Memref sig .scVector .hbm S4096x8256 .f32) (off : Fin 2 → Nat)
    (inb : ∀ a, off a + S1x8256.size a ≤ S4096x8256.size a) : Memref sig .scVector .hbm S8256 .f32 :=
  (x.slice (Rect.unit (s := S4096x8256) off S1x8256.size inb) (fun _ => rfl)).squeeze S8256 squeezes_S1x8256_S8256

/-- Two consecutive matrices of the output, at offset `off`. -/
abbrev outSl (o : Memref sig .scVector .hbm S4096x128x128 .f32) (off : Fin 3 → Nat)
    (inb : ∀ a, off a + S2x128x128.size a ≤ S4096x128x128.size a) : Memref sig .scVector .hbm S2x128x128 .f32 :=
  o.slice (Rect.unit (s := S4096x128x128) off S2x128x128.size inb) (fun _ => rfl)

variable {cc : Fin τ.nSC} {ss : Fin τ.nSub}

/-- All eight blocks' loops: every row of both samples. -/
def allRows (m0 m1 : Memref sig .scVector .vmem S8256 .f32) (ov : Memref sig .scVector .vmem S2x128x128 .f32) : TProg F cc ss := do
  blockRows m0 m1 ov jv sv 0
  blockRows m0 m1 ov jv sv 1
  blockRows m0 m1 ov jv sv 2
  blockRows m0 m1 ov jv sv 3
  blockRows m0 m1 ov jv sv 4
  blockRows m0 m1 ov jv sv 5
  blockRows m0 m1 ov jv sv 6
  blockRows m0 m1 ov jv sv 7

/-- Start the copies of two packed samples into the two buffers. -/
def fetch (x : Memref sig .scVector .hbm S4096x8256 .f32) (m0 m1 : Memref sig .scVector .vmem S8256 .f32)
    (h0 : m0.IsWhole) (h1 : m1.IsWhole) (isem : DmaSems sig S_)
    (off0 off1 : Fin 2 → Nat) (inb0 : ∀ a, off0 a + S1x8256.size a ≤ S4096x8256.size a)
    (inb1 : ∀ a, off1 a + S1x8256.size a ≤ S4096x8256.size a) : TProg F cc ss := do
  Prog.lift (.enqueueDma (inSl x off0 inb0) (.here m0) (.dma isem.sem) ((View.wordExact_bits rfl).reshape _ _) h0.wordExact ⟨Or.inl rfl, trivial⟩)
  Prog.lift (.enqueueDma (inSl x off1 inb1) (.here m1) (.dma isem.sem) ((View.wordExact_bits rfl).reshape _ _) h1.wordExact ⟨Or.inl rfl, trivial⟩)
  pure ⟨⟩

/-- Wait for both copies. -/
def arrive (x : Memref sig .scVector .hbm S4096x8256 .f32) (m0 m1 : Memref sig .scVector .vmem S8256 .f32)
    (h0 : m0.IsWhole) (h1 : m1.IsWhole) (isem : DmaSems sig S_)
    (off0 off1 : Fin 2 → Nat) (inb0 : ∀ a, off0 a + S1x8256.size a ≤ S4096x8256.size a)
    (inb1 : ∀ a, off1 a + S1x8256.size a ≤ S4096x8256.size a) : TProg F cc ss := do
  Prog.lift (.waitDma2 isem.sem (inSl x off0 inb0) m0 ((View.wordExact_bits rfl).reshape _ _) h0.wordExact)
  Prog.lift (.waitDma2 isem.sem (inSl x off1 inb1) m1 ((View.wordExact_bits rfl).reshape _ _) h1.wordExact)

/-- Wait for the copy out of the output buffer. -/
def sent (o : Memref sig .scVector .hbm S4096x128x128 .f32) (ov : Memref sig .scVector .vmem S2x128x128 .f32)
    (hov : ov.IsWhole) (osem : DmaSems sig S_)
    (off : Fin 3 → Nat) (inb : ∀ a, off a + S2x128x128.size a ≤ S4096x128x128.size a) : TProg F cc ss := do
  Prog.lift (.waitDma2 osem.sem ov (outSl o off inb) hov.wordExact (View.wordExact_bits rfl))
  pure ⟨⟩

/-- Start the copy out of the output buffer. -/
def send (o : Memref sig .scVector .hbm S4096x128x128 .f32) (ov : Memref sig .scVector .vmem S2x128x128 .f32)
    (hov : ov.IsWhole) (osem : DmaSems sig S_)
    (off : Fin 3 → Nat) (inb : ∀ a, off a + S2x128x128.size a ≤ S4096x128x128.size a) : TProg F cc ss :=
  Prog.lift (.enqueueDma ov (.here (outSl o off inb)) (.dma osem.sem) hov.wordExact (View.wordExact_bits rfl) ⟨Or.inl rfl, trivial⟩)

/-- Run `k` if the condition holds, and nothing otherwise. -/
def gd (C : Prop) [Decidable C] (k : C → TProg F cc ss) : TProg F cc ss := if h : C then k h else pure ⟨⟩

theorem gd_bind {α : Type} (C : Prop) [Decidable C] (k : C → TProg F cc ss)
    (K : Unit → Prog (TpuEff nD τ sig (Elt F) Λ₀ (.scVector cc ss)) α) :
    gd C k >>= K = if h : C then k h >>= K else K ⟨⟩ := by
  unfold gd; split <;> rfl

section Printed

variable (i : grid0.Coords) (arg2 : Memref sig .scVector .hbm S4096x8256 .f32) (harg2 : arg2.IsWhole) (arg3 : Memref sig .scVector .hbm S4096x128x128 .f32) (harg3 : arg3.IsWhole) (arg4 : Memref sig .scVector .vmem S8256 .f32) (harg4 : arg4.IsWhole) (arg5 : Memref sig .scVector .vmem S8256 .f32) (harg5 : arg5.IsWhole) (arg6 : Memref sig .scVector .vmem S8256 .f32) (harg6 : arg6.IsWhole) (arg7 : Memref sig .scVector .vmem S8256 .f32) (harg7 : arg7.IsWhole) (arg8 : Memref sig .scVector .vmem S2x128x128 .f32) (harg8 : arg8.IsWhole) (arg9 : Memref sig .scVector .vmem S2x128x128 .f32) (harg9 : arg9.IsWhole) (arg10 arg11 arg12 arg13 : DmaSems sig S_)

/-- One trip's pass over the first buffer pair. -/
def half0 (t1 : Fin k0_t1_loop.trips) : TProg F ((i 0).castLE hcore0) ((i 1).castLE hsub0) := do
  arrive arg2 arg4 arg5 harg4 harg5 arg10 (k0_off3 i t1 0#32) (k0_off4 i t1 0#32) (k0_off3_inb i t1 0) (k0_off4_inb i t1 0)
  gd (k0_cond1 t1 = 1#1) fun h => sent arg3 arg8 harg8 arg12 (k0_off5 i t1) (k0_off5_inb i t1 h)
  allRows arg4 arg5 arg8
  send arg3 arg8 harg8 arg12 (k0_off150 i t1 0#32) (k0_off150_inb i t1 0)
  gd (k0_cond2 t1 = 1#1) fun h => fetch arg2 arg4 arg5 harg4 harg5 arg10 (k0_off151 i t1) (k0_off152 i t1) (k0_off151_inb i t1 h) (k0_off152_inb i t1 h)

/-- One trip's pass over the second buffer pair. -/
def half1 (t1 : Fin k0_t1_loop.trips) : TProg F ((i 0).castLE hcore0) ((i 1).castLE hsub0) := do
  arrive arg2 arg6 arg7 harg6 harg7 arg11 (k0_off3 i t1 1#32) (k0_off4 i t1 1#32) (k0_off3_inb i t1 1) (k0_off4_inb i t1 1)
  gd (k0_cond3 t1 = 1#1) fun h => sent arg3 arg9 harg9 arg13 (k0_off153 i t1) (k0_off153_inb i t1 h)
  allRows arg6 arg7 arg9
  send arg3 arg9 harg9 arg13 (k0_off150 i t1 1#32) (k0_off150_inb i t1 1)
  gd (k0_cond4 t1 = 1#1) fun h => fetch arg2 arg6 arg7 harg6 harg7 arg11 (k0_off298 i t1) (k0_off299 i t1) (k0_off298_inb i t1 h) (k0_off299_inb i t1 h)

/-- The whole tile program. -/
def tileProg : TProg F ((i 0).castLE hcore0) ((i 1).castLE hsub0) := do
  fetch arg2 arg4 arg5 harg4 harg5 arg10 (k0_off1 i 0#32) (k0_off2 i 0#32) (k0_off1_inb i 0) (k0_off2_inb i 0)
  fetch arg2 arg6 arg7 harg6 harg7 arg11 (k0_off1 i 2#32) (k0_off2 i 2#32) (k0_off1_inb i 1) (k0_off2_inb i 1)
  Scf.Loop.for k0_t1_loop k0_t1_ok ⟨⟩ fun t1 _ => do
    half0 i arg2 arg3 arg4 harg4 arg5 harg5 arg8 harg8 arg10 arg12 t1
    half1 i arg2 arg3 arg6 harg6 arg7 harg7 arg9 harg9 arg11 arg13 t1
  sent arg3 arg8 harg8 arg12 (k0_off300 i 124#32) (k0_off300_inb i 0)
  sent arg3 arg9 harg9 arg13 (k0_off300 i 126#32) (k0_off300_inb i 1)

set_option maxRecDepth 65536

/-- The printed trip's first window: the first pass up to its fourth block, -/
theorem part49_eq (v2 : BitVec 32) (t1 : Fin k0_t1_loop.trips) :
    k0_part49 (F := F) i arg2 harg2 arg3 harg3 arg4 harg4 arg5 harg5 arg6 harg6 arg7 harg7 arg8 harg8 arg9 harg9 arg10 arg11 arg12 arg13
      v2 (jv 0) (jv 1) (jv 2) (jv 3) (sv 0) (sv 1) (sv 2) (sv 3) 0#32 1#32 t1
      = (do
        arrive arg2 arg4 arg5 harg4 harg5 arg10 (k0_off3 i t1 0#32) (k0_off4 i t1 0#32) (k0_off3_inb i t1 0) (k0_off4_inb i t1 0)
        gd (k0_cond1 t1 = 1#1) fun h => sent arg3 arg8 harg8 arg12 (k0_off5 i t1) (k0_off5_inb i t1 h)
        blockRows arg4 arg5 arg8 jv sv 0
        blockRows arg4 arg5 arg8 jv sv 1
        blockRows arg4 arg5 arg8 jv sv 2
        blockRows arg4 arg5 arg8 jv sv 3
        pure ⟨Scf.iv 0#32 1#32 t1, Scalar.addi (Scalar.muli 2#32 (Scf.iv 0#32 1#32 t1)) 0#32, 64#32⟩) := by simp only [gd_bind]; rfl

/-- the second: the rest of the first pass and the second's first wait, -/
theorem part50_eq (v2 a b : BitVec 32) (t1 : Fin k0_t1_loop.trips) :
    k0_part50 (F := F) i arg2 harg2 arg3 harg3 arg4 harg4 arg5 harg5 arg6 harg6 arg7 harg7 arg8 harg8 arg9 harg9 arg10 arg11 arg12 arg13
      v2 (jv 4) (jv 5) (jv 6) (jv 7) (sv 0) (sv 1) (sv 2) (sv 3) (sv 4) (sv 5) (sv 6) (sv 7) t1 a b 64#32
      = (do
        blockRows arg4 arg5 arg8 jv sv 4
        blockRows arg4 arg5 arg8 jv sv 5
        blockRows arg4 arg5 arg8 jv sv 6
        blockRows arg4 arg5 arg8 jv sv 7
        send arg3 arg8 harg8 arg12 (k0_off150 i t1 0#32) (k0_off150_inb i t1 0)
        gd (k0_cond2 t1 = 1#1) fun h => fetch arg2 arg4 arg5 harg4 harg5 arg10 (k0_off151 i t1) (k0_off152 i t1) (k0_off151_inb i t1 h) (k0_off152_inb i t1 h)
        Prog.lift (.waitDma2 arg11.sem (inSl arg2 (k0_off3 i t1 1#32) (k0_off3_inb i t1 1)) arg6 ((View.wordExact_bits rfl).reshape _ _) harg6.wordExact)
        pure (Scalar.addi (Scalar.muli 2#32 a) 1#32)) := by simp only [gd_bind]; rfl

/-- the third: the second pass up to its seventh block. -/
theorem part51_eq (v2 a b : BitVec 32) (t1 : Fin k0_t1_loop.trips) :
    k0_part51 (F := F) i arg2 harg2 arg3 harg3 arg4 harg4 arg5 harg5 arg6 harg6 arg7 harg7 arg8 harg8 arg9 harg9 arg10 arg11 arg12 arg13
      v2 (jv 0) (jv 1) (jv 2) (jv 3) (jv 4) (jv 5) (jv 6) (sv 0) (sv 1) (sv 2) (sv 3) (sv 4) (sv 5) (sv 6) t1 a b
      = (do
        Prog.lift (.waitDma2 arg11.sem (inSl arg2 (k0_off4 i t1 1#32) (k0_off4_inb i t1 1)) arg7 ((View.wordExact_bits rfl).reshape _ _) harg7.wordExact)
        gd (k0_cond3 t1 = 1#1) fun h => sent arg3 arg9 harg9 arg13 (k0_off153 i t1) (k0_off153_inb i t1 h)
        blockRows arg6 arg7 arg9 jv sv 0
        blockRows arg6 arg7 arg9 jv sv 1
        blockRows arg6 arg7 arg9 jv sv 2
        blockRows arg6 arg7 arg9 jv sv 3
        blockRows arg6 arg7 arg9 jv sv 4
        blockRows arg6 arg7 arg9 jv sv 5
        blockRows arg6 arg7 arg9 jv sv 6
        pure ⟨⟩) := by simp only [gd_bind]; rfl

/-- The last block's loop as printed is the block's. -/
theorem t17_eq (v2 : BitVec 32) :
    (Scf.Loop.for k0_t17_loop k0_t17_ok ⟨⟩ (k0_t17_body (F := F) i arg2 harg2 arg3 harg3 arg4 harg4 arg5 harg5 arg6 harg6 arg7 harg7 arg8 harg8 arg9 harg9 arg10 arg11 arg12 arg13 v2 (jv 0) (jv 1) (jv 2) (jv 3) (jv 4) (jv 5) (jv 6) (jv 7) (sv 0) (sv 1) (sv 2) (sv 3) (sv 4) (sv 5) (sv 6) (k0_pay162 (jv 7)) 1#32))
      = blockRows arg6 arg7 arg9 jv sv 7 := rfl

theorem pay163_eq : k0_pay163 (jv 7) (k0_pay162 (jv 7)) 1#32 = sv 7 := rfl

/-- The printed trip is the two passes. -/
theorem body_eq (v2 : BitVec 32) (t1 : Fin k0_t1_loop.trips) (u : Unit) :
    k0_t1_body (F := F) i arg2 harg2 arg3 harg3 arg4 harg4 arg5 harg5 arg6 harg6 arg7 harg7 arg8 harg8 arg9 harg9 arg10 arg11 arg12 arg13 v2
      (jv 0) (jv 1) (jv 2) (jv 3) (jv 4) (jv 5) (jv 6) (jv 7) (sv 0) (sv 1) (sv 2) (sv 3) (sv 4) (sv 5) (sv 6) (k0_pay162 (jv 7)) 1#32 t1 u
      = (half0 i arg2 arg3 arg4 harg4 arg5 harg5 arg8 harg8 arg10 arg12 t1 >>= fun _ =>
          half1 i arg2 arg3 arg6 harg6 arg7 harg7 arg9 harg9 arg11 arg13 t1) := by
  have h : k0_t1_body (F := F) i arg2 harg2 arg3 harg3 arg4 harg4 arg5 harg5 arg6 harg6 arg7 harg7 arg8 harg8 arg9 harg9 arg10 arg11 arg12 arg13 v2 (jv 0) (jv 1) (jv 2) (jv 3) (jv 4) (jv 5) (jv 6) (jv 7) (sv 0) (sv 1) (sv 2) (sv 3) (sv 4) (sv 5) (sv 6) (k0_pay162 (jv 7)) 1#32 t1 u
      = (k0_part49 i arg2 harg2 arg3 harg3 arg4 harg4 arg5 harg5 arg6 harg6 arg7 harg7 arg8 harg8 arg9 harg9 arg10 arg11 arg12 arg13 v2 (jv 0) (jv 1) (jv 2) (jv 3) (sv 0) (sv 1) (sv 2) (sv 3) 0#32 1#32 t1 >>= fun p =>
        k0_part50 i arg2 harg2 arg3 harg3 arg4 harg4 arg5 harg5 arg6 harg6 arg7 harg7 arg8 harg8 arg9 harg9 arg10 arg11 arg12 arg13 v2 (jv 4) (jv 5) (jv 6) (jv 7) (sv 0) (sv 1) (sv 2) (sv 3) (sv 4) (sv 5) (sv 6) (sv 7) t1 p.1 p.2.1 p.2.2 >>= fun b =>
        k0_part51 i arg2 harg2 arg3 harg3 arg4 harg4 arg5 harg5 arg6 harg6 arg7 harg7 arg8 harg8 arg9 harg9 arg10 arg11 arg12 arg13 v2 (jv 0) (jv 1) (jv 2) (jv 3) (jv 4) (jv 5) (jv 6) (sv 0) (sv 1) (sv 2) (sv 3) (sv 4) (sv 5) (sv 6) t1 p.1 b >>= fun _ =>
        blockRows arg6 arg7 arg9 jv sv 7 >>= fun _ =>
        send arg3 arg9 harg9 arg13 (k0_off150 i t1 1#32) (k0_off150_inb i t1 1) >>= fun _ =>
        gd (k0_cond4 t1 = 1#1) fun h => fetch arg2 arg6 arg7 harg6 harg7 arg11 (k0_off298 i t1) (k0_off299 i t1) (k0_off298_inb i t1 h) (k0_off299_inb i t1 h)) := by
    unfold gd; rfl
  rw [h, part49_eq]
  simp only [bind_assoc, pure_bind, part50_eq, part51_eq, half0, half1, allRows, arrive]

/-- The printed prologue, main loop and first closing wait. -/
theorem part54_eq (v2 : BitVec 32) :
    k0_part54 (F := F) i arg2 harg2 arg3 harg3 arg4 harg4 arg5 harg5 arg6 harg6 arg7 harg7 arg8 harg8 arg9 harg9 arg10 arg11 arg12 arg13 v2
      (jv 0) (jv 1) (jv 2) (jv 3) (jv 4) (jv 5) (jv 6) (jv 7) (sv 0) (sv 1) (sv 2) (sv 3) (sv 4) (sv 5) (sv 6) (k0_pay162 (jv 7)) 1#32
      = (do
        fetch arg2 arg4 arg5 harg4 harg5 arg10 (k0_off1 i 0#32) (k0_off2 i 0#32) (k0_off1_inb i 0) (k0_off2_inb i 0)
        fetch arg2 arg6 arg7 harg6 harg7 arg11 (k0_off1 i 2#32) (k0_off2 i 2#32) (k0_off1_inb i 1) (k0_off2_inb i 1)
        Scf.Loop.for k0_t1_loop k0_t1_ok ⟨⟩ (k0_t1_body i arg2 harg2 arg3 harg3 arg4 harg4 arg5 harg5 arg6 harg6 arg7 harg7 arg8 harg8 arg9 harg9 arg10 arg11 arg12 arg13 v2
          (jv 0) (jv 1) (jv 2) (jv 3) (jv 4) (jv 5) (jv 6) (jv 7) (sv 0) (sv 1) (sv 2) (sv 3) (sv 4) (sv 5) (sv 6) (k0_pay162 (jv 7)) 1#32)
        sent arg3 arg8 harg8 arg12 (k0_off300 i 124#32) (k0_off300_inb i 0)
        pure 126#32) := rfl

/-- The printed tile program, regrouped. -/
theorem tile_eq :
    cc0__sc_body (F := F) i arg2 harg2 arg3 harg3 arg4 harg4 arg5 harg5 arg6 harg6 arg7 harg7 arg8 harg8 arg9 harg9 arg10 arg11 arg12 arg13
      = tileProg i arg2 arg3 arg4 harg4 arg5 harg5 arg6 harg6 arg7 harg7 arg8 harg8 arg9 harg9 arg10 arg11 arg12 arg13 := by
  rw [cc0__sc_body_eq_skeleton]
  have h : cc0__sc_body_skel (F := F) i arg2 harg2 arg3 harg3 arg4 harg4 arg5 harg5 arg6 harg6 arg7 harg7 arg8 harg8 arg9 harg9 arg10 arg11 arg12 arg13
      = (k0_part54 (F := F) i arg2 harg2 arg3 harg3 arg4 harg4 arg5 harg5 arg6 harg6 arg7 harg7 arg8 harg8 arg9 harg9 arg10 arg11 arg12 arg13 (Scalar.muli (Scalar.addi (Scalar.muli (BitVec.ofNat 32 (i 1).val) 2#32) (BitVec.ofNat 32 (i 0).val)) 128#32)
          (jv 0) (jv 1) (jv 2) (jv 3) (jv 4) (jv 5) (jv 6) (jv 7) (sv 0) (sv 1) (sv 2) (sv 3) (sv 4) (sv 5) (sv 6) (k0_pay162 (jv 7)) 1#32 >>= fun _ => sent arg3 arg9 harg9 arg13 (k0_off300 i 126#32) (k0_off300_inb i 1)) := rfl
  rw [h, part54_eq]
  simp only [bind_assoc, pure_bind, tileProg]
  have hb := funext fun t1 => funext fun u => body_eq (F := F) i arg2 harg2 arg3 harg3 arg4 harg4 arg5 harg5 arg6 harg6 arg7 harg7 arg8 harg8 arg9 harg9 arg10 arg11 arg12 arg13 (Scalar.muli (Scalar.addi (Scalar.muli (BitVec.ofNat 32 (i 1).val) 2#32) (BitVec.ofNat 32 (i 0).val)) 128#32) t1 u
  exact congrArg (fun b => fetch arg2 arg4 arg5 harg4 harg5 arg10 (k0_off1 i 0#32) (k0_off2 i 0#32) (k0_off1_inb i 0) (k0_off2_inb i 0) >>= fun _ =>
    fetch arg2 arg6 arg7 harg6 harg7 arg11 (k0_off1 i 2#32) (k0_off2 i 2#32) (k0_off1_inb i 1) (k0_off2_inb i 1) >>= fun _ =>
    Scf.Loop.for k0_t1_loop k0_t1_ok ⟨⟩ b >>= fun _ =>
    sent arg3 arg8 harg8 arg12 (k0_off300 i 124#32) (k0_off300_inb i 0) >>= fun _ =>
    sent arg3 arg9 harg9 arg13 (k0_off300 i 126#32) (k0_off300_inb i 1)) hb

end Printed

end Cert.Proof.Unpack

end
-- ==== Proof.RowWp.lean ====
/- What one row of the unpacking does to the buffers. -/
module

public import proofs.«01_k».proof.Proof.Setup
public import proofs.«01_k».proof.Proof.Half

@[expose] public section

noncomputable section

namespace Cert.Proof.Unpack

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Packed positions -/

/-- Position `n` of a packed sample. -/
def cell (n : Nat) : S8256.Idx := fun a => ⟨n % S8256.size a, Nat.mod_lt _ (by have := Fin.eq_zero a; subst this; decide)⟩

/-- The packed position of matrix element `(r, j)`: the packed array holds the upper triangle, so below the diagonal it
    is that of `(j, r)`. -/
def pidx (r j : Nat) : Nat := if j < r then srN j + r else srN r + j

theorem srW_fin : ∀ n : Fin 128, (srW (BitVec.ofNat 32 n.val)).toNat = srN n.val := by decide +kernel

theorem srW_toNat {r : BitVec 32} (hr : r.toNat < 128) : (srW r).toNat = srN r.toNat := by
  have h := srW_fin ⟨r.toNat, hr⟩
  rwa [show BitVec.ofNat 32 (⟨r.toNat, hr⟩ : Fin 128).val = r from ofNat_toNat_lt.symm] at h

theorem srN_le' {n : Nat} (h : n < 128) : srN n + 128 ≤ 8256 := srN_le ⟨n, h⟩

theorem pidx_lt {r j : Nat} (hr : r < 128) (hj : j < 128) : pidx r j < 8256 := by
  have h1 := srN_le' hr
  have h2 := srN_le' hj
  unfold pidx; split <;> omega

theorem S16_lt (x : S16.Idx) : (x 0).val < 16 := (x 0).isLt

theorem jv_apply (k : Fin 8) (x : S16.Idx) : jv k x = BitVec.ofNat 32 (16 * k.val + (x 0).val) := by
  show IntOp.addi (iota .scVector S16 32 [0] iota_S16_d0_w32_scVector x) (BitVec.ofNat 32 (16 * k.val)) = _
  rw [iota_single_apply, Nat.add_comm, BitVec.ofNat_add]
  rfl

theorem sv_apply (k : Fin 8) (x : S16.Idx) : sv k x = srW (jv k x) := rfl

theorem jv_toNat (k : Fin 8) (x : S16.Idx) : (jv k x).toNat = 16 * k.val + (x 0).val := by
  rw [jv_apply, BitVec.toNat_ofNat, Nat.mod_eq_of_lt]
  have := k.isLt; have := S16_lt x; omega

/-- The index vectors of a row of block `rb` name the packed positions of the row's columns. -/
theorem gidx_toNat (rb : Fin 8) {r : BitVec 32} (hr : r.toNat < 128) (hb : 16 * rb.val ≤ r.toNat) (k : Fin 8) (x : S16.Idx) :
    (gidx jv sv rb r k x).toNat = pidx r.toNat (16 * k.val + (x 0).val) := by
  have hk := k.isLt
  have hx := S16_lt x
  have hj : (jv k x).toNat = 16 * k.val + (x 0).val := jv_toNat k x
  have hj' : (jv k x).toNat < 128 := by omega
  have hs := srW_toNat hj'
  have hs' := srW_toNat hr
  have h1 := srN_le' hr
  have h2 := srN_le' hj'
  have hlo : (IntOp.addi (srW (jv k x)) r).toNat = srN (jv k x).toNat + r.toNat := by
    show (srW (jv k x) + r).toNat = _
    rw [BitVec.toNat_add, hs, Nat.mod_eq_of_lt (by omega)]
  have hhi : (IntOp.addi (srW r) (jv k x)).toNat = srN r.toNat + (jv k x).toNat := by
    show (srW r + jv k x).toNat = _
    rw [BitVec.toNat_add, hs', Nat.mod_eq_of_lt (by omega)]
  unfold gidx pidx
  rw [← hj]
  by_cases hkr : k.val < rb.val
  · rw [show Nat.blt k.val rb.val = true by simpa [Nat.blt_eq] using hkr, cond_true, if_pos (by omega)]
    exact hlo
  · rw [show Nat.blt k.val rb.val = false by simpa [← Bool.not_eq_true, Nat.blt_eq] using hkr, cond_false]
    have hc : IntOp.cmpi .slt (jv k x) r = BitVec.ofBool (decide ((jv k x).toNat < r.toNat)) := by
      show BitVec.ofBool ((jv k x).slt r) = _
      congr 1
      rw [BitVec.slt_eq_decide, BitVec.toInt_eq_toNat_of_lt (by omega), BitVec.toInt_eq_toNat_of_lt (by omega)]
      simp
    show (Scalar.select (IntOp.cmpi .slt (jv k x) r) (IntOp.addi (srW (jv k x)) r) (IntOp.addi (srW r) (jv k x))).toNat = _
    rw [hc]
    by_cases hlt : (jv k x).toNat < r.toNat
    · rw [if_pos hlt, decide_eq_true hlt]; exact hlo
    · rw [if_neg hlt, decide_eq_false hlt]; exact hhi

/-- So each index vector stays inside a packed sample. -/
theorem gidx_chk (rb : Fin 8) {r : BitVec 32} (hr : r.toNat < 128) (hb : 16 * rb.val ≤ r.toNat) (k : Fin 8) :
    k0_chk1 (gidx jv sv rb r k) := by
  intro a x
  have ha := Fin.eq_zero a
  subst ha
  show (gidx jv sv rb r k x).toNat < 8256
  rw [gidx_toNat rb hr hb]
  have := k.isLt; have := S16_lt x
  exact pidx_lt hr (by omega)

/-! ## Sixteen-wide blocks of a row -/

/-- Block `k` of a row whose column `j` holds `φ j`. -/
def blk (φ : Nat → Elt F .f32) (k : Fin 8) : Fin 8 × Vec F S16 .f32 := (k, fun x => φ (16 * k.val + (x 0).val))

/-- Reading sixteen elements of a packed row reads the packed sample from the row's start on. -/
theorem read_plain {κ : Kind} (v : View sig κ .vmem S8256 .f32) {r : BitVec 32} (hr : r.toNat < 128) (k : Fin 8) (f : v.ty.Contents (Elt F))
 :
    v.readAt (Elt F) (Rect.unit (s := S8256) (plainOff r k) S16.size (plain_inb hr k)).toLoadRect f
      = (blk (fun j => v.read (Elt F) f (cell (srN r.toNat + j))) k).2 := by
  funext x
  show v.read (Elt F) f _ = v.read (Elt F) f (cell (srN r.toNat + (16 * k.val + (x 0).val)))
  congr 1
  funext a
  have ha := Fin.eq_zero a
  subst ha
  apply Fin.ext
  show plainOff r k 0 + 1 * (x 0).val = (srN r.toNat + (16 * k.val + (x 0).val)) % 8256
  rw [plainOff_eq hr]
  have := srN_le' hr; have := k.isLt; have := S16_lt x
  rw [Nat.mod_eq_of_lt (by omega)]; omega

/-- What a gather through row `r`'s index vectors reads. -/
theorem read_gather {κ : Kind} (m : Memref sig κ .vmem S8256 .f32) (rb : Fin 8) {r : BitVec 32} (hr : r.toNat < 128) (hb : 16 * rb.val ≤ r.toNat)
    (k : Fin 8) (f : m.view.ty.Contents (Elt F)) (h : ∀ a x, ((![gidx jv sv rb r k] : Fin 1 → IVec S16 32) a x).toNat < S8256.size a) :
    Idealize.ShloMosaic.loadIdx ((m.access (.whole S8256)).read (Elt F) f) ![gidx jv sv rb r k] h
      = (blk (fun j => m.view.read (Elt F) f (cell (pidx r.toNat j))) k).2 := by
  funext x
  show m.view.read (Elt F) f ((Rect.whole S8256).emb _) = _
  rw [Rect.emb_whole_apply]
  show _ = m.view.read (Elt F) f (cell (pidx r.toNat (16 * k.val + (x 0).val)))
  congr 1
  funext a
  have ha := Fin.eq_zero a
  subst ha
  apply Fin.ext
  have hx : (gidx jv sv rb r k x).toNat = _ := gidx_toNat rb hr hb k x
  show (gidx jv sv rb r k x).toNat = _ % 8256
  have := k.isLt; have := S16_lt x
  rw [hx, Nat.mod_eq_of_lt (pidx_lt hr (by omega))]

/-- What the store of column block `k` of row `r` of sample `s` leaves in the output buffer. -/
theorem read_store {κ : Kind} (ov : Memref sig κ .vmem S2x128x128 .f32) (s : Fin 2) {r : BitVec 32} (hr : r.toNat < 128) (k : Fin 8)
    (g : ov.view.ty.Contents (Elt F)) (φ : Nat → Elt F .f32) (y : S2x128x128.Idx) :
    ov.view.read (Elt F) ((ov.access (Rect.unit (s := S2x128x128) (storeOff s r k) S1x1x16.size (store_inb s hr k))).write (Elt F) g
        (shapeCast S1x1x16 (blk φ k).2 shapeCasts_S16_S1x1x16) Finset.univ) y
      = if (y 0).val = s.val ∧ (y 1).val = r.toNat ∧ (y 2).val / 16 = k.val then φ (y 2).val else ov.view.read (Elt F) g y := by
  have hir := indexCast_toNat hr
  by_cases hy : (y 0).val = s.val ∧ (y 1).val = r.toNat ∧ (y 2).val / 16 = k.val
  · rw [if_pos hy]
    obtain ⟨h0, h1, h2⟩ := hy
    have hyx : y = (Rect.unit (s := S2x128x128) (storeOff s r k) S1x1x16.size (store_inb s hr k)).emb
        (fun a => match a with | 0 => (0 : Fin 1) | 1 => (0 : Fin 1) | 2 => (⟨(y 2).val % 16, Nat.mod_lt _ (by decide)⟩ : Fin 16)) := by
      funext a
      apply Fin.ext
      match a with
      | 0 => show (y 0).val = s.val + 1 * 0; omega
      | 1 => show (y 1).val = (Scalar.indexCast r).toNat + 1 * 0; omega
      | 2 => show (y 2).val = 16 * k.val + 1 * ((y 2).val % 16); omega
    conv_lhs => rw [hyx]
    refine (View.read_slice_write_emb _ _ _ (Finset.mem_univ _)).trans ?_
    refine (shapeCast_apply _ _ _ (fun a => ⟨(y 2).val % 16, by have := Fin.eq_zero a; subst this; exact Nat.mod_lt _ (by decide)⟩ : S16.Idx) ?_).trans ?_
    · rw [Shape.rowMajor_val_one, Shape.rowMajor_val_three]
      show (y 2).val % 16 = (0 * 1 + 0) * 16 + (y 2).val % 16
      omega
    · show φ (16 * k.val + (y 2).val % 16) = _
      congr 1; omega
  · rw [if_neg hy]
    apply View.read_slice_write_of_not_mem
    intro hm
    rw [Rect.map_emb_univ, Rect.mem_set_unit] at hm
    apply hy
    have h0 := hm 0; have h1 := hm 1; have h2 := hm 2
    change s.val ≤ (y 0).val ∧ (y 0).val < s.val + 1 at h0
    change (Scalar.indexCast r).toNat ≤ (y 1).val ∧ (y 1).val < (Scalar.indexCast r).toNat + 1 at h1
    change 16 * k.val ≤ (y 2).val ∧ (y 2).val < 16 * k.val + 16 at h2
    omega

/-! ## The row's pieces, run -/

variable {d : Dev nD} {cc : Fin τ.nSC} {ss : Fin τ.nSub}

/-- The weakest precondition of a tile's program. -/
abbrev twp (d : Dev nD) (cc : Fin τ.nSC) (ss : Fin τ.nSub) (p : TProg F cc ss) (Q : Unit → sProp (RM F)) : sProp (RM F) :=
  wp frame (wpE (defs₀ (F := F)) 𝒱₀ (V d cc ss) none) Set.univ p Q

theorem twp_ret (Q : Unit → sProp (RM F)) : Q ⟨⟩ ⊢ twp d cc ss (.ret ⟨⟩) Q := by
  show _ ⊢ wp _ _ _ _ _
  rw [wp_ret]
  iintro H
  imodintro
  iexact H

theorem wp_loads (m : Memref sig .scVector .vmem S8256 .f32) {r : BitVec 32} (hr : r.toNat < 128) (f : Buf (Elt F) (m.view.loc (V d cc ss)))
    (Q : Unit → sProp (RM F)) : ∀ (ks : List (Fin 8)) (Kk : List (Fin 8 × Vec F S16 .f32) → TProg F cc ss),
    (m.view.loc (V d cc ss) ↦[m.view.set]{fullShare} f)
      ⊢ iprop(((m.view.loc (V d cc ss) ↦[m.view.set]{fullShare} f)
          -∗ twp d cc ss (Kk (ks.map (blk fun j => m.view.read (Elt F) f (cell (srN r.toNat + j))))) Q)
        -∗ twp d cc ss (loadsThen m hr ks Kk) Q)
  | [], Kk => by
    iintro H HK
    iapply HK $$ H
  | k :: ks, Kk => by
    iintro H HK
    simp only [loadsThen]
    iapply wp_load 𝒱₀ (V d cc ss) none Set.univ (m := m) (S := m.view.set) (q := fullShare) (f := f) (View.setOn_subset_set _ _) $$ H
    iintro H
    rw [read_plain m.view hr k f]
    iapply wp_loads m hr f Q ks _ $$ H
    iintro H
    iapply HK $$ H

theorem wp_assumes (G : Fin 8 → IVec S16 32) (Q : Unit → sProp (RM F)) :
    ∀ (ks : List (Fin 8)) (Kk : (∀ k ∈ ks, k0_chk1 (G k)) → TProg F cc ss) (h : ∀ k ∈ ks, k0_chk1 (G k)),
    twp d cc ss (Kk h) Q ⊢ twp d cc ss (assumesThen G ks Kk) Q
  | [], Kk, h => .rfl
  | k :: ks, Kk, h =>
    (wp_assumes G Q ks (fun hs => Kk (List.forall_mem_cons.mpr ⟨h k List.mem_cons_self, hs⟩)) fun k hk => h k (List.mem_cons_of_mem _ hk)).trans
      (wp_assume 𝒱₀ (V d cc ss) none Set.univ (P := k0_chk1 (G k)) (d := k0_chk1.dec (G k))
        (k := fun hw => assumesThen G ks fun hs => Kk (List.forall_mem_cons.mpr ⟨hw.down, hs⟩)) (h k List.mem_cons_self))

theorem wp_gathers (m : Memref sig .scVector .vmem S8256 .f32) (rb : Fin 8) {r : BitVec 32} (hr : r.toNat < 128) (hb : 16 * rb.val ≤ r.toNat)
    (f : Buf (Elt F) (m.view.loc (V d cc ss))) (Q : Unit → sProp (RM F)) :
    ∀ (ks : List (Fin 8)) (h : ∀ k ∈ ks, k0_chk1 (gidx jv sv rb r k)) (Kk : List (Fin 8 × Vec F S16 .f32) → TProg F cc ss),
    (m.view.loc (V d cc ss) ↦[m.view.set]{fullShare} f)
      ⊢ iprop(((m.view.loc (V d cc ss) ↦[m.view.set]{fullShare} f)
          -∗ twp d cc ss (Kk (ks.map (blk fun j => m.view.read (Elt F) f (cell (pidx r.toNat j))))) Q)
        -∗ twp d cc ss (gathersThen m (gidx jv sv rb r) ks h Kk) Q)
  | [], h, Kk => by
    iintro H HK
    iapply HK $$ H
  | k :: ks, h, Kk => by
    iintro H HK
    simp only [gathersThen]
    iapply SparseCore.wp_vectorLoadIdx 𝒱₀ (V d cc ss) none Set.univ (base := m) (S := m.view.set) (q := fullShare) (f := f) (View.set_slice_subset _ _) $$ H
    iintro H
    rw [read_gather m rb hr hb k f]
    iapply wp_gathers m rb hr hb f Q ks _ _ $$ H
    iintro H
    iapply HK $$ H

theorem wp_stores (ov : Memref sig .scVector .vmem S2x128x128 .f32) (s : Fin 2) {r : BitVec 32} (hr : r.toNat < 128) (φ : Nat → Elt F .f32)
    (Q : Unit → sProp (RM F)) (Kk : TProg F cc ss) : ∀ (ks : List (Fin 8)) (g : Buf (Elt F) (ov.view.loc (V d cc ss))),
    (ov.view.loc (V d cc ss) ↦[ov.view.set]{fullShare} g)
      ⊢ iprop((∀ g', ⌜∀ y : S2x128x128.Idx, ov.view.read (Elt F) g' y
              = if (y 0).val = s.val ∧ (y 1).val = r.toNat ∧ ∃ k ∈ ks, (y 2).val / 16 = k.val then φ (y 2).val else ov.view.read (Elt F) g y⌝
            -∗ (ov.view.loc (V d cc ss) ↦[ov.view.set]{fullShare} g') -∗ twp d cc ss Kk Q)
        -∗ twp d cc ss (storesThen ov s hr (ks.map (blk φ)) Kk) Q)
  | [], g => by
    iintro H HK
    iapply HK $$ %g [] H
    ipureintro
    intro y
    simp
  | k :: ks, g => by
    iintro H HK
    simp only [storesThen, List.map_cons]
    iapply wp_load 𝒱₀ (V d cc ss) none Set.univ (m := ov) (S := ov.view.set) (q := fullShare) (f := g) (View.setOn_subset_set _ _) $$ H
    iintro H
    iapply wp_store 𝒱₀ (V d cc ss) none Set.univ (m := ov)
      (r := Rect.unit (s := S2x128x128) (storeOff s r k) S1x1x16.size (store_inb s hr k)) (S := ov.view.set) (f := g) ((View.setOn_subset_set _ _).trans (View.set_slice_subset _ _)) $$ H
    iintro H
    iapply wp_stores ov s hr φ Q Kk ks _ $$ H
    iintro %g' %hg' H
    iapply HK $$ %g' [] H
    ipureintro
    intro y
    rw [hg' y]
    erw [read_store ov s hr k g φ y]
    simp only [List.mem_cons, exists_eq_or_imp]
    by_cases h0 : (y 0).val = s.val ∧ (y 1).val = r.toNat
    · by_cases h1 : ∃ k ∈ ks, (y 2).val / 16 = k.val
      · rw [if_pos ⟨h0.1, h0.2, h1⟩, if_pos ⟨h0.1, h0.2, .inr h1⟩]
      · rw [if_neg (fun h => h1 h.2.2)]
        by_cases h2 : (y 2).val / 16 = k.val
        · rw [if_pos ⟨h0.1, h0.2, h2⟩, if_pos ⟨h0.1, h0.2, .inl h2⟩]
        · rw [if_neg (fun h => h2 h.2.2), if_neg (fun h => h.2.2.elim h2 h1)]
    · rw [if_neg (fun h => h0 ⟨h.1, h.2.1⟩), if_neg (fun h => h0 ⟨h.1, h.2.1⟩), if_neg (fun h => h0 ⟨h.1, h.2.1⟩)]

/-! ## One row, one block, all rows -/

theorem mem_gathers : ∀ rb k : Fin 8, k ∈ gathers rb ↔ k ≤ rb := by decide
theorem mem_plains : ∀ rb k : Fin 8, k ∈ plains rb ↔ rb ≤ k := by decide

/-- Element `(r, j)` of the matrix packed in `u`. -/
def unpk (u : S8256.Idx → Elt F .f32) (r j : Nat) : Elt F .f32 := u (cell (pidx r j))

/-- The samples packed in the two buffers, by number. -/
def two (u v : S8256.Idx → Elt F .f32) (s : Nat) : S8256.Idx → Elt F .f32 := if s = 0 then u else v

/-- One sample's stores make its row: the columns past the block come from the row's own packed stretch, the others
    from the gathers. -/
theorem row_of_stores (rb : Fin 8) {r : Nat} (hb : 16 * rb.val ≤ r) (hb' : r < 16 * rb.val + 16) (u : S8256.Idx → Elt F .f32)
    (y : S2x128x128.Idx) (z : Elt F .f32) :
    (if ∃ k ∈ gathers rb, (y 2).val / 16 = k.val then u (cell (pidx r (y 2).val))
      else if ∃ k ∈ plains rb, (y 2).val / 16 = k.val then u (cell (srN r + (y 2).val)) else z) = unpk u r (y 2).val := by
  have hy : (y 2).val < 128 := (y 2).isLt
  by_cases h : ∃ k ∈ gathers rb, (y 2).val / 16 = k.val
  · rw [if_pos h]; rfl
  · rw [if_neg h]
    have hlt : rb.val < (y 2).val / 16 := by
      by_contra hc
      exact h ⟨⟨(y 2).val / 16, by omega⟩, (mem_gathers _ _).mpr (Fin.mk_le_of_le_val (by omega)), rfl⟩
    rw [if_pos ⟨⟨(y 2).val / 16, by omega⟩, (mem_plains _ _).mpr (Fin.le_def.mpr (by show rb.val ≤ (y 2).val / 16; omega)), rfl⟩]
    unfold unpk pidx
    rw [if_neg (by omega)]

theorem wp_row (m0 m1 : Memref sig .scVector .vmem S8256 .f32) (ov : Memref sig .scVector .vmem S2x128x128 .f32) (rb : Fin 8)
    {r : BitVec 32} (hr : r.toNat < 128) (hb : 16 * rb.val ≤ r.toNat) (hb' : r.toNat < 16 * rb.val + 16)
    (f0 : Buf (Elt F) (m0.view.loc (V d cc ss))) (f1 : Buf (Elt F) (m1.view.loc (V d cc ss))) (g : Buf (Elt F) (ov.view.loc (V d cc ss)))
    (Q : Unit → sProp (RM F)) :
    iprop((m0.view.loc (V d cc ss) ↦[m0.view.set]{fullShare} f0) ∗ (m1.view.loc (V d cc ss) ↦[m1.view.set]{fullShare} f1)
        ∗ (ov.view.loc (V d cc ss) ↦[ov.view.set]{fullShare} g))
      ⊢ iprop((∀ g', ⌜∀ y : S2x128x128.Idx, ov.view.read (Elt F) g' y
              = if (y 1).val = r.toNat then unpk (two (m0.view.read (Elt F) f0) (m1.view.read (Elt F) f1) (y 0).val) r.toNat (y 2).val
                else ov.view.read (Elt F) g y⌝
            -∗ ((m0.view.loc (V d cc ss) ↦[m0.view.set]{fullShare} f0) ∗ (m1.view.loc (V d cc ss) ↦[m1.view.set]{fullShare} f1)
                ∗ (ov.view.loc (V d cc ss) ↦[ov.view.set]{fullShare} g')) -∗ Q ⟨⟩)
        -∗ twp d cc ss (rowBody m0 m1 ov jv sv rb hr) Q) := by
  iintro ⟨H0, H1, Hv⟩ HK
  unfold rowBody
  have hc : ∀ k ∈ gathers rb, k0_chk1 (gidx jv sv rb r k) := fun k _ => gidx_chk rb hr hb k
  iapply wp_loads m0 hr f0 Q $$ H0
  iintro H0
  iapply wp_assumes (gidx jv sv rb r) Q _ _ hc
  iapply wp_gathers m0 rb hr hb f0 Q $$ H0
  iintro H0
  iapply wp_loads m1 hr f1 Q $$ H1
  iintro H1
  iapply wp_assumes (gidx jv sv rb r) Q _ _ hc
  iapply wp_gathers m1 rb hr hb f1 Q $$ H1
  iintro H1
  iapply wp_stores ov 0 hr _ Q _ _ g $$ Hv
  iintro %g1 %h1 Hv
  iapply wp_stores ov 0 hr _ Q _ _ g1 $$ Hv
  iintro %g2 %h2 Hv
  iapply wp_stores ov 1 hr _ Q _ _ g2 $$ Hv
  iintro %g3 %h3 Hv
  iapply wp_stores ov 1 hr _ Q _ _ g3 $$ Hv
  iintro %g4 %h4 Hv
  iapply twp_ret Q
  iapply HK $$ %g4 []
  · ipureintro
    intro y
    have hy0 : (y 0).val < 2 := (y 0).isLt
    rw [h4, h3, h2, h1]
    by_cases hy1 : (y 1).val = r.toNat
    · rw [if_pos hy1]
      rcases (show (y 0).val = 0 ∨ (y 0).val = 1 by omega) with e | e
      · simp only [e, hy1, Fin.val_zero, Fin.val_one, true_and, zero_ne_one, false_and, if_false]
        exact row_of_stores rb hb hb' _ y _
      · simp only [e, hy1, Fin.val_zero, Fin.val_one, true_and, one_ne_zero, false_and, if_false]
        exact row_of_stores rb hb hb' _ y _
    · simp only [hy1, false_and, and_false, if_false]
  · iframe

/-- The two packed buffers and an output buffer whose first `n` rows, of both samples, are unpacked. -/
def rowsDone (d : Dev nD) (cc : Fin τ.nSC) (ss : Fin τ.nSub) (m0 m1 : Memref sig .scVector .vmem S8256 .f32)
    (ov : Memref sig .scVector .vmem S2x128x128 .f32) (f0 : Buf (Elt F) (m0.view.loc (V d cc ss))) (f1 : Buf (Elt F) (m1.view.loc (V d cc ss)))
    (n : Nat) : sProp (RM F) :=
  iprop(∃ g : Buf (Elt F) (ov.view.loc (V d cc ss)),
    ⌜∀ y : S2x128x128.Idx, (y 1).val < n →
        ov.view.read (Elt F) g y = unpk (two (m0.view.read (Elt F) f0) (m1.view.read (Elt F) f1) (y 0).val) (y 1).val (y 2).val⌝
      ∗ (m0.view.loc (V d cc ss) ↦[m0.view.set]{fullShare} f0) ∗ (m1.view.loc (V d cc ss) ↦[m1.view.set]{fullShare} f1)
      ∗ (ov.view.loc (V d cc ss) ↦[ov.view.set]{fullShare} g))

section Rows
variable (m0 m1 : Memref sig .scVector .vmem S8256 .f32) (ov : Memref sig .scVector .vmem S2x128x128 .f32)
variable (f0 : Buf (Elt F) (m0.view.loc (V d cc ss))) (f1 : Buf (Elt F) (m1.view.loc (V d cc ss)))

theorem wp_rowBody (rb : Fin 8) {r : BitVec 32} (hr : r.toNat < 128) (hb : 16 * rb.val ≤ r.toNat) (hb' : r.toNat < 16 * rb.val + 16) :
    rowsDone d cc ss m0 m1 ov f0 f1 r.toNat
      ⊢ twp d cc ss (rowBody m0 m1 ov jv sv rb hr) fun _ => rowsDone d cc ss m0 m1 ov f0 f1 (r.toNat + 1) := by
  unfold rowsDone
  iintro ⟨%g, %hg, H⟩
  iapply wp_row m0 m1 ov rb hr hb hb' f0 f1 g _ $$ H
  iintro %g' %hg' H
  iexists g'
  isplitr
  · ipureintro
    intro y hy
    rw [hg' y]
    by_cases h : (y 1).val = r.toNat
    · rw [if_pos h, h]
    · rw [if_neg h]; exact hg y (by omega)
  · iexact H

theorem wp_blockRows (rb : Fin 8) :
    rowsDone d cc ss m0 m1 ov f0 f1 (16 * rb.val)
      ⊢ twp d cc ss (blockRows m0 m1 ov jv sv rb) fun _ => rowsDone d cc ss m0 m1 ov f0 f1 (16 * rb.val + 16) := by
  unfold blockRows
  refine BIBase.Entails.trans ?_ (Scf.wp_for frame (wpE (defs₀ (F := F)) 𝒱₀ (V d cc ss) none) Set.univ (rowLoop rb).lb (rowLoop rb).ub (rowLoop rb).st (rowLoop_ok rb) PUnit.unit _
    (fun k _ => rowsDone d cc ss m0 m1 ov f0 f1 (16 * rb.val + k)) ?_)
  · iintro H
    isplitl [H]
    · iexact H
    · iintro %acc H
      rw [show Scf.trips (rowLoop rb).lb (rowLoop rb).ub (rowLoop rb).st = 16 from rowLoop_trips rb]
      iexact H
  · intro k acc
    have hk : k.val < 16 := k.isLt.trans_eq (rowLoop_trips rb)
    have hr : (rowIv rb k.val).toNat = 16 * rb.val + k.val := rowIv_toNat rb k.isLt
    have h := wp_rowBody (d := d) (cc := cc) (ss := ss) m0 m1 ov f0 f1 rb (rowIv_lt rb k) (by omega) (by omega)
    rw [hr] at h
    exact h

/-- Running all the rows unpacks both samples. -/
theorem wp_allRows (g : Buf (Elt F) (ov.view.loc (V d cc ss))) :
    iprop((m0.view.loc (V d cc ss) ↦[m0.view.set]{fullShare} f0) ∗ (m1.view.loc (V d cc ss) ↦[m1.view.set]{fullShare} f1)
        ∗ (ov.view.loc (V d cc ss) ↦[ov.view.set]{fullShare} g))
      ⊢ twp d cc ss (allRows m0 m1 ov) fun _ => rowsDone d cc ss m0 m1 ov f0 f1 128 := by
  unfold allRows
  have h0 : iprop((m0.view.loc (V d cc ss) ↦[m0.view.set]{fullShare} f0) ∗ (m1.view.loc (V d cc ss) ↦[m1.view.set]{fullShare} f1)
        ∗ (ov.view.loc (V d cc ss) ↦[ov.view.set]{fullShare} g)) ⊢ rowsDone d cc ss m0 m1 ov f0 f1 0 := by
    unfold rowsDone
    iintro H
    iexists g
    isplitr
    · ipureintro
      intro y hy
      exact absurd hy (Nat.not_lt_zero _)
    · iexact H
  have hB := fun rb => wp_blockRows (d := d) (cc := cc) (ss := ss) m0 m1 ov f0 f1 rb
  refine h0.trans ?_
  simp only [twp, wp_bind]
  refine (hB 0).trans (wp_mono _ _ _ fun _ => ?_)
  refine (hB 1).trans (wp_mono _ _ _ fun _ => ?_)
  refine (hB 2).trans (wp_mono _ _ _ fun _ => ?_)
  refine (hB 3).trans (wp_mono _ _ _ fun _ => ?_)
  refine (hB 4).trans (wp_mono _ _ _ fun _ => ?_)
  refine (hB 5).trans (wp_mono _ _ _ fun _ => ?_)
  refine (hB 6).trans (wp_mono _ _ _ fun _ => ?_)
  exact hB 7

end Rows

end Cert.Proof.Unpack

end
-- ==== Proof.Copies.lean ====
/- The copies a tile makes: the packed samples it fetches and the matrices it sends, as what each leaves in the buffers and
   arrays it touches. -/
module

public import proofs.«01_k».proof.Proof.RowWp

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The two arrays -/

abbrev xM : Memref sig .scVector .hbm S4096x8256 .f32 := Memref.whole main_arg0_scv
abbrev oM : Memref sig .scVector .hbm S4096x128x128 .f32 := Memref.whole main_v0_scv

abbrev xLoc (d : Dev nD) : Loc nD τ sig := (SparseCore.T d).loc main_arg0
abbrev oLoc (d : Dev nD) : Loc nD τ sig := (SparseCore.T d).loc main_v0

/-- Packed sample `n` of the input. -/
def sample (X : S4096x8256.Idx → Elt F .f32) (n : Nat) : S8256.Idx → Elt F .f32 :=
  fun y => X (fun a => match a with | 0 => (⟨n % 4096, Nat.mod_lt _ (by decide)⟩ : Fin 4096) | 1 => y 0)

/-- The matrices the samples unpack to: the whole output. -/
def unpacked (X : S4096x8256.Idx → Elt F .f32) : S4096x128x128.Idx → Elt F .f32 :=
  fun i => unpk (sample X (i 0).val) (i 1).val (i 2).val

/-- The elements of output matrices `n` and `n + 1`. -/
def outSet (n : Nat) : Finset S4096x128x128.Idx := Finset.univ.filter fun i => n ≤ (i 0).val ∧ (i 0).val < n + 2

theorem read_inSl (X : S4096x8256.Idx → Elt F .f32) (off : Fin 2 → Nat) (inb : ∀ a, off a + S1x8256.size a ≤ S4096x8256.size a) (n : Nat)
    (h : off = ![n, 0]) : (inSl xM off inb).view.read (Elt F) X = sample X n := by
  subst h
  have hn : n + 1 ≤ 4096 := inb 0
  funext y
  have he : Shape.reshapeEquiv (squeezes_S1x8256_S8256).numel_eq y
      = (fun a => match a with | 0 => (0 : Fin 1) | 1 => y 0 : S1x8256.Idx) :=
    Shape.reshapeEquiv_eq_of_rowMajor _ (by
      rw [Shape.rowMajor_val_two, Shape.rowMajor_val_one]
      show 0 * 8256 + (y 0).val = (y 0).val
      omega)
  show X ((Rect.unit (s := S4096x8256) ![n, 0] S1x8256.size inb).emb (Shape.reshapeEquiv (squeezes_S1x8256_S8256).numel_eq y)) = _
  rw [he]
  unfold sample
  congr 1
  funext a
  apply Fin.ext
  match a with
  | 0 => show n + 1 * 0 = n % 4096; rw [Nat.mod_eq_of_lt (by omega)]; omega
  | 1 => show 0 + 1 * (y 0).val = (y 0).val; omega

theorem set_outSl (off : Fin 3 → Nat) (inb : ∀ a, off a + S2x128x128.size a ≤ S4096x128x128.size a) (n : Nat) (h : off = ![n, 0, 0]) :
    (outSl oM off inb).view.set = outSet n := by
  subst h
  show (oM.view.slice _).set = _
  rw [View.set_slice]
  show (Rect.unit (s := S4096x128x128) ![n, 0, 0] S2x128x128.size inb).set.map (Function.Embedding.refl _) = _
  rw [Finset.map_refl]
  ext i
  rw [Rect.mem_set_unit]
  unfold outSet
  rw [Finset.mem_filter]
  constructor
  · intro hh; exact ⟨Finset.mem_univ _, hh 0⟩
  · rintro ⟨-, hh⟩ a
    match a with
    | 0 => exact hh
    | 1 => exact ⟨Nat.zero_le _, by show (i 1).val < 0 + 128; have : (i 1).val < 128 := (i 1).isLt; omega⟩
    | 2 => exact ⟨Nat.zero_le _, by show (i 2).val < 0 + 128; have : (i 2).val < 128 := (i 2).isLt; omega⟩

/-- Writing two matrices into the output at `n` leaves them there. -/
theorem write_outSl (X : S4096x8256.Idx → Elt F .f32) (off : Fin 3 → Nat) (inb : ∀ a, off a + S2x128x128.size a ≤ S4096x128x128.size a) (n : Nat)
    (h : off = ![n, 0, 0]) (f : S4096x128x128.Idx → Elt F .f32) (w : S2x128x128.Idx → Elt F .f32)
    (hw : ∀ y, w y = unpk (sample X (n + (y 0).val)) (y 1).val (y 2).val) :
    ∀ i ∈ outSet n, (outSl oM off inb).view.write (Elt F) f w Finset.univ i = unpacked X i := by
  intro i hi
  rw [← set_outSl off inb n h] at hi
  obtain ⟨y, -, rfl⟩ := Finset.mem_map.mp hi
  rw [View.write_emb_of_mem _ _ (Finset.mem_univ y)]
  subst h
  show w y = _
  rw [hw y]
  unfold unpacked
  have h0 : (((outSl oM ![n, 0, 0] inb).view.emb y) 0).val = n + (y 0).val := by show n + 1 * (y 0).val = _; omega
  have h1 : (((outSl oM ![n, 0, 0] inb).view.emb y) 1).val = (y 1).val := by show 0 + 1 * (y 1).val = _; omega
  have h2 : (((outSl oM ![n, 0, 0] inb).view.emb y) 2).val = (y 2).val := by show 0 + 1 * (y 2).val = _; omega
  rw [h0, h1, h2]

/-! ## Fetching two samples -/

section Fetch

variable (d : Dev nD) (cc : Fin τ.nSC) (ss : Fin τ.nSub) (X : S4096x8256.Idx → Elt F .f32)

/-- A share of the whole input. -/
abbrev xPts (q : PosShare TreeShare) : sProp (RM F) := xLoc d ↦[Finset.univ]{q} X

/-- A tile's buffer, its contents as they may be. -/
abbrev anyIn (m : Memref sig .scVector .vmem S8256 .f32) : sProp (RM F) :=
  iprop(∃ f : Buf (Elt F) (m.view.loc (V d cc ss)), m.view.loc (V d cc ss) ↦[m.view.set]{fullShare} f)

abbrev anyOut (m : Memref sig .scVector .vmem S2x128x128 .f32) : sProp (RM F) :=
  iprop(∃ f : Buf (Elt F) (m.view.loc (V d cc ss)), m.view.loc (V d cc ss) ↦[m.view.set]{fullShare} f)

/-- A buffer that holds sample `n`. -/
def holds (m : Memref sig .scVector .vmem S8256 .f32) (n : Nat) : sProp (RM F) :=
  iprop(∃ f : Buf (Elt F) (m.view.loc (V d cc ss)), ⌜m.view.read (Elt F) f = sample X n⌝ ∗ m.view.loc (V d cc ss) ↦[m.view.set]{fullShare} f)

/-- What a fetch of two samples delivers: each buffer holding its sample, and the part of the input it was read from. -/
def landed (m0 m1 : Memref sig .scVector .vmem S8256 .f32) (q0 q1 : PosShare TreeShare) (n : Nat) (S0 S1 : Finset (Idx (xLoc d))) :
    Fin 2 → sProp (RM F)
  | 0 => iprop(holds d cc ss X m0 n ∗ xLoc d ↦[S0]{q0} X)
  | 1 => iprop(holds d cc ss X m1 (n + 1) ∗ xLoc d ↦[S1]{q1} X)

instance landed_storable (m0 m1 : Memref sig .scVector .vmem S8256 .f32) (q0 q1 : PosShare TreeShare) (n : Nat) (S0 S1 : Finset (Idx (xLoc d)))
    (t : Fin 2) : Storable (upEmb : UEmb _ (RM F)) (landed d cc ss X m0 m1 q0 q1 n S0 S1 t) := by
  match t with
  | 0 => unfold landed holds; infer_instance
  | 1 => unfold landed holds; infer_instance

/-- Samples `n` and `n + 1` on their way into the two buffers. -/
def coming (m0 m1 : Memref sig .scVector .vmem S8256 .f32) (isem : DmaSems sig S_) (q0 q1 : PosShare TreeShare) (n : Nat) : sProp (RM F) :=
  iprop(∃ S0 S1 : Finset (Idx (xLoc d)),
    Transfers.Batch EC (V d cc ss) (.dma isem.sem) (default : HIx 1) m0.view.dmaCredit (landed d cc ss X m0 m1 q0 q1 n S0 S1) 2 0
      ∗ (xLoc d ↦[Finset.univ \ S0]{q0} X) ∗ (xLoc d ↦[Finset.univ \ S1]{q1} X))

/-- What a core owes, its recorded waits beyond `W` all being of copies. -/
def owing (O : CellTallies nD τ sig (HIx 1)) (W : Waits sig (HIx 1)) : sProp (RM F) :=
  iprop(∃ W', ⌜∀ p ∈ W', p ∈ W ∨ p.2 = none⌝ ∗ owes (V d cc ss) O W')

variable (m0 m1 : Memref sig .scVector .vmem S8256 .f32) (h0 : m0.IsWhole) (h1 : m1.IsWhole) (isem : DmaSems sig S_) (q0 q1 : PosShare TreeShare)
variable (hN : m1.view.dmaCredit = m0.view.dmaCredit)
variable (off0 off1 : Fin 2 → Nat) (inb0 : ∀ a, off0 a + S1x8256.size a ≤ S4096x8256.size a) (inb1 : ∀ a, off1 a + S1x8256.size a ≤ S4096x8256.size a)

theorem landed_of_write (m : Memref sig .scVector .vmem S8256 .f32) (q : PosShare TreeShare) (off : Fin 2 → Nat)
    (inb : ∀ a, off a + S1x8256.size a ≤ S4096x8256.size a) (n : Nat) (e : off = ![n, 0]) (f : Buf (Elt F) (m.view.loc (V d cc ss))) :
    iprop((m.view.loc (V d cc ss) ↦[m.view.set]{fullShare} (m.view.write (Elt F) f ((inSl xM off inb).view.read (Elt F) X) Finset.univ))
        ∗ ((inSl xM off inb).view.loc (V d cc ss) ↦[(inSl xM off inb).view.set]{q} X))
      ⊢ iprop(holds d cc ss X m n ∗ xLoc d ↦[(inSl xM off inb).view.set]{q} X) := by
  iintro ⟨H, Hx⟩
  isplitr [Hx]
  · unfold holds
    iexists m.view.write (Elt F) f ((inSl xM off inb).view.read (Elt F) X) Finset.univ
    isplitr
    · ipureintro
      exact (View.read_write_univ _ _).trans (read_inSl X off inb n e)
    · iexact H
  · iexact Hx

omit [FloatOps F] in
theorem waits_insert {W W' : Waits sig (HIx 1)} {sm : SemLoc sig} (h : ∀ p ∈ W', p ∈ W ∨ p.2 = none) :
    ∀ p ∈ (insert (sm, (default : HIx 1)) W' : Waits sig (HIx 1)), p ∈ W ∨ p.2 = none := by
  intro p hp
  rcases Finset.mem_insert.mp hp with rfl | hp
  · exact .inr rfl
  · exact h p hp

include hN in
theorem wp_fetch (n : Nat) (e0 : off0 = ![n, 0]) (e1 : off1 = ![n + 1, 0]) (Q : Unit → sProp (RM F)) :
    iprop(xPts d X q0 ∗ xPts d X q1 ∗ anyIn d cc ss m0 ∗ anyIn d cc ss m1 ∗ semVal ((V d cc ss), .dma isem.sem) 0)
      ⊢ iprop((coming d cc ss X m0 m1 isem q0 q1 n -∗ Q ⟨⟩)
        -∗ twp d cc ss (fetch xM m0 m1 h0 h1 isem off0 off1 inb0 inb1) Q) := by
  unfold fetch
  iintro ⟨Hx0, Hx1, ⟨%f0, H0⟩, ⟨%f1, H1⟩, Hs⟩ HK
  ihave Hx0 := (pointsTo_split_subset (q := q0) (f := X) (S := Finset.univ) (Finset.subset_univ (inSl xM off0 inb0).view.set)).1 $$ Hx0
  icases Hx0 with ⟨Hx0, Hr0⟩
  ihave Hx1 := (pointsTo_split_subset (q := q1) (f := X) (S := Finset.univ) (Finset.subset_univ (inSl xM off1 inb1).view.set)).1 $$ Hx1
  icases Hx1 with ⟨Hx1, Hr1⟩
  imod (Transfers.batch_alloc' EC (V d cc ss) (default : HIx 1) m0.view.dmaCredit
    (landed d cc ss X m0 m1 q0 q1 n (inSl xM off0 inb0).view.set (inSl xM off1 inb1).view.set) (E := Set.univ)) $$ Hs with HB
  iapply Transfers.wp_dmaBatch EC 𝒱₀ (V d cc ss) none (src := inSl xM off0 inb0) (via := .same) (dst := m0) (sm := .dma isem.sem) (q := q0) (fs := X) (Sd := m0.view.set) (fd := f0)
    (D := landed d cc ss X m0 m1 q0 q1 n (inSl xM off0 inb0).view.set (inSl xM off1 inb1).view.set) (j := 0) (u := 0)
    (default : HIx 1) m0.view.dmaCredit rfl (Finset.Subset.refl _) (by decide) (Nat.zero_le _)
    (landed_of_write d cc ss X m0 q0 off0 inb0 n e0 f0) $$ [Hx0 H0 HB]
  · isplitl [Hx0]; · iexact Hx0
    isplitl [H0]; · iexact H0
    iexact HB
  iintro HB
  iapply Transfers.wp_dmaBatch EC 𝒱₀ (V d cc ss) none (src := inSl xM off1 inb1) (via := .same) (dst := m1) (sm := .dma isem.sem) (q := q1) (fs := X) (Sd := m1.view.set) (fd := f1)
    (D := landed d cc ss X m0 m1 q0 q1 n (inSl xM off0 inb0).view.set (inSl xM off1 inb1).view.set) (j := 1) (u := 0)
    (default : HIx 1) m0.view.dmaCredit hN (Finset.Subset.refl _) (by decide) (Nat.zero_le _)
    (landed_of_write d cc ss X m1 q1 off1 inb1 (n + 1) e1 f1) $$ [Hx1 H1 HB]
  · isplitl [Hx1]; · iexact Hx1
    isplitl [H1]; · iexact H1
    iexact HB
  iintro HB
  iapply twp_ret Q
  iapply HK
  unfold coming
  iexists (inSl xM off0 inb0).view.set, (inSl xM off1 inb1).view.set
  iframe

include hN in
theorem wp_arrive (n : Nat) (O : CellTallies nD τ sig (HIx 1)) (W : Waits sig (HIx 1)) (Q : Unit → sProp (RM F)) :
    iprop(coming d cc ss X m0 m1 isem q0 q1 n ∗ owing d cc ss O W ∗ Transfers.MayWaits (V d cc ss) (default : HIx 1) O)
      ⊢ iprop((iprop(xPts d X q0 ∗ xPts d X q1 ∗ holds d cc ss X m0 n ∗ holds d cc ss X m1 (n + 1) ∗ semVal ((V d cc ss), .dma isem.sem) 0
            ∗ owing d cc ss O W) -∗ Q ⟨⟩)
        -∗ twp d cc ss (arrive xM m0 m1 h0 h1 isem off0 off1 inb0 inb1) Q) := by
  unfold arrive coming owing
  iintro ⟨⟨%S0, %S1, HB, Hr0, Hr1⟩, ⟨%W', %hW, HO⟩, #Hmw⟩ HK
  have hpos : 0 < m0.view.dmaCredit := m0.view.dmaCredit_pos (by decide)
  iapply Transfers.wp_waitBatchO EC 𝒱₀ (V d cc ss) none (D := landed d cc ss X m0 m1 q0 q1 n S0 S1) (default : HIx 1) rfl (u := 0) (by omega) $$ [HB HO]
  · isplitl [HB]; · iexact HB
    isplitl [HO]; · iexact HO
    iapply Transfers.MayWaits.elim (SemLoc.dma isem.sem) $$ Hmw
  iintro ⟨HB, HO⟩
  iapply Transfers.wp_waitBatchLastO EC 𝒱₀ (V d cc ss) none (D := landed d cc ss X m0 m1 q0 q1 n S0 S1) (u := 0 + m0.view.dmaCredit) (default : HIx 1) hN hpos (by omega) $$ [HB HO]
  · isplitl [HB]; · iexact HB
    isplitl [HO]; · iexact HO
    iapply Transfers.MayWaits.elim (SemLoc.dma isem.sem) $$ Hmw
  iintro ⟨HD, Hs, HO⟩
  ihave HD := (show bigSep Finset.univ (landed d cc ss X m0 m1 q0 q1 n S0 S1)
      ⊢ iprop(landed d cc ss X m0 m1 q0 q1 n S0 S1 0 ∗ landed d cc ss X m0 m1 q0 q1 n S0 S1 1) from Entails.of_eq (by
        rw [show (Finset.univ : Finset (Fin 2)) = {0, 1} by decide, SparseCore.bigSep_insert' (by decide), bigSep_singleton])) $$ HD
  unfold landed
  icases HD with ⟨⟨H0, Hx0⟩, ⟨H1, Hx1⟩⟩
  iapply twp_ret Q
  iapply HK
  ihave Hx0 := (pointsTo_split_subset (q := q0) (f := X) (S := Finset.univ) (Finset.subset_univ S0)).2 $$ [Hx0 Hr0]
  · isplitl [Hx0] <;> iassumption
  ihave Hx1 := (pointsTo_split_subset (q := q1) (f := X) (S := Finset.univ) (Finset.subset_univ S1)).2 $$ [Hx1 Hr1]
  · isplitl [Hx1] <;> iassumption
  isplitl [Hx0]; · iexact Hx0
  isplitl [Hx1]; · iexact Hx1
  isplitl [H0]; · iexact H0
  isplitl [H1]; · iexact H1
  isplitl [Hs]; · iexact Hs
  iexists insert (SemLoc.dma isem.sem, (default : HIx 1)) (insert (SemLoc.dma isem.sem, (default : HIx 1)) W')
  isplitr [HO]
  · ipureintro
    exact waits_insert (sm := .dma isem.sem) (waits_insert (sm := .dma isem.sem) hW)
  · iexact HO

end Fetch

/-! ## Sending two matrices -/

section Send

variable (d : Dev nD) (cc : Fin τ.nSC) (ss : Fin τ.nSub) (X : S4096x8256.Idx → Elt F .f32)

/-- Two output matrices from `n` on, at contents `f`. -/
abbrev oPts (f : S4096x128x128.Idx → Elt F .f32) (n : Nat) : sProp (RM F) := oLoc d ↦[outSet n]{fullShare} f

/-- An output buffer that holds the matrices of samples `n` and `n + 1`. -/
def made (ov : Memref sig .scVector .vmem S2x128x128 .f32) (n : Nat) : sProp (RM F) :=
  iprop(∃ g : Buf (Elt F) (ov.view.loc (V d cc ss)),
    ⌜∀ y : S2x128x128.Idx, ov.view.read (Elt F) g y = unpk (sample X (n + (y 0).val)) (y 1).val (y 2).val⌝
      ∗ ov.view.loc (V d cc ss) ↦[ov.view.set]{fullShare} g)

/-- What one copy out credits its semaphore. -/
abbrev outAmount : Nat := oM.view.ref.dmaCredit S2x128x128 .f32

/-- The matrices of samples `n` and `n + 1` on their way out of the buffer. -/
def going (ov : Memref sig .scVector .vmem S2x128x128 .f32) (osem : DmaSems sig S_) (n : Nat) : sProp (RM F) :=
  Transfers.Flight EC (V d cc ss) (.dma osem.sem) (default : HIx 1) outAmount iprop(oPts d (unpacked X) n ∗ anyOut d cc ss ov)

variable (ov : Memref sig .scVector .vmem S2x128x128 .f32) (hov : ov.IsWhole) (osem : DmaSems sig S_)
variable (off : Fin 3 → Nat) (inb : ∀ a, off a + S2x128x128.size a ≤ S4096x128x128.size a)

theorem wp_send (n : Nat) (e : off = ![n, 0, 0]) (f : S4096x128x128.Idx → Elt F .f32) (Q : Unit → sProp (RM F)) :
    iprop(made d cc ss X ov n ∗ oPts d f n ∗ semVal ((V d cc ss), .dma osem.sem) 0)
      ⊢ iprop((going d cc ss X ov osem n -∗ Q ⟨⟩) -∗ twp d cc ss (send oM ov hov osem off inb) Q) := by
  unfold send made
  iintro ⟨⟨%g, %hg, Hv⟩, Ho, Hs⟩ HK
  have hS : (outSl oM off inb).view.set = outSet n := set_outSl off inb n e
  have hpos : 0 < outAmount := (outSl oM off inb).view.dmaCredit_pos (by decide)
  ihave Ho := (show oPts d f n ⊢ ((outSl oM off inb).view.loc (V d cc ss) ↦[outSet n]{fullShare} f : sProp (RM F)) from .rfl) $$ Ho
  iapply Transfers.wp_dmaLocal EC 𝒱₀ (V d cc ss) none (src := ov) (via := .same) (dst := outSl oM off inb) (sm := .dma osem.sem)
    (q := fullShare) (fs := g) (Sd := outSet n) (fd := f) (default : HIx 1) outAmount rfl hpos hS.subset $$ [Hv Ho Hs]
  · isplitl [Hv]; · iexact Hv
    isplitl [Ho]; · iexact Ho
    iexact Hs
  iintro HF
  iapply twp_ret Q
  iapply HK
  unfold going
  iapply Transfers.Flight_mono EC (V d cc ss) ?_ $$ HF
  iintro ⟨Ho, Hv⟩
  isplitl [Ho]
  · iapply (Entails.of_eq (pointsTo_congr (write_outSl X off inb n e f (ov.view.read (Elt F) g) hg))) $$ Ho
  · iexists g
    iexact Hv

theorem wp_sent (n : Nat) (O : CellTallies nD τ sig (HIx 1)) (W : Waits sig (HIx 1)) (Q : Unit → sProp (RM F)) :
    iprop(going d cc ss X ov osem n ∗ owing d cc ss O W ∗ Transfers.MayWaits (V d cc ss) (default : HIx 1) O)
      ⊢ iprop((iprop(oPts d (unpacked X) n ∗ anyOut d cc ss ov ∗ semVal ((V d cc ss), .dma osem.sem) 0 ∗ owing d cc ss O W) -∗ Q ⟨⟩)
        -∗ twp d cc ss (sent oM ov hov osem off inb) Q) := by
  unfold sent going owing
  iintro ⟨HF, ⟨%W', %hW, HO⟩, #Hmw⟩ HK
  iapply Transfers.wp_waitLocalO EC 𝒱₀ (V d cc ss) none (default : HIx 1) rfl $$ [HF HO]
  · isplitl [HF]; · iexact HF
    isplitl [HO]; · iexact HO
    iapply Transfers.MayWaits.elim (SemLoc.dma osem.sem) $$ Hmw
  iintro ⟨⟨Ho, Hv⟩, Hs, HO⟩
  iapply twp_ret Q
  iapply HK
  isplitl [Ho]; · iexact Ho
  isplitl [Hv]; · iexact Hv
  isplitl [Hs]; · iexact Hs
  iexists insert (SemLoc.dma osem.sem, (default : HIx 1)) W'
  isplitr [HO]
  · ipureintro
    exact waits_insert (sm := .dma osem.sem) hW
  · iexact HO

end Send

end Cert.Proof.Unpack

end
-- ==== Proof.Tile.lean ====
/- A tile's whole program: one pass over a buffer pair, the invariant the passes keep, and the loop of passes. -/
module

public import proofs.«01_k».proof.Proof.Copies

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section Pass

variable (d : Dev nD) (cc : Fin τ.nSC) (ss : Fin τ.nSub) (X : S4096x8256.Idx → Elt F .f32) (Z : S4096x128x128.Idx → Elt F .f32)
variable (m0 m1 : Memref sig .scVector .vmem S8256 .f32) (h0 : m0.IsWhole) (h1 : m1.IsWhole)
variable (ov : Memref sig .scVector .vmem S2x128x128 .f32) (hov : ov.IsWhole) (isem osem : DmaSems sig S_) (q0 q1 : PosShare TreeShare)
variable (row : Nat → Nat)

/-! ## The invariant of a buffer pair -/

/-- Before trip `t`, the input side: the trip's samples on their way, or after the last trip everything in hand. -/
def front (t : Nat) : sProp (RM F) :=
  if t < 32 then coming d cc ss X m0 m1 isem q0 q1 (row t)
  else iprop(xPts d X q0 ∗ xPts d X q1 ∗ anyIn d cc ss m0 ∗ anyIn d cc ss m1 ∗ semVal ((V d cc ss), .dma isem.sem) 0)

/-- The output side: the previous trip's matrices on their way out, or before the first trip the buffer in hand. -/
def back (t : Nat) : sProp (RM F) :=
  if t = 0 then iprop(anyOut d cc ss ov ∗ semVal ((V d cc ss), .dma osem.sem) 0)
  else going d cc ss X ov osem (row (t - 1))

/-- The pairs of output matrices still to be written, at their first contents `Z`, and those written. -/
def pairs (t : Nat) : sProp (RM F) :=
  iprop(bigSep (Finset.Ico t 32) (fun u => oPts d Z (row u)) ∗ bigSep (Finset.range (t - 1)) (fun u => oPts d (unpacked X) (row u)))

/-- What a buffer pair's passes keep. -/
def passInv (t : Nat) : sProp (RM F) :=
  iprop(front d cc ss X m0 m1 isem q0 q1 row t ∗ back d cc ss X ov osem row t ∗ pairs d X Z row t)

/-- One pass over a buffer pair. -/
def pass (C1 C2 : Prop) [Decidable C1] [Decidable C2]
    (a0 a1 : Fin 2 → Nat) (ia0 : ∀ a, a0 a + S1x8256.size a ≤ S4096x8256.size a) (ia1 : ∀ a, a1 a + S1x8256.size a ≤ S4096x8256.size a)
    (b : Fin 3 → Nat) (ib : C1 → ∀ a, b a + S2x128x128.size a ≤ S4096x128x128.size a)
    (c : Fin 3 → Nat) (ic : ∀ a, c a + S2x128x128.size a ≤ S4096x128x128.size a)
    (e0 e1 : Fin 2 → Nat) (ie0 : C2 → ∀ a, e0 a + S1x8256.size a ≤ S4096x8256.size a) (ie1 : C2 → ∀ a, e1 a + S1x8256.size a ≤ S4096x8256.size a) :
    TProg F cc ss := do
  arrive xM m0 m1 h0 h1 isem a0 a1 ia0 ia1
  gd C1 fun h => sent oM ov hov osem b (ib h)
  allRows m0 m1 ov
  send oM ov hov osem c ic
  gd C2 fun h => fetch xM m0 m1 h0 h1 isem e0 e1 (ie0 h) (ie1 h)

variable (hN : m1.view.dmaCredit = m0.view.dmaCredit)

theorem made_of_rowsDone (n : Nat) (f0 : Buf (Elt F) (m0.view.loc (V d cc ss))) (f1 : Buf (Elt F) (m1.view.loc (V d cc ss)))
    (e0 : m0.view.read (Elt F) f0 = sample X n) (e1 : m1.view.read (Elt F) f1 = sample X (n + 1)) :
    rowsDone d cc ss m0 m1 ov f0 f1 128 ⊢ iprop(anyIn d cc ss m0 ∗ anyIn d cc ss m1 ∗ made d cc ss X ov n) := by
  unfold rowsDone made
  iintro ⟨%g, %hg, H0, H1, Hv⟩
  isplitl [H0]; · iexists f0; iexact H0
  isplitl [H1]; · iexists f1; iexact H1
  iexists g
  isplitr
  · ipureintro
    intro y
    rw [hg y (y 1).isLt, e0, e1]
    unfold two
    have hy : (y 0).val < 2 := (y 0).isLt
    rcases (show (y 0).val = 0 ∨ (y 0).val = 1 by omega) with h | h
    · rw [h, if_pos rfl]; rfl
    · rw [h, if_neg (by decide)]
  · iexact Hv

include hN in
theorem wp_pass (t : Nat) (ht : t < 32) (C1 C2 : Prop) [Decidable C1] [Decidable C2] (hC1 : C1 ↔ t ≠ 0) (hC2 : C2 ↔ t + 1 < 32)
    (a0 a1 : Fin 2 → Nat) (ia0 : ∀ a, a0 a + S1x8256.size a ≤ S4096x8256.size a) (ia1 : ∀ a, a1 a + S1x8256.size a ≤ S4096x8256.size a)
    (b : Fin 3 → Nat) (ib : C1 → ∀ a, b a + S2x128x128.size a ≤ S4096x128x128.size a)
    (c : Fin 3 → Nat) (ic : ∀ a, c a + S2x128x128.size a ≤ S4096x128x128.size a)
    (e0 e1 : Fin 2 → Nat) (ie0 : C2 → ∀ a, e0 a + S1x8256.size a ≤ S4096x8256.size a) (ie1 : C2 → ∀ a, e1 a + S1x8256.size a ≤ S4096x8256.size a)
    (hc : c = ![row t, 0, 0]) (he0 : e0 = ![row (t + 1), 0]) (he1 : e1 = ![row (t + 1) + 1, 0])
    (O : CellTallies nD τ sig (HIx 1)) (W : Waits sig (HIx 1)) :
    iprop(passInv d cc ss X Z m0 m1 ov isem osem q0 q1 row t ∗ owing d cc ss O W ∗ Transfers.MayWaits (V d cc ss) (default : HIx 1) O)
      ⊢ twp d cc ss (pass cc ss m0 m1 h0 h1 ov hov isem osem C1 C2 a0 a1 ia0 ia1 b ib c ic e0 e1 ie0 ie1)
          fun _ => iprop(passInv d cc ss X Z m0 m1 ov isem osem q0 q1 row (t + 1) ∗ owing d cc ss O W) := by
  unfold pass passInv
  simp only [twp, wp_bind]
  iintro ⟨⟨HF, HB, HP⟩, HO, #Hmw⟩
  ihave HF := (Entails.of_eq (show front d cc ss X m0 m1 isem q0 q1 row t = coming d cc ss X m0 m1 isem q0 q1 (row t) from if_pos ht)) $$ HF
  iapply wp_arrive d cc ss X m0 m1 h0 h1 isem q0 q1 hN a0 a1 ia0 ia1 (row t) O W $$ [HF HO]
  · isplitl [HF]; · iexact HF
    isplitl [HO]; · iexact HO
    iexact Hmw
  iintro ⟨Hx0, Hx1, H0, H1, Hs, HO⟩
  -- the pair the previous pass sent is written, and the output buffer is free
  have hpre : iprop(back d cc ss X ov osem row t ∗ pairs d X Z row t ∗ owing d cc ss O W ∗ Transfers.MayWaits (V d cc ss) (default : HIx 1) O)
      ⊢ twp d cc ss (gd C1 fun h => sent oM ov hov osem b (ib h)) fun _ =>
        iprop(anyOut d cc ss ov ∗ semVal ((V d cc ss), .dma osem.sem) 0 ∗ oPts d Z (row t)
          ∗ (bigSep (Finset.Ico (t + 1) 32) (fun u => oPts d Z (row u)) ∗ bigSep (Finset.range t) (fun u => oPts d (unpacked X) (row u)))
          ∗ owing d cc ss O W) := by
    unfold pairs
    rw [show Finset.Ico t 32 = insert t (Finset.Ico (t + 1) 32) by ext u; simp; omega, SparseCore.bigSep_insert' (by simp)]
    by_cases h : t = 0
    · subst h
      have hn : ¬ C1 := fun hc1 => hC1.mp hc1 rfl
      unfold back gd
      rw [if_pos rfl, dif_neg hn]
      iintro ⟨⟨Hv, Hsv⟩, ⟨⟨Hp, Ht⟩, Hd⟩, HO, -⟩
      iapply twp_ret (d := d) (cc := cc) (ss := ss)
      isplitl [Hv]; · iexact Hv
      isplitl [Hsv]; · iexact Hsv
      isplitl [Hp]; · iexact Hp
      isplitl [Ht Hd]
      · isplitl [Ht] <;> iassumption
      · iexact HO
    · have hy : C1 := hC1.mpr h
      unfold back gd
      rw [if_neg h, dif_pos hy, show Finset.range t = insert (t - 1) (Finset.range (t - 1)) by ext u; simp; omega,
        SparseCore.bigSep_insert' (by simp)]
      iintro ⟨HG, ⟨⟨Hp, Ht⟩, Hd⟩, HO, #Hmw⟩
      iapply wp_sent d cc ss X ov hov osem b (ib hy) (row (t - 1)) O W $$ [HG HO]
      · isplitl [HG]; · iexact HG
        isplitl [HO]; · iexact HO
        iexact Hmw
      iintro ⟨Ho, Hv, Hsv, HO⟩
      isplitl [Hv]; · iexact Hv
      isplitl [Hsv]; · iexact Hsv
      isplitl [Hp]; · iexact Hp
      isplitl [Ht Hd Ho]
      · isplitl [Ht]; · iexact Ht
        isplitl [Ho] <;> iassumption
      · iexact HO
  iapply (wp_wand_r frame _ _)
  isplitl [HB HP HO]
  · iapply hpre
    isplitl [HB]; · iexact HB
    isplitl [HP]; · iexact HP
    isplitl [HO]; · iexact HO
    iexact Hmw
  iintro %_ ⟨⟨%g, Hv⟩, Hsv, Hp, HP, HO⟩
  unfold holds
  icases H0 with ⟨%f0, %hf0, H0⟩
  icases H1 with ⟨%f1, %hf1, H1⟩
  iapply (wp_wand_r frame _ _)
  isplitl [H0 H1 Hv]
  · iapply wp_allRows m0 m1 ov f0 f1 g
    isplitl [H0]; · iexact H0
    isplitl [H1] <;> iassumption
  iintro %_ HR
  ihave HR := made_of_rowsDone d cc ss X m0 m1 ov (row t) f0 f1 hf0 hf1 $$ HR
  icases HR with ⟨H0, H1, Hv⟩
  iapply wp_send d cc ss X ov hov osem c ic (row t) hc Z $$ [Hv Hp Hsv]
  · isplitl [Hv]; · iexact Hv
    isplitl [Hp] <;> iassumption
  iintro HG
  have hback : back d cc ss X ov osem row (t + 1) = going d cc ss X ov osem (row t) := by
    unfold back; rw [if_neg (Nat.succ_ne_zero t), Nat.add_sub_cancel]
  have hpairs : pairs d X Z row (t + 1) = iprop(bigSep (Finset.Ico (t + 1) 32) (fun u => oPts d Z (row u))
      ∗ bigSep (Finset.range t) (fun u => oPts d (unpacked X) (row u))) := by
    unfold pairs; rw [Nat.add_sub_cancel]
  rw [hback, hpairs]
  unfold gd front
  by_cases h : C2
  · rw [dif_pos h, if_pos (hC2.mp h)]
    iapply wp_fetch d cc ss X m0 m1 h0 h1 isem q0 q1 hN e0 e1 (ie0 h) (ie1 h) (row (t + 1)) he0 he1 $$ [Hx0 Hx1 H0 H1 Hs]
    · isplitl [Hx0]; · iexact Hx0
      isplitl [Hx1]; · iexact Hx1
      isplitl [H0]; · iexact H0
      isplitl [H1] <;> iassumption
    iintro HF
    isplitr [HO]
    · isplitl [HF]; · iexact HF
      isplitl [HG]; · iexact HG
      iexact HP
    · iexact HO
  · rw [dif_neg h, if_neg (fun h' => h (hC2.mpr h'))]
    iapply twp_ret (d := d) (cc := cc) (ss := ss)
    isplitr [HO]
    · isplitl [Hx0 Hx1 H0 H1 Hs]
      · isplitl [Hx0]; · iexact Hx0
        isplitl [Hx1]; · iexact Hx1
        isplitl [H0]; · iexact H0
        isplitl [H1] <;> iassumption
      isplitl [HG]; · iexact HG
      iexact HP
    · iexact HO

/-! ## Before the first pass and after the last -/

/-- A buffer pair at rest: its buffers, its semaphores at zero, and its shares of the input. -/
def idle : sProp (RM F) :=
  iprop((xPts d X q0 ∗ xPts d X q1 ∗ anyIn d cc ss m0 ∗ anyIn d cc ss m1 ∗ semVal ((V d cc ss), .dma isem.sem) 0)
    ∗ anyOut d cc ss ov ∗ semVal ((V d cc ss), .dma osem.sem) 0)

/-- All the pair's output matrices, at contents `f`. -/
abbrev share (f : S4096x128x128.Idx → Elt F .f32) : sProp (RM F) := bigSep (Finset.range 32) fun u => oPts d f (row u)

include hN in
theorem wp_first (e0 e1 : Fin 2 → Nat) (ie0 : ∀ a, e0 a + S1x8256.size a ≤ S4096x8256.size a) (ie1 : ∀ a, e1 a + S1x8256.size a ≤ S4096x8256.size a)
    (he0 : e0 = ![row 0, 0]) (he1 : e1 = ![row 0 + 1, 0]) (Q : Unit → sProp (RM F)) :
    iprop(idle d cc ss X m0 m1 ov isem osem q0 q1 ∗ share d row Z)
      ⊢ iprop((passInv d cc ss X Z m0 m1 ov isem osem q0 q1 row 0 -∗ Q ⟨⟩)
        -∗ twp d cc ss (fetch xM m0 m1 h0 h1 isem e0 e1 ie0 ie1) Q) := by
  unfold idle passInv front back pairs share
  rw [if_pos (by decide), if_pos rfl, show Finset.Ico 0 32 = Finset.range 32 by decide, show Finset.range (0 - 1) = ∅ by decide, bigSep_empty]
  iintro ⟨⟨HI, Hv⟩, Hp⟩ HK
  iapply wp_fetch d cc ss X m0 m1 h0 h1 isem q0 q1 hN e0 e1 ie0 ie1 (row 0) he0 he1 $$ HI
  iintro HF
  iapply HK
  isplitl [HF]; · iexact HF
  isplitl [Hv]; · iexact Hv
  isplitl [Hp]; · iexact Hp
  iempintro

theorem wp_last (b : Fin 3 → Nat) (ib : ∀ a, b a + S2x128x128.size a ≤ S4096x128x128.size a)
    (O : CellTallies nD τ sig (HIx 1)) (W : Waits sig (HIx 1)) (Q : Unit → sProp (RM F)) :
    iprop(passInv d cc ss X Z m0 m1 ov isem osem q0 q1 row 32 ∗ owing d cc ss O W ∗ Transfers.MayWaits (V d cc ss) (default : HIx 1) O)
      ⊢ iprop((iprop(idle d cc ss X m0 m1 ov isem osem q0 q1 ∗ share d row (unpacked X) ∗ owing d cc ss O W) -∗ Q ⟨⟩)
        -∗ twp d cc ss (sent oM ov hov osem b ib) Q) := by
  unfold idle passInv front back pairs share
  rw [if_neg (by decide), if_neg (by decide), show Finset.range 32 = insert 31 (Finset.range 31) by decide, SparseCore.bigSep_insert' (by decide)]
  iintro ⟨⟨HI, HG, -, Hd⟩, HO, #Hmw⟩ HK
  iapply wp_sent d cc ss X ov hov osem b ib (row 31) O W $$ [HG HO]
  · isplitl [HG]; · iexact HG
    isplitl [HO]; · iexact HO
    iexact Hmw
  iintro ⟨Ho, Hv, Hs, HO⟩
  iapply HK
  isplitl [HI Hv Hs]
  · isplitl [HI]; · iexact HI
    isplitl [Hv] <;> iassumption
  isplitl [Ho Hd]
  · isplitl [Ho] <;> iassumption
  · iexact HO

end Pass

/-! ## The tile's program -/

section Whole

variable (d : Dev nD) (i : grid0.Coords) (X : S4096x8256.Idx → Elt F .f32) (Z : S4096x128x128.Idx → Elt F .f32)

abbrev cV (i : grid0.Coords) : Fin τ.nSC := (i 0).castLE hcore0
abbrev jV (i : grid0.Coords) : Fin τ.nSub := (i 1).castLE hsub0

/-- The first matrix of the pair that buffer pair `q` handles at trip `u`, on the tile at `i`. -/
def rowOf (i : grid0.Coords) (q u : Nat) : Nat := 256 * (i 1).val + 128 * (i 0).val + 4 * u + 2 * q

variable (m0 m1 : Memref sig .scVector .vmem S8256 .f32) (h0 : m0.IsWhole) (h1 : m1.IsWhole)
variable (n0 n1 : Memref sig .scVector .vmem S8256 .f32) (k0 : n0.IsWhole) (k1 : n1.IsWhole)
variable (ov : Memref sig .scVector .vmem S2x128x128 .f32) (hov : ov.IsWhole) (pv : Memref sig .scVector .vmem S2x128x128 .f32) (hpv : pv.IsWhole)
variable (isem jsem osem psem : DmaSems sig S_) (q0 q1 r0 r1 : PosShare TreeShare)
variable (hm : m1.view.dmaCredit = m0.view.dmaCredit) (hn : n1.view.dmaCredit = n0.view.dmaCredit)

theorem trips_eq : k0_t1_loop.trips = 32 := by decide

theorem cond1_iff : ∀ t : Fin k0_t1_loop.trips, k0_cond1 t = 1#1 ↔ t.val ≠ 0 := by decide +kernel
theorem cond2_iff : ∀ t : Fin k0_t1_loop.trips, k0_cond2 t = 1#1 ↔ t.val + 1 < 32 := by decide +kernel
theorem cond3_iff : ∀ t : Fin k0_t1_loop.trips, k0_cond3 t = 1#1 ↔ t.val ≠ 0 := by decide +kernel
theorem cond4_iff : ∀ t : Fin k0_t1_loop.trips, k0_cond4 t = 1#1 ↔ t.val + 1 < 32 := by decide +kernel

include hm in
theorem wp_half0 (t : Fin k0_t1_loop.trips) (O : CellTallies nD τ sig (HIx 1)) (W : Waits sig (HIx 1)) :
    iprop(passInv d (cV i) (jV i) X Z m0 m1 ov isem osem q0 q1 (rowOf i 0) t.val ∗ owing d (cV i) (jV i) O W
        ∗ Transfers.MayWaits (V d (cV i) (jV i)) (default : HIx 1) O)
      ⊢ twp d (cV i) (jV i) (half0 i xM oM m0 h0 m1 h1 ov hov isem osem t)
          fun _ => iprop(passInv d (cV i) (jV i) X Z m0 m1 ov isem osem q0 q1 (rowOf i 0) (t.val + 1) ∗ owing d (cV i) (jV i) O W) := by
  have ht : t.val < 32 := t.isLt.trans_eq trips_eq
  exact wp_pass d (cV i) (jV i) X Z m0 m1 h0 h1 ov hov isem osem q0 q1 (rowOf i 0) hm t.val ht (k0_cond1 t = 1#1) (k0_cond2 t = 1#1)
    (cond1_iff t) (cond2_iff t) _ _ (k0_off3_inb i t 0) (k0_off4_inb i t 0) _ (k0_off5_inb i t) _ (k0_off150_inb i t 0) _ _
    (k0_off151_inb i t) (k0_off152_inb i t)
    ((k0_off150_eq i t 0).trans rfl) ((k0_off151_eq i t).trans rfl) ((k0_off152_eq i t).trans rfl) O W

include hn in
theorem wp_half1 (t : Fin k0_t1_loop.trips) (O : CellTallies nD τ sig (HIx 1)) (W : Waits sig (HIx 1)) :
    iprop(passInv d (cV i) (jV i) X Z n0 n1 pv jsem psem r0 r1 (rowOf i 1) t.val ∗ owing d (cV i) (jV i) O W
        ∗ Transfers.MayWaits (V d (cV i) (jV i)) (default : HIx 1) O)
      ⊢ twp d (cV i) (jV i) (half1 i xM oM n0 k0 n1 k1 pv hpv jsem psem t)
          fun _ => iprop(passInv d (cV i) (jV i) X Z n0 n1 pv jsem psem r0 r1 (rowOf i 1) (t.val + 1) ∗ owing d (cV i) (jV i) O W) := by
  have ht : t.val < 32 := t.isLt.trans_eq trips_eq
  exact wp_pass d (cV i) (jV i) X Z n0 n1 k0 k1 pv hpv jsem psem r0 r1 (rowOf i 1) hn t.val ht (k0_cond3 t = 1#1) (k0_cond4 t = 1#1)
    (cond3_iff t) (cond4_iff t) _ _ (k0_off3_inb i t 1) (k0_off4_inb i t 1) _ (k0_off153_inb i t) _ (k0_off150_inb i t 1) _ _
    (k0_off298_inb i t) (k0_off299_inb i t)
    ((k0_off150_eq i t 1).trans rfl) ((k0_off298_eq i t).trans rfl) ((k0_off299_eq i t).trans rfl) O W

include hm hn in
/-- The tile's program unpacks its share of the samples, and leaves its buffers, semaphores and shares of the input as
    it found them. -/
theorem wp_tile (O : CellTallies nD τ sig (HIx 1)) (W : Waits sig (HIx 1)) :
    iprop((idle d (cV i) (jV i) X m0 m1 ov isem osem q0 q1 ∗ share d (rowOf i 0) Z)
        ∗ (idle d (cV i) (jV i) X n0 n1 pv jsem psem r0 r1 ∗ share d (rowOf i 1) Z)
        ∗ owing d (cV i) (jV i) O W ∗ Transfers.MayWaits (V d (cV i) (jV i)) (default : HIx 1) O)
      ⊢ twp d (cV i) (jV i) (tileProg i xM oM m0 h0 m1 h1 n0 k0 n1 k1 ov hov pv hpv isem jsem osem psem)
          fun _ => iprop((idle d (cV i) (jV i) X m0 m1 ov isem osem q0 q1 ∗ share d (rowOf i 0) (unpacked X))
            ∗ (idle d (cV i) (jV i) X n0 n1 pv jsem psem r0 r1 ∗ share d (rowOf i 1) (unpacked X))
            ∗ owing d (cV i) (jV i) O W) := by
  unfold tileProg
  simp only [twp, wp_bind]
  iintro ⟨H0, H1, HO, #Hmw⟩
  iapply wp_first d (cV i) (jV i) X Z m0 m1 h0 h1 ov isem osem q0 q1 (rowOf i 0) hm _ _ (k0_off1_inb i 0) (k0_off2_inb i 0)
    ((k0_off1_eq i 0).trans rfl) ((k0_off2_eq i 0).trans rfl) $$ H0
  iintro H0
  iapply wp_first d (cV i) (jV i) X Z n0 n1 k0 k1 pv jsem psem r0 r1 (rowOf i 1) hn _ _ (k0_off1_inb i 1) (k0_off2_inb i 1)
    ((k0_off1_eq i 1).trans rfl) ((k0_off2_eq i 1).trans rfl) $$ H1
  iintro H1
  iapply (Scf.wp_for frame (wpE (defs₀ (F := F)) 𝒱₀ (V d (cV i) (jV i)) none) Set.univ k0_t1_loop.lb k0_t1_loop.ub k0_t1_loop.st k0_t1_ok PUnit.unit _
    (fun t _ => iprop(passInv d (cV i) (jV i) X Z m0 m1 ov isem osem q0 q1 (rowOf i 0) t
      ∗ passInv d (cV i) (jV i) X Z n0 n1 pv jsem psem r0 r1 (rowOf i 1) t ∗ owing d (cV i) (jV i) O W
      ∗ Transfers.MayWaits (V d (cV i) (jV i)) (default : HIx 1) O)) ?_)
  · intro t acc
    rw [wp_bind]
    iintro ⟨H0, H1, HO, #Hmw⟩
    iapply (wp_wand_r frame _ _)
    isplitl [H0 HO]
    · iapply wp_half0 d i X Z m0 m1 h0 h1 ov hov isem osem q0 q1 hm t O W
      isplitl [H0]; · iexact H0
      isplitl [HO]; · iexact HO
      iexact Hmw
    iintro %_ ⟨H0, HO⟩
    iapply (wp_wand_r frame _ _)
    isplitl [H1 HO]
    · iapply wp_half1 d i X Z n0 n1 k0 k1 pv hpv jsem psem r0 r1 hn t O W
      isplitl [H1]; · iexact H1
      isplitl [HO]; · iexact HO
      iexact Hmw
    iintro %_ ⟨H1, HO⟩
    isplitl [H0]; · iexact H0
    isplitl [H1]; · iexact H1
    isplitl [HO]; · iexact HO
    iexact Hmw
  isplitl [H0 H1 HO]
  · isplitl [H0]; · iexact H0
    isplitl [H1]; · iexact H1
    isplitl [HO]; · iexact HO
    iexact Hmw
  iintro %_
  rw [show Scf.trips k0_t1_loop.lb k0_t1_loop.ub k0_t1_loop.st = 32 from trips_eq]
  iintro ⟨H0, H1, HO, -⟩
  iapply wp_last d (cV i) (jV i) X Z m0 m1 ov hov isem osem q0 q1 (rowOf i 0) _ (k0_off300_inb i 0) O W $$ [H0 HO]
  · isplitl [H0]; · iexact H0
    isplitl [HO]; · iexact HO
    iexact Hmw
  iintro ⟨HI0, HS0, HO⟩
  iapply wp_last d (cV i) (jV i) X Z n0 n1 pv hpv jsem psem r0 r1 (rowOf i 1) _ (k0_off300_inb i 1) O W $$ [H1 HO]
  · isplitl [H1]; · iexact H1
    isplitl [HO]; · iexact HO
    iexact Hmw
  iintro ⟨HI1, HS1, HO⟩
  isplitl [HI0 HS0]
  · isplitl [HI0] <;> iassumption
  isplitl [HI1 HS1]
  · isplitl [HI1] <;> iassumption
  · iexact HO

end Whole

end Cert.Proof.Unpack

end
-- ==== Proof.Parts.lean ====
/- How the output divides among the cores, tiles and buffer pairs, and the input's shares among them. -/
module

public import proofs.«01_k».proof.Proof.Tile

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The output's parts -/

/-- The output matrices core `c` writes: every second block of 128. -/
def coreSet (c : Nat) : Finset S4096x128x128.Idx := Finset.univ.filter fun i => (i 0).val / 128 % 2 = c
/-- Those of them tile `s` writes: one block. -/
def tileSet (c s : Nat) : Finset S4096x128x128.Idx := Finset.univ.filter fun i => (i 0).val / 128 = 2 * s + c
/-- Those of them that pass through buffer pair `q`: every second two of the block. -/
def halfSet (c s q : Nat) : Finset S4096x128x128.Idx := Finset.univ.filter fun i => (i 0).val / 128 = 2 * s + c ∧ (i 0).val % 4 / 2 = q

omit [FloatOps F] in
/-- Sets picked by the value of a function of the index are disjoint at distinct values. -/
theorem disjoint_of_key {A : Type} {s t : Finset A} {B : Type} (k : A → B) {x y : B} (hs : ∀ i ∈ s, k i = x) (ht : ∀ i ∈ t, k i = y) (h : x ≠ y) :
    Disjoint s t :=
  Finset.disjoint_left.mpr fun i hi hj => h ((hs i hi).symm.trans (ht i hj))

variable (d : Dev nD) (f : S4096x128x128.Idx → Elt F .f32)

/-- Part `I` of the output, at contents `f`. -/
abbrev oOn (I : Finset S4096x128x128.Idx) : sProp (RM F) := oLoc d ↦[I]{fullShare} f

omit [FloatOps F] in
theorem cores_cover [DecidableEq S4096x128x128.Idx] : (Finset.univ.biUnion fun c : Fin 2 => coreSet c.val) = Finset.univ := by
  refine Finset.eq_univ_iff_forall.mpr fun i => ?_
  rw [Finset.mem_biUnion]
  exact ⟨⟨(i 0).val / 128 % 2, Nat.mod_lt _ (by decide)⟩, Finset.mem_univ _, Finset.mem_filter.mpr ⟨Finset.mem_univ _, rfl⟩⟩

theorem oOn_cores : (oLoc d ↦{fullShare} f : sProp (RM F)) = bigSep Finset.univ fun c : Fin 2 => oOn d f (coreSet c.val) := by
  rw [← pointsTo_biUnion Finset.univ (ℓ := oLoc d) (fun c : Fin 2 => coreSet c.val) (fun a _ b _ h =>
    disjoint_of_key (fun i : S4096x128x128.Idx => (i 0).val / 128 % 2) (fun i hi => (Finset.mem_filter.mp hi).2) (fun i hi => (Finset.mem_filter.mp hi).2)
      (fun e => h (Fin.ext e))), cores_cover]

theorem oOn_tiles (c : Nat) (hc : c < 2) : oOn d f (coreSet c) = bigSep Finset.univ fun s : Fin 16 => oOn d f (tileSet c s.val) := by
  unfold oOn
  rw [← pointsTo_biUnion Finset.univ (ℓ := oLoc d) (fun s : Fin 16 => tileSet c s.val) (fun a _ b _ h =>
    disjoint_of_key (fun i : S4096x128x128.Idx => (i 0).val / 128) (fun i hi => (Finset.mem_filter.mp hi).2) (fun i hi => (Finset.mem_filter.mp hi).2)
      (fun e => h (Fin.ext (by omega))))]
  congr 1
  ext i
  rw [Finset.mem_biUnion]
  have hi : ((i : S4096x128x128.Idx) 0).val < 4096 := ((i : S4096x128x128.Idx) 0).isLt
  constructor
  · intro h
    have h := (Finset.mem_filter.mp h).2
    exact ⟨⟨((i : S4096x128x128.Idx) 0).val / 256, by omega⟩, Finset.mem_univ _, Finset.mem_filter.mpr ⟨Finset.mem_univ _, by show _ = 2 * (_ / 256) + c; omega⟩⟩
  · rintro ⟨s, -, h⟩
    have h := (Finset.mem_filter.mp h).2
    exact Finset.mem_filter.mpr ⟨Finset.mem_univ _, by omega⟩

theorem oOn_halves (c s : Nat) : oOn d f (tileSet c s) = iprop(oOn d f (halfSet c s 0) ∗ oOn d f (halfSet c s 1)) := by
  refine Eq.trans ?_ (bigSep_fin_two fun q : Fin 2 => oOn d f (halfSet c s q.val))
  unfold oOn
  rw [← pointsTo_biUnion Finset.univ (ℓ := oLoc d) (fun q : Fin 2 => halfSet c s q.val) (fun a _ b _ h =>
    disjoint_of_key (fun i : S4096x128x128.Idx => (i 0).val % 4 / 2) (fun i hi => (Finset.mem_filter.mp hi).2.2) (fun i hi => (Finset.mem_filter.mp hi).2.2)
      (fun e => h (Fin.ext e)))]
  congr 1
  ext i
  rw [Finset.mem_biUnion]
  constructor
  · intro h
    have h := (Finset.mem_filter.mp h).2
    exact ⟨⟨((i : S4096x128x128.Idx) 0).val % 4 / 2, by omega⟩, Finset.mem_univ _, Finset.mem_filter.mpr ⟨Finset.mem_univ _, h, rfl⟩⟩
  · rintro ⟨q, -, h⟩
    exact Finset.mem_filter.mpr ⟨Finset.mem_univ _, (Finset.mem_filter.mp h).2.1⟩

theorem oOn_pairs (i : grid0.Coords) (q : Nat) (hq : q < 2) : oOn d f (halfSet (i 0).val (i 1).val q) = share d (rowOf i q) f := by
  unfold oOn share oPts
  rw [← pointsTo_biUnion (Finset.range 32) (ℓ := oLoc d) (fun u => outSet (rowOf i q u)) (fun a _ b _ h =>
    disjoint_of_key (fun j : S4096x128x128.Idx => ((j 0).val - rowOf i q 0) / 4) (x := a) (y := b)
      (fun j hj => by have h := (Finset.mem_filter.mp hj).2; unfold rowOf at *; omega)
      (fun j hj => by have h := (Finset.mem_filter.mp hj).2; unfold rowOf at *; omega) h)]
  congr 1
  ext j
  rw [Finset.mem_biUnion]
  constructor
  · intro h
    have h := (Finset.mem_filter.mp h).2
    exact ⟨((j : S4096x128x128.Idx) 0).val % 128 / 4, Finset.mem_range.mpr (by omega), Finset.mem_filter.mpr ⟨Finset.mem_univ _, by unfold rowOf; omega⟩⟩
  · rintro ⟨u, hu, h⟩
    have hu := Finset.mem_range.mp hu
    have h := (Finset.mem_filter.mp h).2
    unfold rowOf at h
    exact Finset.mem_filter.mpr ⟨Finset.mem_univ _, by omega⟩

theorem oOn_tile (i : grid0.Coords) : oOn d f (tileSet (i 0).val (i 1).val) = iprop(share d (rowOf i 0) f ∗ share d (rowOf i 1) f) := by
  rw [oOn_halves, oOn_pairs d f i 0 (by decide), oOn_pairs d f i 1 (by decide)]

/-! ## The input's shares -/

/-- Core `c`'s share of the input. -/
abbrev coreShare (c : Nat) : PosShare TreeShare := Transfers.shareTokN fullShare c
/-- The share of the input of tile `s` of core `c`. -/
abbrev tileShare (c s : Nat) : PosShare TreeShare := Transfers.shareTokN (coreShare c) s

variable (X : S4096x8256.Idx → Elt F .f32)

/-- A share of the input is the four shares the two buffer pairs' copies read. -/
theorem xPts_quarters (q : PosShare TreeShare) :
    xPts d X q ⊣⊢ iprop((xPts d X q.left.left ∗ xPts d X q.left.right) ∗ (xPts d X q.right.left ∗ xPts d X q.right.right)) := by
  have h (r : PosShare TreeShare) : xPts d X r ⊣⊢ iprop(xPts d X r.left ∗ xPts d X r.right) := pointsTo_share (PosShare.mem_left_op_right r)
  exact ⟨(h q).1.trans (BIClass.sep_mono (h q.left).1 (h q.right).1), BIBase.Entails.trans (BIClass.sep_mono (h q.left).2 (h q.right).2) (h q).2⟩

end Cert.Proof.Unpack

end
-- ==== Proof.Task.lean ====
/- The task a tile is dispatched: what it is handed, what it brings back, and that its program does it. -/
module

public import proofs.«01_k».proof.Proof.Parts

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## A tile's buffers and semaphores by name -/

section Own

variable (d : Dev nD) (c : Fin τ.nSC) (s : Fin τ.nSub)

/-- The tile's six buffers. -/
def tileRefs : Finset (DevRef τ sig) :=
  ({cc0_scratch0, cc0_scratch1, cc0_scratch2, cc0_scratch3, cc0_scratch4, cc0_scratch5} : Finset (Ref sig .scVector)).map
    ⟨(Proc.scVector c s : Proc τ).devRef, Proc.devRef_injective _⟩

/-- The tile's four semaphores. -/
def tileCells : Finset (GSem nD τ sig) :=
  ({.dma cc0_scratch6.sem, .dma cc0_scratch7.sem, .dma cc0_scratch8.sem, .dma cc0_scratch9.sem} : Finset (SemLoc sig)).map
    ⟨fun x => (V d c s, x), fun _ _ e => (Prod.mk.inj e).2⟩

omit [FloatOps F] in
theorem six_refs (Φ : Ref sig .scVector → sProp (RM F)) :
    bigSep ({cc0_scratch0, cc0_scratch1, cc0_scratch2, cc0_scratch3, cc0_scratch4, cc0_scratch5} : Finset (Ref sig .scVector)) Φ
      = iprop(Φ cc0_scratch0 ∗ Φ cc0_scratch1 ∗ Φ cc0_scratch2 ∗ Φ cc0_scratch3 ∗ Φ cc0_scratch4 ∗ Φ cc0_scratch5) := by
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem four_cells (Φ : SemLoc sig → sProp (RM F)) :
    bigSep ({.dma cc0_scratch6.sem, .dma cc0_scratch7.sem, .dma cc0_scratch8.sem, .dma cc0_scratch9.sem} : Finset (SemLoc sig)) Φ
      = iprop(Φ (.dma cc0_scratch6.sem) ∗ Φ (.dma cc0_scratch7.sem) ∗ Φ (.dma cc0_scratch8.sem) ∗ Φ (.dma cc0_scratch9.sem)) := by
  rw [SparseCore.bigSep_insert' (by decide), SparseCore.bigSep_insert' (by decide), SparseCore.bigSep_insert' (by decide), bigSep_singleton]

/-- A whole buffer at some contents. -/
abbrev someBuf (b : Ref sig .scVector) : sProp (RM F) := iprop(∃ f, (V d c s).loc b ↦{fullShare} f)
abbrev zeroSem (a : DmaSems sig S_) : sProp (RM F) := semVal ((V d c s), .dma a.sem) 0

omit [FloatOps F] in
theorem ownBufs_tile :
    (ownBufs (V d c s) : sProp (RM F))
      = iprop((someBuf d c s cc0_scratch0 ∗ someBuf d c s cc0_scratch1 ∗ someBuf d c s cc0_scratch2 ∗ someBuf d c s cc0_scratch3
          ∗ someBuf d c s cc0_scratch4 ∗ someBuf d c s cc0_scratch5)
        ∗ bigSep (ownRefs (τ := τ) (.scVector c s) \ tileRefs c s) fun b => iprop(∃ f, ((d, b) : Loc nD τ sig) ↦{fullShare} f)) := by
  unfold SparseCore.Cfg.ownBufs
  rw [bigSep_sdiff_split (t := tileRefs c s) (s := ownRefs (V d c s : Thread nD τ).2) (by
    intro b hb
    obtain ⟨r, hr, rfl⟩ := Finset.mem_map.mp hb
    simp only [Finset.mem_insert, Finset.mem_singleton] at hr
    rcases hr with rfl | rfl | rfl | rfl | rfl | rfl <;> exact SparseCore.Cfg.mem_ownRefs_of_owner rfl)]
  congr 1
  unfold tileRefs
  exact (bigSep_map _).trans (six_refs _)

omit [FloatOps F] in
theorem ownSems0_tile :
    (ownSems0 (V d c s) : sProp (RM F))
      = iprop((zeroSem d c s cc0_scratch6 ∗ zeroSem d c s cc0_scratch7 ∗ zeroSem d c s cc0_scratch8 ∗ zeroSem d c s cc0_scratch9)
        ∗ bigSep (ownCells (V d c s) \ tileCells d c s) fun g => semVal g 0) := by
  unfold SparseCore.Cfg.ownSems0
  rw [bigSep_sdiff_split (t := tileCells d c s) (s := ownCells (V d c s)) (by
    intro b hb
    obtain ⟨r, hr, rfl⟩ := Finset.mem_map.mp hb
    refine mem_ownCells.mpr ⟨rfl, ?_⟩
    show r.isScoped .scVector = true
    clear hb
    revert r
    decide)]
  congr 1
  unfold tileCells
  exact (bigSep_map _).trans (four_cells _)

omit [FloatOps F] in
theorem someBuf_in (b : Memref sig .scVector .vmem S8256 .f32) (hb : b.view.set = Finset.univ) :
    anyIn d c s b = (iprop(∃ f : Buf (Elt F) (b.view.loc (V d c s)), b.view.loc (V d c s) ↦{fullShare} f) : sProp (RM F)) := by
  unfold anyIn
  rw [hb]

omit [FloatOps F] in
theorem someBuf_out (b : Memref sig .scVector .vmem S2x128x128 .f32) (hb : b.view.set = Finset.univ) :
    anyOut d c s b = (iprop(∃ f : Buf (Elt F) (b.view.loc (V d c s)), b.view.loc (V d c s) ↦{fullShare} f) : sProp (RM F)) := by
  unfold anyOut
  rw [hb]

end Own

/-! ## The task -/

abbrev b0 : Memref sig .scVector .vmem S8256 .f32 := Memref.whole cc0_scratch0
abbrev b1 : Memref sig .scVector .vmem S8256 .f32 := Memref.whole cc0_scratch1
abbrev b2 : Memref sig .scVector .vmem S8256 .f32 := Memref.whole cc0_scratch2
abbrev b3 : Memref sig .scVector .vmem S8256 .f32 := Memref.whole cc0_scratch3
abbrev b4 : Memref sig .scVector .vmem S2x128x128 .f32 := Memref.whole cc0_scratch4
abbrev b5 : Memref sig .scVector .vmem S2x128x128 .f32 := Memref.whole cc0_scratch5

section Body

variable (d : Dev nD) (i : grid0.Coords) (X : S4096x8256.Idx → Elt F .f32) (Z : S4096x128x128.Idx → Elt F .f32) (q : PosShare TreeShare)

/-- What the tile's program starts from and ends with, from what a task is handed: the two buffer pairs at rest. -/
theorem rest_iff :
    iprop(xPts d X q ∗ (someBuf d (cV i) (jV i) cc0_scratch0 ∗ someBuf d (cV i) (jV i) cc0_scratch1 ∗ someBuf d (cV i) (jV i) cc0_scratch2
          ∗ someBuf d (cV i) (jV i) cc0_scratch3 ∗ someBuf d (cV i) (jV i) cc0_scratch4 ∗ someBuf d (cV i) (jV i) cc0_scratch5)
        ∗ (zeroSem d (cV i) (jV i) cc0_scratch6 ∗ zeroSem d (cV i) (jV i) cc0_scratch7 ∗ zeroSem d (cV i) (jV i) cc0_scratch8
          ∗ zeroSem d (cV i) (jV i) cc0_scratch9))
      ⊣⊢ iprop(idle d (cV i) (jV i) X b0 b1 b4 cc0_scratch6 cc0_scratch8 q.left.left q.left.right
        ∗ idle d (cV i) (jV i) X b2 b3 b5 cc0_scratch7 cc0_scratch9 q.right.left q.right.right) := by
  unfold idle
  rw [someBuf_in d (cV i) (jV i) b0 (View.set_whole _), someBuf_in d (cV i) (jV i) b1 (View.set_whole _), someBuf_in d (cV i) (jV i) b2 (View.set_whole _),
    someBuf_in d (cV i) (jV i) b3 (View.set_whole _), someBuf_out d (cV i) (jV i) b4 (View.set_whole _), someBuf_out d (cV i) (jV i) b5 (View.set_whole _)]
  constructor
  · iintro ⟨Hx, ⟨H0, H1, H2, H3, H4, H5⟩, S6, S7, S8, S9⟩
    ihave Hx := (xPts_quarters d X q).1 $$ Hx
    icases Hx with ⟨⟨Xa, Xb⟩, Xc, Xd⟩
    isplitl [Xa Xb H0 H1 S6 H4 S8]
    · isplitl [Xa Xb H0 H1 S6]
      · isplitl [Xa]; · iexact Xa
        isplitl [Xb]; · iexact Xb
        isplitl [H0]; · iexact H0
        isplitl [H1]; · iexact H1
        iexact S6
      isplitl [H4]; · iexact H4
      iexact S8
    · isplitl [Xc Xd H2 H3 S7]
      · isplitl [Xc]; · iexact Xc
        isplitl [Xd]; · iexact Xd
        isplitl [H2]; · iexact H2
        isplitl [H3]; · iexact H3
        iexact S7
      isplitl [H5]; · iexact H5
      iexact S9
  · iintro ⟨⟨⟨Xa, Xb, H0, H1, S6⟩, H4, S8⟩, ⟨⟨Xc, Xd, H2, H3, S7⟩, H5, S9⟩⟩
    isplitl [Xa Xb Xc Xd]
    · iapply (xPts_quarters d X q).2
      isplitl [Xa Xb]
      · isplitl [Xa] <;> iassumption
      · isplitl [Xc] <;> iassumption
    isplitl [H0 H1 H2 H3 H4 H5]
    · isplitl [H0]; · iexact H0
      isplitl [H1]; · iexact H1
      isplitl [H2]; · iexact H2
      isplitl [H3]; · iexact H3
      isplitl [H4]; · iexact H4
      iexact H5
    · isplitl [S6]; · iexact S6
      isplitl [S7]; · iexact S7
      isplitl [S8]; · iexact S8
      iexact S9

/-- The kernel on one tile: from a share of the input and the tile's matrices at any contents to the same with the
    matrices unpacked, its buffers and semaphores given back. -/
theorem tile_body (O : CellTallies nD τ sig (HIx 1)) (W : Waits sig (HIx 1)) (hO : ∀ g, O g none = 0) :
    iprop(levAts (K (F := F)).L (K (F := F)).lev ∗ emp
        ∗ (xPts d X q ∗ oOn d Z (tileSet (i 0).val (i 1).val))
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__sc_body i xM (Memref.isWhole_whole _) oM (Memref.isWhole_whole _) b0 (Memref.isWhole_whole _) b1 (Memref.isWhole_whole _)
            b2 (Memref.isWhole_whole _) b3 (Memref.isWhole_whole _) b4 (Memref.isWhole_whole _) b5 (Memref.isWhole_whole _)
            cc0_scratch6 cc0_scratch7 cc0_scratch8 cc0_scratch9)
          fun _ => iprop((xPts d X q ∗ oOn d (unpacked X) (tileSet (i 0).val (i 1).val))
            ∗ scopedBufs (V d (cV i) (jV i)) ∗ scopedSems0 (V d (cV i) (jV i))
            ∗ ∃ W', ⌜∀ p ∈ W', p ∈ W ∨ p.2 = none⌝ ∗ owes (V d (cV i) (jV i)) O W') := by
  rw [tile_eq, (K (F := F)).scopedBufs_V facts d (cV i) (jV i), SparseCore.Cfg.scopedSems0_V (Val := Elt F) d (cV i) (jV i), ownSems0_tile, ownBufs_tile,
    oOn_tile, oOn_tile]
  iintro ⟨#Hlv, -, ⟨Hx, Ho0, Ho1⟩, ⟨HB, HBr⟩, ⟨HS, HSr⟩, HO⟩
  ihave Hmw := (show levAts (K (F := F)).L (K (F := F)).lev ⊢ Transfers.MayWaits (V d (cV i) (jV i)) (default : HIx 1) O from
    (K (F := F)).mayWaits_none (thr := V d (cV i) (jV i)) hO) $$ Hlv
  ihave HI := (rest_iff d i X q).1 $$ [Hx HB HS]
  · isplitl [Hx]; · iexact Hx
    isplitl [HB]; · iexact HB
    iexact HS
  icases HI with ⟨HI0, HI1⟩
  iapply (wp_wand_r frame _ _)
  isplitl [HI0 HI1 Ho0 Ho1 HO Hmw]
  · iapply wp_tile d i X Z b0 b1 (Memref.isWhole_whole _) (Memref.isWhole_whole _) b2 b3 (Memref.isWhole_whole _) (Memref.isWhole_whole _)
      b4 (Memref.isWhole_whole _) b5 (Memref.isWhole_whole _) cc0_scratch6 cc0_scratch7 cc0_scratch8 cc0_scratch9
      q.left.left q.left.right q.right.left q.right.right rfl rfl O W
    isplitl [HI0 Ho0]
    · isplitl [HI0] <;> iassumption
    isplitl [HI1 Ho1]
    · isplitl [HI1] <;> iassumption
    isplitl [HO]
    · unfold owing
      iexists W
      isplitr
      · ipureintro; exact fun p hp => .inl hp
      · iexact HO
    · iexact Hmw
  iintro %_ ⟨⟨HI0, Ho0⟩, ⟨HI1, Ho1⟩, HO⟩
  ihave HI := (rest_iff d i X q).2 $$ [HI0 HI1]
  · isplitl [HI0] <;> iassumption
  icases HI with ⟨Hx, HB, HS⟩
  isplitl [Hx Ho0 Ho1]
  · isplitl [Hx]; · iexact Hx
    isplitl [Ho0] <;> iassumption
  isplitl [HB HBr]
  · isplitl [HB] <;> iassumption
  isplitl [HS HSr]
  · isplitl [HS] <;> iassumption
  unfold owing
  iexact HO

end Body

end Cert.Proof.Unpack

end
-- ==== Proof.Launch.lean ====
/- The launch: what the call carries to the cores and the cores to the tiles, and the whole program's run. -/
module

public import proofs.«01_k».proof.Proof.Task

@[expose] public section

noncomputable section

namespace Cert.Proof.Unpack

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## What the handshakes carry -/

/-- The input, and the output before the call and after it. -/
abbrev inX (d : Dev nD) : S4096x8256.Idx → Elt F .f32 := m (xLoc d)
abbrev outZ (d : Dev nD) : S4096x128x128.Idx → Elt F .f32 := m (oLoc d)
abbrev outY (d : Dev nD) : S4096x128x128.Idx → Elt F .f32 := unpacked (inX m d)

/-- Core `c`'s share of the input and its matrices, at contents `f`. -/
abbrev corePts (d : Dev nD) (c : Nat) (f : S4096x128x128.Idx → Elt F .f32) : sProp (RM F) :=
  iprop(xPts d (inX m d) (coreShare c) ∗ oOn d f (coreSet c))
/-- The same of tile `s` of core `c`. -/
abbrev tilePts (d : Dev nD) (c s : Nat) (f : S4096x128x128.Idx → Elt F .f32) : sProp (RM F) :=
  iprop(xPts d (inX m d) (tileShare c s) ∗ oOn d f (tileSet c s))

/-- Each core is handed a share of the input and its matrices, each tile a share of that and its matrices; they bring
    them back with the matrices unpacked. -/
def P : (K (F := F)).Pay (nD := nD) (Val := Elt F) (Name := ℕ) (U := UU) where
  st := fun q d c => match q with | 0 => corePts m d c.val (outZ m d)
  dn := fun q d c => match q with | 0 => corePts m d c.val (outY m d)
  go := fun q d c i => match q with | 0 => tilePts m d c.val i.val (outZ m d)
  td := fun q d c i => match q with | 0 => tilePts m d c.val i.val (outY m d)
  x := fun _ _ => iprop(emp)

instance P_storable : (P (F := F) m).IsStorable where
  st q d c := match q with | 0 => (inferInstance : BI.Storable (upEmb : UEmb _ (RM F)) (corePts m d c.val (outZ m d)))
  dn q d c := match q with | 0 => (inferInstance : BI.Storable (upEmb : UEmb _ (RM F)) (corePts m d c.val (outY m d)))
  go q d c i := match q with | 0 => (inferInstance : BI.Storable (upEmb : UEmb _ (RM F)) (tilePts m d c.val i.val (outZ m d)))
  td q d c i := match q with | 0 => (inferInstance : BI.Storable (upEmb : UEmb _ (RM F)) (tilePts m d c.val i.val (outY m d)))

/-! ## The tile's obligation -/

/-- The grid point of core `c` and subcore `s`. -/
def point (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__sc_body (point c s)
          xM (Memref.isWhole_whole _) oM (Memref.isWhole_whole _) b0 (Memref.isWhole_whole _) b1 (Memref.isWhole_whole _)
          b2 (Memref.isWhole_whole _) b3 (Memref.isWhole_whole _) b4 (Memref.isWhole_whole _) b5 (Memref.isWhole_whole _)
          cc0_scratch6 cc0_scratch7 cc0_scratch8 cc0_scratch9) ⟨⟩ c s := rfl

omit [FloatOps F] in
theorem post_weaken {thr : Thread nD τ} {A B C : sProp (RM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]
  simp only [SparseCore.onTile, hci, and_self, ↓reduceDIte]
  exact (tile_body d (point ⟨_, hci.1⟩ ⟨_, hci.2⟩) (inX m d) (outZ m d) (tileShare c.val i.val) O W hO).trans
    (wp_mono frame _ _ fun _ => post_weaken)

/-! ## A core's part split among its tiles -/

omit [FloatOps F] in
theorem bigSep_subs (Φ : Nat → sProp (RM F)) :
    (bigSep Finset.univ fun i : Fin ((K (F := F)).nSub 0) => Φ i.val) = bigSep Finset.univ fun i : Fin 16 => Φ i.val := rfl
omit [FloatOps F] in
theorem bigSep_cores (Φ : Nat → sProp (RM F)) :
    (bigSep Finset.univ fun i : Fin ((K (F := F)).nCore 0) => Φ i.val) = bigSep Finset.univ fun i : Fin 2 => Φ i.val := rfl

/-- What is left of core `c`'s share of the input when each tile has its own. -/
abbrev coreRest (d : Dev nD) (c : Nat) : sProp (RM F) := xPts d (inX m d) (Transfers.shareDrop (coreShare c) 16)

theorem core_tiles (d : Dev nD) (c : Nat) (hc : c < 2) (f : S4096x128x128.Idx → Elt F .f32) :
    corePts m d c f ⊣⊢ iprop(coreRest m d c ∗ bigSep Finset.univ fun s : Fin 16 => tilePts m d c s.val f) := by
  unfold corePts tilePts
  rw [bigSep_sep', oOn_tiles d f c hc]
  constructor
  · iintro ⟨Hx, Ho⟩
    ihave Hx := (Transfers.pointsTo_toks_split (coreShare c) 16) $$ Hx
    icases Hx with ⟨Hr, Hx⟩
    isplitl [Hr]; · iexact Hr
    isplitl [Hx]; · iexact Hx
    iexact Ho
  · iintro ⟨Hr, Hx, Ho⟩
    isplitl [Hr Hx]
    · iapply (Transfers.pointsTo_toks_join (coreShare c) 16)
      isplitl [Hr]; · iexact Hr
      iexact Hx
    · iexact Ho

theorem vecSplit : (K (F := F)).VecSplit' (P m) 0 := by
  intro d c
  show corePts m d c.val (outZ m d) ⊢ |={Set.univ}=> iprop(
      (bigSep Finset.univ fun i : Fin ((K (F := F)).nSub 0) => tilePts m d c.val i.val (outZ m d))
      ∗ ((bigSep Finset.univ fun i : Fin ((K (F := F)).nSub 0) => tilePts m d c.val i.val (outY m d)) -∗ corePts m d c.val (outY m d)))
  rw [bigSep_subs (F := F) (fun i => tilePts m d c.val i (outZ m d)), bigSep_subs (F := F) (fun i => tilePts m d c.val i (outY m d))]
  iintro H
  ihave H := (core_tiles m d c.val c.isLt (outZ m d)).1 $$ H
  icases H with ⟨Hr, H⟩
  imodintro
  isplitl [H]; · iexact H
  iintro H
  iapply (core_tiles m d c.val c.isLt (outY m d)).2
  isplitl [Hr] <;> iassumption

/-! ## The launch element -/

def u₀ : UU := (initOf (K (F := F)).hsCells (K (F := F)).hsToks, 1)

omit [FloatOps F] in
theorem bigSep_nothing {I : Type} (s : Finset I) : (bigSep s fun _ => iprop(emp)) = (iprop(emp) : sProp (RM F)) := bigSep_emp_const s

theorem hu₀ : (ownU (u₀ (F := F)) : sProp (RM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The program on the TensorCore -/

omit [FloatOps F] in
theorem unscopedBufs_two (d : Dev nD) (W : (b : Ref sig .tc) → Buf (Elt F) ((d.tc : Thread nD τ).loc b)) :
    (unscopedBufs d W : sProp (RM F)) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What is left of the input when each core has its share. -/
abbrev callRest (d : Dev nD) : sProp (RM F) := xPts d (inX m d) (Transfers.shareDrop fullShare 2)

/-- The two arrays whole, the output at contents `f`. -/
abbrev whole (d : Dev nD) (f : S4096x128x128.Idx → Elt F .f32) : sProp (RM F) :=
  iprop(xPts d (inX m d) fullShare ∗ oLoc d ↦{fullShare} f)

theorem whole_cores (d : Dev nD) (f : S4096x128x128.Idx → Elt F .f32) :
    whole m d f ⊣⊢ iprop(callRest m d ∗ bigSep Finset.univ fun c : Fin 2 => corePts m d c.val f) := by
  unfold whole corePts
  rw [bigSep_sep', oOn_cores d f]
  constructor
  · iintro ⟨Hx, Ho⟩
    ihave Hx := (Transfers.pointsTo_toks_split fullShare 2) $$ Hx
    icases Hx with ⟨Hr, Hx⟩
    isplitl [Hr]; · iexact Hr
    isplitl [Hx]; · iexact Hx
    iexact Ho
  · iintro ⟨Hr, Hx, Ho⟩
    isplitl [Hr Hx]
    · iapply (Transfers.pointsTo_toks_join fullShare 2)
      isplitl [Hr]; · iexact Hr
      iexact Hx
    · iexact Ho

theorem st_eq (d : Dev nD) : (bigSep Finset.univ fun c : Fin ((K (F := F)).nCore 0) => (P m).st 0 d c)
    = bigSep Finset.univ fun c : Fin 2 => corePts m d c.val (outZ m d) := rfl
theorem dn_eq (d : Dev nD) : (bigSep Finset.univ fun c : Fin ((K (F := F)).nCore 0) => (P m).dn 0 d c)
    = bigSep Finset.univ fun c : Fin 2 => corePts m d c.val (outY m d) := rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ whole m d (outY m d) ∗ (K (F := F)).tcEnd d) := by
  unfold SparseCore.Cfg.tcRes SparseCore.Cfg.tcEnd
  rw [unscopedBufs_two]
  simp only [main, wp_bind, wp_pure]
  iintro ⟨#Hctx, Hst, ⟨Hb, Hw, Hts, -⟩, -⟩
  ihave Hw := (whole_cores m d (outZ m d)).1 $$ Hw
  icases Hw with ⟨Hr, Hw⟩
  iapply ((K (F := F)).wp_run (D (F := F)) 𝒱 (EH := EH) (P := P m) κ d 0) $$ [Hst Hw Hr Hb Hts]
  isplitr; · iexact Hctx
  isplitl [Hst]; · iexact Hst
  isplitl [Hw]
  · rw [st_eq]
    iexact Hw
  iintro ⟨Hst, Hdn⟩
  ihave Hdn := (Entails.of_eq (dn_eq m d)) $$ Hdn
  imodintro
  isplitl [Hst]; · iexact Hst
  isplitl [Hr Hdn]
  · iapply (whole_cores m d (outY m d)).2
    isplitl [Hr] <;> iassumption
  isplitl [Hb] <;> iassumption

/-- What the arrays hold at the end. -/
def fq (d : Dev nD) (s' : Phys nD τ sig (Elt F)) : Prop := s'.mem.mem (xLoc d) = m (xLoc d) ∧ s'.mem.mem (oLoc d) = outY m d

set_option maxRecDepth 16384 in
theorem hfin (d : Dev nD) (s' : Phys nD τ sig (Elt F)) : iprop(whole m d (outY m d) ∗ SI s') ⊢ (⌜fq m d s'⌝ : sProp (RM F)) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := outY m d)) $$ [HSI Ho]
  · isplitl [HSI] <;> iassumption
  icases H with %h2
  ipureintro
  exact ⟨funext fun i => h1 i (Finset.mem_univ i), funext fun i => h2 i (Finset.mem_univ i)⟩

/-! ## The run -/

/-- Every execution ends with the input as it was, the output unpacked and the semaphores at zero. -/
def QC : PUnit × MemSt nD τ sig (Elt F) → Prop := fun r =>
  (∀ c : Dev nD, r.2.mem (xLoc c) = m (xLoc c) ∧ r.2.mem (oLoc c) = outY m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (fun d => whole m d (outY m d)) (u₀ (F := F)) (sep_elim_left.trans (hu₀ m)) (hmain m ρ) (fq m) (hfin m) (QC m) (fun _ h hz => ⟨h, hz⟩)

end Cert.Proof.Unpack

end
-- ==== Proof.Table.lean ====
/- The reference's two index tables: the row and the column of each packed position. -/
module

public import proofs.«01_k».proof.Proof.RowWp
public import proofs.«01_k».proof.Proof.Gen.ReferenceIdeal

@[expose] public section

noncomputable section

namespace Cert.Proof.Unpack

open Idealize.ShloMosaic

/-- Position `k` of the tables names an element on or above the diagonal, and it is the element packed at `k`. -/
theorem table_packs : ∀ k : Fin 8256, (Cert.ReferenceIdeal.lit0 k).toNat ≤ (Cert.ReferenceIdeal.lit1 k).toNat
    ∧ (Cert.ReferenceIdeal.lit1 k).toNat < 128
    ∧ pidx (Cert.ReferenceIdeal.lit0 k).toNat (Cert.ReferenceIdeal.lit1 k).toNat = k.val := by decide +kernel

end Cert.Proof.Unpack

end
-- ==== Proof.Scatter.lean ====
/- The reference's scatter: where an update lands, and what the scattered matrix holds. -/
module

public import proofs.«01_k».proof.Proof.Table
public import Idealize.ShloMosaic.Lib.Routing.OpsSet
public import Idealize.ShloMosaic.Lib.Routing.OpsPair
public import Idealize.ShloMosaic.Lib.IdealHost
public import Idealize.ShloMosaic.Lib.Pipeline.Value

@[expose] public section

noncomputable section

namespace Cert.Proof.Unpack

open Cert.ReferenceIdeal Cert.ReferenceIdeal.Gen
open Idealize.ShloMosaic

/-! ## The packed positions of the upper triangle are distinct -/

theorem rows_apart : ∀ r r' : Fin 128, r.val < r'.val → srN r.val + 127 < srN r'.val + r'.val := by decide +kernel

theorem pidx_symm (r j : Nat) : pidx r j = pidx j r := by
  unfold pidx
  rcases Nat.lt_trichotomy r j with h | h | h
  · rw [if_neg (by omega), if_pos h]
  · subst h; rfl
  · rw [if_pos h, if_neg (by omega)]

theorem pidx_upper {r j : Nat} (h : r ≤ j) : pidx r j = srN r + j := if_neg (by omega)

theorem pidx_inj {r j r' j' : Nat} (h : r ≤ j) (h' : r' ≤ j') (hj : j < 128) (hj' : j' < 128) (e : pidx r j = pidx r' j') :
    r = r' ∧ j = j' := by
  rw [pidx_upper h, pidx_upper h'] at e
  rcases Nat.lt_trichotomy r r' with q | q | q
  · have := rows_apart ⟨r, by omega⟩ ⟨r', by omega⟩ q
    simp only at this
    omega
  · subst q; exact ⟨rfl, by omega⟩
  · have := rows_apart ⟨r', by omega⟩ ⟨r, by omega⟩ q
    simp only at this
    omega

/-- The tables at the packed position of an upper element name that element. -/
theorem table_at {r j : Nat} (h : r ≤ j) (hj : j < 128) (hk : pidx r j < 8256) :
    (lit0 ⟨pidx r j, hk⟩).toNat = r ∧ (lit1 ⟨pidx r j, hk⟩).toNat = j := by
  obtain ⟨h1, h2, h3⟩ := table_packs ⟨pidx r j, hk⟩
  exact pidx_inj h1 h h2 hj h3

/-! ## Where an update lands -/

/-- The scatter's dimensions. -/
abbrev dims : ScatterDims S4096x128x128 S8256x2 S4096x8256 := scatter_S4096x128x128_S8256x2_S4096x8256_0_12_12_1

/-- Entry `c` of index pair `k`. -/
def pairIdx (k : Fin 8256) (c : Fin 2) : S8256x2.Idx := fun a => match a with | 0 => k | 1 => c

/-- Entry `k` of a column. -/
def colIdx (k : Fin 8256) : S8256x1.Idx := fun a => match a with | 0 => k | 1 => (0 : Fin 1)

/-- Entry `k` of a table. -/
def flatIdx (k : Fin 8256) : S8256.Idx := fun a => match a with | 0 => k

theorem lands (k : S4096x8256.Idx) (idx : IVec S8256x2 32) (i : S4096x128x128.Idx) :
    dims.resultIdx? k idx = some i ↔ (k 0).val = (i 0).val
      ∧ (idx (pairIdx (k 1) 0)).toInt = ((i 1).val : Int)
      ∧ (idx (pairIdx (k 1) 1)).toInt = ((i 2).val : Int) := by
  have s0 : dims.start k idx 0 = 0 := rfl
  have s1 : dims.start k idx 1 = (idx (pairIdx (k 1) 0)).toInt := by
    refine congrArg (fun y => (idx y).toInt) (funext fun a => Fin.ext ?_)
    fin_cases a <;> rfl
  have s2 : dims.start k idx 2 = (idx (pairIdx (k 1) 1)).toInt := by
    refine congrArg (fun y => (idx y).toInt) (funext fun a => Fin.ext ?_)
    fin_cases a <;> rfl
  have w0 : dims.window k 0 = (k 0).val := rfl
  have w1 : dims.window k 1 = 0 := rfl
  have w2 : dims.window k 2 = 0 := rfl
  rw [Routing.resultIdx?_eq_some]
  constructor
  · intro h
    have h0 := h 0; have h1 := h 1; have h2 := h 2
    rw [s0, w0] at h0; rw [s1, w1] at h1; rw [s2, w2] at h2
    exact ⟨by omega, by omega, by omega⟩
  · rintro ⟨h0, h1, h2⟩ a
    match a with
    | ⟨0, _⟩ => show dims.start k idx 0 + _ = _; rw [s0]; show 0 + ((dims.window k 0 : Nat) : Int) = _; rw [w0, h0]; exact Int.zero_add _
    | ⟨1, _⟩ => show dims.start k idx 1 + ((dims.window k 1 : Nat) : Int) = _; rw [s1, w1, h1]; exact Int.add_zero _
    | ⟨2, _⟩ => show dims.start k idx 2 + ((dims.window k 2 : Nat) : Int) = _; rw [s2, w2, h2]; exact Int.add_zero _

/-! ## The index words -/

/-- A table as the program wraps it: a negative index counts from the end; as a column. -/
def wrapped (lit : Fin 8256 → BitVec 32) : IVec S8256x1 32 :=
  broadcastInDim S8256x1 ![0] bcast_S8256_S8256x1_0
    (select (cmpi .slt (fun i => lit (S8256.rowMajor i)) (broadcastInDim S8256 ![] bcast_S_S8256 (constantI S_ 32 0#32)))
      (addi (fun i => lit (S8256.rowMajor i)) (broadcastInDim S8256 ![] bcast_S_S8256 (constantI S_ 32 128#32)))
      (fun i => lit (S8256.rowMajor i)))

theorem wrapped_apply (lit : Fin 8256 → BitVec 32) (k : Fin 8256) (h : (lit k).toNat < 128) (y : S8256x1.Idx) (hy : (y 0).val = k.val) :
    wrapped lit y = lit k := by
  unfold wrapped
  rw [broadcastInDim_apply (k := (flatIdx k)) (hk := by
    intro a
    have := Fin.eq_zero a; subst this
    rw [if_neg (by decide)]; exact hy.symm)]
  have e : S8256.rowMajor (flatIdx k) = k := Fin.ext (Shape.rowMajor_val_one _)
  show Scalar.select (IntOp.cmpi .slt (lit (S8256.rowMajor (flatIdx k))) 0#32) _ (lit (S8256.rowMajor (flatIdx k))) = _
  rw [e]
  exact Routing.wrap_of_lt _ _ (by omega)

/-- The index pairs: a table of two columns. -/
def words : IVec S8256x2 32 :=
  concatenate S8256x2 1 [⟨S8256x1, wrapped lit0⟩, ⟨S8256x1, wrapped lit1⟩] concatenates_S8256x1_S8256x1_S8256x2_d1

theorem words_row (k : Fin 8256) : words (pairIdx k 0) = lit0 k := by
  obtain ⟨h1, h2, _⟩ := table_packs k
  unfold words
  rw [concatenate_pair_apply_left (t := S8256x2) (s₁ := S8256x1) (s₂ := S8256x1) (a := 1) (j := pairIdx k 0) (hr := rfl) (i := colIdx k) (hi := by
    intro b; fin_cases b <;> rfl)]
  exact wrapped_apply _ _ (by omega) _ rfl

theorem words_col (k : Fin 8256) : words (pairIdx k 1) = lit1 k := by
  obtain ⟨_, h2, _⟩ := table_packs k
  unfold words
  rw [concatenate_pair_apply_right (t := S8256x2) (s₁ := S8256x1) (s₂ := S8256x1) (a := 1) (j := pairIdx k 1) (hr := rfl) (hr₂ := rfl) (i := colIdx k) (hi := by
    intro b hb; fin_cases b
    · rfl
    · exact (hb rfl).elim) (ha := rfl)]
  exact wrapped_apply _ _ h2 _ rfl

/-! ## The scattered matrix -/

theorem toInt_small {x : BitVec 32} (h : x.toNat < 128) : x.toInt = (x.toNat : Int) := by
  rw [BitVec.toInt_eq_toNat_cond, if_pos (by omega)]

theorem lands_words (k : S4096x8256.Idx) (i : S4096x128x128.Idx) (q : Fin 8256) (hq : q = k 1) :
    dims.resultIdx? k words = some i ↔ (k 0).val = (i 0).val ∧ (lit0 q).toNat = (i 1).val ∧ (lit1 q).toNat = (i 2).val := by
  have h : dims.resultIdx? k words = some i ↔ (k 0).val = (i 0).val
      ∧ (words (pairIdx q 0)).toInt = ((i 1).val : Int) ∧ (words (pairIdx q 1)).toInt = ((i 2).val : Int) := by
    subst hq; exact lands k words i
  obtain ⟨h1, h2, _⟩ := table_packs q
  rw [words_row, words_col, toInt_small (by omega), toInt_small h2] at h
  rw [h]
  omega

variable {F : FTy → Type} [FloatOps F]

/-- Element `(b, r, j)` of the upper triangle. -/
def packed (X : S4096x8256.Idx → F .f32) (i : S4096x128x128.Idx) : F .f32 :=
  X (fun a => match a with
    | 0 => (⟨(i 0).val, (i 0).isLt⟩ : Fin 4096)
    | 1 => (⟨pidx (i 1).val (i 2).val, pidx_lt (i 1).isLt (i 2).isLt⟩ : Fin 8256))

theorem scatter_upper (x0 : S4096x128x128.Idx → F .f32) (X : S4096x8256.Idx → F .f32) (i : S4096x128x128.Idx) (h : (i 1).val ≤ (i 2).val) :
    Host.scatter dims (fun _ b => b) x0 words X i = packed X i := by
  have hj : (i 2).val < 128 := (i 2).isLt
  refine Routing.scatter_set_hit dims x0 words X i _ (fun k hk => ?_) (fun a => match a with
    | 0 => (⟨(i 0).val, (i 0).isLt⟩ : Fin 4096)
    | 1 => (⟨pidx (i 1).val (i 2).val, pidx_lt (i 1).isLt (i 2).isLt⟩ : Fin 8256)) ?_
  · obtain ⟨h0, h1, h2⟩ := (lands_words k i (k 1) rfl).1 hk
    obtain ⟨_, _, h3⟩ := table_packs (k 1)
    rw [h1, h2] at h3
    unfold packed
    refine congrArg X (funext fun a => Fin.ext ?_)
    match a with
    | ⟨0, _⟩ => exact h0
    | ⟨1, _⟩ => exact h3.symm
  · exact (lands_words _ i _ rfl).2 ⟨rfl, table_at h hj _⟩

theorem scatter_lower (x0 : S4096x128x128.Idx → F .f32) (X : S4096x8256.Idx → F .f32) (i : S4096x128x128.Idx) (h : (i 2).val < (i 1).val) :
    Host.scatter dims (fun _ b => b) x0 words X i = x0 i := by
  refine Routing.scatter_set_miss dims x0 words X i fun k hk => ?_
  obtain ⟨_, h1, h2⟩ := (lands_words k i (k 1) rfl).1 hk
  obtain ⟨h3, _, _⟩ := table_packs (k 1)
  omega

end Cert.Proof.Unpack

end
-- ==== Proof.RefValue.lean ====
/- The reference's result, element by element: the same matrices the kernel leaves. -/
module

public import proofs.«01_k».proof.Proof.Scatter
public import proofs.«01_k».proof.Proof.Copies
public import proofs.«01_k».proof.Proof.Gen.ReferenceIdeal.Run

@[expose] public section

noncomputable section

namespace Cert.Proof.Unpack

open Cert.ReferenceIdeal Cert.ReferenceIdeal.Gen
open Idealize.ShloMosaic

/-! ## Extended reals -/

theorem ofBits_zero : (Ideal.ofBits .f32 0x00000000#32 : EReal) = 0 := by simp [Ideal.ofBits, Ideal.ieee]

theorem ofBits_two : (Ideal.ofBits .f32 0x40000000#32 : EReal) = ((2 : ℝ) : EReal) := by
  simp [Ideal.ofBits, Ideal.ieee, -EReal.coe_mul]; norm_num

/-- Half of a doubled extended real is that extended real. -/
theorem half_double (x : EReal) : Ideal.div (x + x) ((2 : ℝ) : EReal) = x := by
  have h2 : ((2 : ℝ) : EReal) ≠ 0 := by exact_mod_cast (two_ne_zero : (2 : ℝ) ≠ 0)
  have hp : (0 : EReal) < (((2 : ℝ)⁻¹ : ℝ) : EReal) := by exact_mod_cast (by norm_num : (0 : ℝ) < (2 : ℝ)⁻¹)
  unfold Ideal.div
  rw [if_neg h2, ← EReal.coe_inv]
  induction x with
  | bot => rw [EReal.bot_add]; exact EReal.bot_mul_of_pos hp
  | top => rw [EReal.top_add_top]; exact EReal.top_mul_of_pos hp
  | coe r => rw [← EReal.coe_add, ← EReal.coe_mul]; congr 1; ring

/-! ## The scattered matrix and its transpose -/

/-- The scattered upper triangles, zero below the diagonal. -/
def upper (X : S4096x8256.Idx → Ideal .f32) : S4096x128x128.Idx → Ideal .f32 :=
  Host.scatter dims (fun _ b => b) (broadcastInDim S4096x128x128 ![] bcast_S_S4096x128x128 (constant S_ .f32 0x00000000#32)) words X

theorem upper_above (X : S4096x8256.Idx → Ideal .f32) (i : S4096x128x128.Idx) (h : (i 1).val ≤ (i 2).val) : upper X i = packed X i :=
  scatter_upper _ X i h

theorem upper_below (X : S4096x8256.Idx → Ideal .f32) (i : S4096x128x128.Idx) (h : (i 2).val < (i 1).val) : upper X i = (0 : EReal) :=
  (scatter_lower _ X i h).trans ofBits_zero

/-- The mirrored index. -/
def mirror (i : S4096x128x128.Idx) : S4096x128x128.Idx := fun a => match a with
  | 0 => (i 0 : Fin 4096)
  | 1 => (i 2 : Fin 128)
  | 2 => (i 1 : Fin 128)

theorem packed_mirror (X : S4096x8256.Idx → Ideal .f32) (i : S4096x128x128.Idx) : packed X (mirror i) = packed X i := by
  unfold packed
  refine congrArg X (funext fun a => Fin.ext ?_)
  match a with
  | ⟨0, _⟩ => rfl
  | ⟨1, _⟩ => exact pidx_symm (i 2).val (i 1).val

theorem transpose_mirror (f : S4096x128x128.Idx → Ideal .f32) (i : S4096x128x128.Idx) :
    transpose S4096x128x128 [0, 2, 1] f transposes_S4096x128x128_S4096x128x128_0_2_1 i = f (mirror i) :=
  transpose_apply _ f _ i (mirror i) (by intro b; fin_cases b <;> rfl)

/-- The sum of matrices and their transposes. -/
def plusT (f : S4096x128x128.Idx → Ideal .f32) : S4096x128x128.Idx → Ideal .f32 :=
  addf f (transpose S4096x128x128 [0, 2, 1] f transposes_S4096x128x128_S4096x128x128_0_2_1)

theorem plusT_apply (f : S4096x128x128.Idx → Ideal .f32) (i : S4096x128x128.Idx) : plusT f i = (f i + f (mirror i) : EReal) := by
  rw [← transpose_mirror f i]; rfl

/-- The two triangles' sum: the packed element, doubled on the diagonal. -/
def both (X : S4096x8256.Idx → Ideal .f32) : S4096x128x128.Idx → Ideal .f32 := plusT (upper X)

theorem both_apply (X : S4096x8256.Idx → Ideal .f32) (i : S4096x128x128.Idx) : both X i = (upper X i + upper X (mirror i) : EReal) :=
  plusT_apply (upper X) i

theorem both_off (X : S4096x8256.Idx → Ideal .f32) (i : S4096x128x128.Idx) (h : (i 1).val ≠ (i 2).val) : both X i = packed X i := by
  rw [both_apply]
  rcases Nat.lt_or_gt_of_ne h with q | q
  · rw [upper_above X i q.le, upper_below X (mirror i) q]
    exact add_zero _
  · rw [upper_below X i q, upper_above X (mirror i) (Nat.le_of_lt q), packed_mirror]
    exact zero_add _

theorem both_on (X : S4096x8256.Idx → Ideal .f32) (i : S4096x128x128.Idx) (h : (i 1).val = (i 2).val) :
    both X i = (packed X i + packed X i : EReal) := by
  rw [both_apply, upper_above X i h.le, upper_above X (mirror i) h.ge, packed_mirror]

/-! ## The diagonal -/

/-- The mask of the diagonal. -/
def diag : IVec S4096x128x128 1 :=
  broadcastInDim S4096x128x128 ![1, 2] bcast_S128x128_S4096x128x128_1_2
    (cmpi .eq (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))

theorem diag_apply (i : S4096x128x128.Idx) : diag i = IntOp.cmpi .eq (BitVec.ofNat 32 (i 1).val) (BitVec.ofNat 32 (i 2).val) := rfl

theorem diag_select (i : S4096x128x128.Idx) (a b : EReal) : Scalar.select (diag i) a b = if (i 1).val = (i 2).val then a else b := by
  have h1 : (i 1).val < 128 := (i 1).isLt
  have h2 : (i 2).val < 128 := (i 2).isLt
  rw [diag_apply]
  by_cases h : (i 1).val = (i 2).val
  · rw [if_pos h, h]
    simp [Scalar.select, IntOp.cmpi]
  · rw [if_neg h]
    have e : BitVec.ofNat 32 (i 1).val ≠ BitVec.ofNat 32 (i 2).val := fun q => h (by
      have := congrArg BitVec.toNat q
      rw [BitVec.toNat_ofNat, BitVec.toNat_ofNat] at this
      omega)
    have e' : (BitVec.ofNat 32 (i 1).val == BitVec.ofNat 32 (i 2).val) = false := beq_false_of_ne e
    show Scalar.select (BitVec.ofBool (BitVec.ofNat 32 (i 1).val == BitVec.ofNat 32 (i 2).val)) a b = b
    rw [e']; rfl

/-! ## The result -/

theorem res_eq (m : (ℓ : Loc nD τ sig) → Buf (Elt Ideal) ℓ) (c : Dev nD) :
    Cert.ReferenceIdeal.Value.res_main_v25 (F := Ideal) m c
      = select diag (Host.divf (both (m ((c.tc : Thread nD τ).loc main_arg0)))
          (broadcastInDim S4096x128x128 ![] bcast_S_S4096x128x128 (constant S_ .f32 0x40000000#32)))
        (both (m ((c.tc : Thread nD τ).loc main_arg0))) := rfl

theorem unpacked_packed (X : S4096x8256.Idx → Ideal .f32) (i : S4096x128x128.Idx) : unpacked (F := Ideal) X i = packed X i := by
  unfold unpacked unpk sample packed
  refine congrArg X (funext fun a => Fin.ext ?_)
  match a with
  | ⟨0, _⟩ => exact Nat.mod_eq_of_lt (i 0).isLt
  | ⟨1, _⟩ => exact Nat.mod_eq_of_lt (pidx_lt (i 1).isLt (i 2).isLt)

/-- The reference's result is the unpacked matrices. -/
theorem res_unpacked (m : (ℓ : Loc nD τ sig) → Buf (Elt Ideal) ℓ) (c : Dev nD) :
    Cert.ReferenceIdeal.Value.res_main_v25 (F := Ideal) m c = unpacked (F := Ideal) (m ((c.tc : Thread nD τ).loc main_arg0)) := by
  rw [res_eq]
  generalize hX : (m ((c.tc : Thread nD τ).loc main_arg0) : S4096x8256.Idx → Ideal .f32) = X
  funext i
  refine Eq.trans ?_ (unpacked_packed X i).symm
  show Scalar.select (diag i) (Ideal.div (both X i) (Ideal.ofBits .f32 0x40000000#32)) (both X i) = packed (F := Ideal) X i
  refine (diag_select i _ _).trans ?_
  by_cases h : (i 1).val = (i 2).val
  · rw [if_pos h, both_on X i h, ofBits_two]
    exact half_double _
  · rw [if_neg h]
    exact both_off X i h

end Cert.Proof.Unpack

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem

/-- The printed kernel's frame: its run is the ideal one's, read at machine floats. -/
theorem frame_kernel : Cert.quiescent_Kernel := fun m ρ _ =>
  (θ_run Cert.KernelIdeal.defs _ _).mono (fun _ h => ⟨fun c => (h.1 c).1, h.2⟩) (Unpack.run_main (F := Bits) m ρ)

/-- The ideal kernel's frame. -/
theorem frame_ideal : Cert.quiescent_KernelIdeal := fun m ρ _ =>
  (θ_run Cert.KernelIdeal.defs _ _).mono (fun _ h => ⟨fun c => (h.1 c).1, h.2⟩) (Unpack.run_main (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel and the reference leave the same matrices. -/
theorem same_value : Cert.algebraic_KernelIdeal_ReferenceIdeal := fun m g m' g' _ hin =>
  ⟨fun c => Unpack.outY (F := Ideal) m c,
    (θ_run Cert.KernelIdeal.defs _ _).mono (fun _ h c => ⟨(h.1 c).2, (h.1 c).1⟩) (Unpack.run_main (F := Ideal) m g),
    (θ_run Cert.ReferenceIdeal.defs _ _).mono
      (fun _ h c => ⟨(h c).1.trans ((Unpack.res_unpacked m' c).trans (congrArg (fun X => Unpack.unpacked (F := Ideal) X) (hin c))), (h c).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, same_value⟩

end Cert.Proof

end
